-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v12_3)) (v4 : (c : Dev Cert.KernelIdeal.nD) → Buf (Elt Ideal) ((c.tc : Thread Cert.KernelIdeal.nD Cert.KernelIdeal.τ).loc Cert.KernelIdeal.main_v12_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_v12_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_v0) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1x1x512 : Shape := ⟨3, ![1, 1, 512]⟩
abbrev S50000 : Shape := ⟨1, ![50000]⟩
abbrev S1x1x1024 : Shape := ⟨3, ![1, 1, 1024]⟩
abbrev S2048x2048 : Shape := ⟨2, ![2048, 2048]⟩
abbrev S1x2048 : Shape := ⟨2, ![1, 2048]⟩
abbrev S4096x512 : Shape := ⟨2, ![4096, 512]⟩
abbrev S4096x1024 : Shape := ⟨2, ![4096, 1024]⟩
abbrev S4096 : Shape := ⟨1, ![4096]⟩
abbrev S1024x2048 : Shape := ⟨2, ![1024, 2048]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S1024x3072 : Shape := ⟨2, ![1024, 3072]⟩
abbrev S50000x1024 : Shape := ⟨2, ![50000, 1024]⟩
abbrev S_ : Shape := ⟨0, ![]⟩
abbrev S1x1 : Shape := ⟨2, ![1, 1]⟩

class Facts : Prop where
  bcast_S_S1x1024 : S_.BroadcastsInDim S1x1024 (![] : Fin 0 → Fin S1x1024.rank)
  bcast_S_S1 : S_.BroadcastsInDim S1 (![] : Fin 0 → Fin S1.rank)
  bcast_S1_S1x1_1 : S1.BroadcastsInDim S1x1 (![1] : Fin 1 → Fin S1x1.rank)
  bcast_S1x1_S1x1024_0_1 : S1x1.BroadcastsInDim S1x1024 (![0, 1] : Fin 2 → Fin S1x1024.rank)

variable [Facts]

def fn {F : FTy → Type} [FloatOps F] (main_arg0 : FVec F S1x1x512 .f32) (main_arg1 : IVec S50000 32) (main_arg2 : FVec F S1x1x1024 .f32) (main_arg3 : FVec F S1x1x1024 .f32) (main_arg4 : FVec F S2048x2048 .f32) (main_arg5 : FVec F S1x2048 .f32) (main_arg6 : FVec F S1x2048 .f32) (main_arg7 : FVec F S4096x512 .f32) (main_arg8 : FVec F S4096x1024 .f32) (main_arg9 : FVec F S4096 .f32) (main_arg10 : FVec F S4096 .f32) (main_arg11 : FVec F S1024x2048 .f32) (main_arg12 : FVec F S1024 .f32) (main_arg13 : FVec F S1024x1024 .f32) (main_arg14 : FVec F S1024 .f32) (main_arg15 : FVec F S1x1024 .f32) (main_arg16 : FVec F S1 .f32) (main_arg17 : FVec F S1024x3072 .f32) (main_arg18 : FVec F S1024 .f32) (main_arg19 : FVec F S50000x1024 .f32) (main_arg20 : FVec F S50000 .f32) : IVec S1x1024 1 :=
  let main_v0 : FVec F S1x1024 .f32 := Host.absf main_arg15
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1 .f32 := Host.absf main_arg16
  let main_cst_0 : FVec F S_ .f32 := constant S_ .f32 0x7F800000#32
  let main_v4 : FVec F S1 .f32 := broadcastInDim S1 ![] bcast_S_S1 main_cst_0
  let main_v5 : IVec S1 1 := cmpf .olt main_v3 main_v4
  let main_v6 : IVec S1x1 1 := broadcastInDim S1x1 ![1] bcast_S1_S1x1_1 main_v5
  let main_v7 : IVec S1x1024 1 := broadcastInDim S1x1024 ![0, 1] bcast_S1x1_S1x1024_0_1 main_v6
  let main_v8 : IVec S1x1024 1 := andi main_v2 main_v7
  main_v8
-- ==== Kernel.lean ====
abbrev S1x1x512 : Shape := ⟨3, ![1, 1, 512]⟩
abbrev S50000 : Shape := ⟨1, ![50000]⟩
abbrev S1x1x1024 : Shape := ⟨3, ![1, 1, 1024]⟩
abbrev S2048x2048 : Shape := ⟨2, ![2048, 2048]⟩
abbrev S1x2048 : Shape := ⟨2, ![1, 2048]⟩
abbrev S4096x512 : Shape := ⟨2, ![4096, 512]⟩
abbrev S4096x1024 : Shape := ⟨2, ![4096, 1024]⟩
abbrev S4096 : Shape := ⟨1, ![4096]⟩
abbrev S1024x2048 : Shape := ⟨2, ![1024, 2048]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S1024x3072 : Shape := ⟨2, ![1024, 3072]⟩
abbrev S50000x1024 : Shape := ⟨2, ![50000, 1024]⟩
abbrev S1x512 : Shape := ⟨2, ![1, 512]⟩
abbrev S1x50000 : Shape := ⟨2, ![1, 50000]⟩
abbrev S_ : Shape := ⟨0, ![]⟩
abbrev S1x50688 : Shape := ⟨2, ![1, 50688]⟩
abbrev S1x4096 : Shape := ⟨2, ![1, 4096]⟩
abbrev S1x1 : Shape := ⟨2, ![1, 1]⟩
abbrev S2 : Shape := ⟨1, ![2]⟩
abbrev S3x512x512 : Shape := ⟨3, ![3, 512, 512]⟩
abbrev S3x512x1024 : Shape := ⟨3, ![3, 512, 1024]⟩
abbrev S3x256x2048 : Shape := ⟨3, ![3, 256, 2048]⟩
abbrev S3x256x3072 : Shape := ⟨3, ![3, 256, 3072]⟩
abbrev S3x1536x1024 : Shape := ⟨3, ![3, 1536, 1024]⟩
abbrev S3 : Shape := ⟨1, ![3]⟩
abbrev S1x512x512 : Shape := ⟨3, ![1, 512, 512]⟩
abbrev S512x512 : Shape := ⟨2, ![512, 512]⟩
abbrev S1x512x1024 : Shape := ⟨3, ![1, 512, 1024]⟩
abbrev S512x1024 : Shape := ⟨2, ![512, 1024]⟩
abbrev S1x256x2048 : Shape := ⟨3, ![1, 256, 2048]⟩
abbrev S256x2048 : Shape := ⟨2, ![256, 2048]⟩
abbrev S1x256x3072 : Shape := ⟨3, ![1, 256, 3072]⟩
abbrev S256x3072 : Shape := ⟨2, ![256, 3072]⟩
abbrev S256x1024 : Shape := ⟨2, ![256, 1024]⟩
abbrev S1x256 : Shape := ⟨2, ![1, 256]⟩
abbrev S1x1x256 : Shape := ⟨3, ![1, 1, 256]⟩
abbrev S1x1x1 : Shape := ⟨3, ![1, 1, 1]⟩
abbrev S1x1536x1024 : Shape := ⟨3, ![1, 1536, 1024]⟩
abbrev S1536x1024 : Shape := ⟨2, ![1536, 1024]⟩
abbrev S1x848x1024 : Shape := ⟨3, ![1, 848, 1024]⟩
abbrev S848x1024 : Shape := ⟨2, ![848, 1024]⟩
abbrev S1x1536 : Shape := ⟨2, ![1, 1536]⟩
abbrev S1x1x50688 : Shape := ⟨3, ![1, 1, 50688]⟩

abbrev nBuf : Space → Nat
  | .hbm => 42
  | .vmem => 30
  | .smem => 1
  | _ => 0

abbrev bufTy : (tb : Table) → Fin (tcTables nBuf tb) → BufTy
  | .hbm, ⟨0, _⟩ => ⟨S1x1x512, .f32⟩
  | .hbm, ⟨1, _⟩ => ⟨S50000, .i32⟩
  | .hbm, ⟨2, _⟩ => ⟨S1x1x1024, .f32⟩
  | .hbm, ⟨3, _⟩ => ⟨S1x1x1024, .f32⟩
  | .hbm, ⟨4, _⟩ => ⟨S2048x2048, .f32⟩
  | .hbm, ⟨5, _⟩ => ⟨S1x2048, .f32⟩
  | .hbm, ⟨6, _⟩ => ⟨S1x2048, .f32⟩
  | .hbm, ⟨7, _⟩ => ⟨S4096x512, .f32⟩
  | .hbm, ⟨8, _⟩ => ⟨S4096x1024, .f32⟩
  | .hbm, ⟨9, _⟩ => ⟨S4096, .f32⟩
  | .hbm, ⟨10, _⟩ => ⟨S4096, .f32⟩
  | .hbm, ⟨11, _⟩ => ⟨S1024x2048, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1x1024, .f32⟩
  | .hbm, ⟨16, _⟩ => ⟨S1, .f32⟩
  | .hbm, ⟨17, _⟩ => ⟨S1024x3072, .f32⟩
  | .hbm, ⟨18, _⟩ => ⟨S1024, .f32⟩
  | .hbm, ⟨19, _⟩ => ⟨S50000x1024, .f32⟩
  | .hbm, ⟨20, _⟩ => ⟨S50000, .f32⟩
  | .hbm, ⟨21, _⟩ => ⟨S1x512, .f32⟩
  | .hbm, ⟨22, _⟩ => ⟨S1x1024, .f32⟩
  | .hbm, ⟨23, _⟩ => ⟨S1x1024, .f32⟩
  | .hbm, ⟨24, _⟩ => ⟨S1x50000, .f32⟩
  | .hbm, ⟨25, _⟩ => ⟨S_, .i32⟩
  | .hbm, ⟨26, _⟩ => ⟨S_, .f32⟩
  | .hbm, ⟨27, _⟩ => ⟨S1x50688, .f32⟩
  | .hbm, ⟨28, _⟩ => ⟨S4096, .f32⟩
  | .hbm, ⟨29, _⟩ => ⟨S1x4096, .f32⟩
  | .hbm, ⟨30, _⟩ => ⟨S1024x2048, .bf16⟩
  | .hbm, ⟨31, _⟩ => ⟨S1024, .f32⟩
  | .hbm, ⟨32, _⟩ => ⟨S1x1024, .f32⟩
  | .hbm, ⟨33, _⟩ => ⟨S1x1, .f32⟩
  | .hbm, ⟨34, _⟩ => ⟨S1x1024, .f32⟩
  | .hbm, ⟨35, _⟩ => ⟨S1x50000, .f32⟩
  | .hbm, ⟨36, _⟩ => ⟨S1x1024, .f32⟩
  | .hbm, ⟨37, _⟩ => ⟨S1x1024, .f32⟩
  | .hbm, ⟨38, _⟩ => ⟨S1x2048, .f32⟩
  | .hbm, ⟨39, _⟩ => ⟨S1x2048, .f32⟩
  | .hbm, ⟨40, _⟩ => ⟨S1x1x1024, .f32⟩
  | .hbm, ⟨41, _⟩ => ⟨S1x1x1024, .f32⟩
  | .local _ .vmem, ⟨0, _⟩ => ⟨S1x512, .f32⟩
  | .local _ .vmem, ⟨1, _⟩ => ⟨S1x1024, .f32⟩
  | .local _ .vmem, ⟨2, _⟩ => ⟨S1x1024, .f32⟩
  | .local _ .vmem, ⟨3, _⟩ => ⟨S1x2048, .f32⟩
  | .local _ .vmem, ⟨4, _⟩ => ⟨S1x2048, .f32⟩
  | .local _ .vmem, ⟨5, _⟩ => ⟨S1x4096, .f32⟩
  | .local _ .vmem, ⟨6, _⟩ => ⟨S1024x2048, .bf16⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1x1, .f32⟩
  | .local _ .vmem, ⟨11, _⟩ => ⟨S1x1024, .f32⟩
  | .local _ .vmem, ⟨12, _⟩ => ⟨S1x50688, .f32⟩
  | .local _ .vmem, ⟨13, _⟩ => ⟨S1x50000, .f32⟩
  | .local _ .vmem, ⟨14, _⟩ => ⟨S1x1024, .f32⟩
  | .local _ .vmem, ⟨15, _⟩ => ⟨S1x1024, .f32⟩
  | .local _ .vmem, ⟨16, _⟩ => ⟨S1x2048, .f32⟩
  | .local _ .vmem, ⟨17, _⟩ => ⟨S1x2048, .f32⟩
  | .local _ .vmem, ⟨18, _⟩ => ⟨S1x4096, .f32⟩
  | .local _ .vmem, ⟨19, _⟩ => ⟨S1x1024, .f32⟩
  | .local _ .vmem, ⟨20, _⟩ => ⟨S1x1024, .f32⟩
  | .local _ .vmem, ⟨21, _⟩ => ⟨S1x2048, .f32⟩
  | .local _ .vmem, ⟨22, _⟩ => ⟨S1x2048, .f32⟩
  | .local _ .vmem, ⟨23, _⟩ => ⟨S1x1024, .f32⟩
  | .local _ .vmem, ⟨24, _⟩ => ⟨S1x50688, .f32⟩
  | .local _ .vmem, ⟨25, _⟩ => ⟨S3x512x512, .f32⟩
  | .local _ .vmem, ⟨26, _⟩ => ⟨S3x512x1024, .f32⟩
  | .local _ .vmem, ⟨27, _⟩ => ⟨S3x256x2048, .f32⟩
  | .local _ .vmem, ⟨28, _⟩ => ⟨S3x256x3072, .f32⟩
  | .local _ .vmem, ⟨29, _⟩ => ⟨S3x1536x1024, .f32⟩
  | .local _ .smem, ⟨0, _⟩ => ⟨S2, .f32⟩
  | _, _ => ⟨S1x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_call0_v0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12_0 : Ref sig .tc := ⟨.hbm, 35, rfl⟩
abbrev main_v12_1 : Ref sig .tc := ⟨.hbm, 36, rfl⟩
abbrev main_v12_2 : Ref sig .tc := ⟨.hbm, 37, rfl⟩
abbrev main_v12_3 : Ref sig .tc := ⟨.hbm, 38, rfl⟩
abbrev main_v12_4 : Ref sig .tc := ⟨.hbm, 39, rfl⟩
abbrev main_v13 : Ref sig .tc := ⟨.hbm, 40, rfl⟩
abbrev main_v14 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch8 : Ref sig .tc := ⟨.vmem, 25, rfl⟩
abbrev cc0_scratch9 : Ref sig .tc := ⟨.vmem, 26, rfl⟩
abbrev cc0_scratch10 : Ref sig .tc := ⟨.vmem, 27, rfl⟩
abbrev cc0_scratch11 : Ref sig .tc := ⟨.vmem, 28, rfl⟩
abbrev cc0_scratch12 : Ref sig .tc := ⟨.vmem, 29, rfl⟩
abbrev cc0_scratch7 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![54], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c0_i32_9 : BitVec 32 := 0#32
  let v25 : BitVec 1 := Scalar.cmpi .eq arg0 c0_i32_9
  let v26 : BitVec 32 := Scalar.extui v25
  let c0_i32_10 : BitVec 32 := 0#32
  let v27 : BitVec 1 := Scalar.cmpi .ne v26 c0_i32_10
  v27

def k0_off1 (c0_i32_41 : BitVec 32) : Fin 1 → Nat :=
  let c3_i32_42 : BitVec 32 := 3#32
  let v79 : BitVec 32 := Scalar.remsi c0_i32_41 c3_i32_42
  ![v79.toNat]
def k0_off2 (c0_i32_41 : BitVec 32) : Fin 3 → Nat :=
  let c3_i32_42 : BitVec 32 := 3#32
  let v79 : BitVec 32 := Scalar.remsi c0_i32_41 c3_i32_42
  let c0_i32_45 : BitVec 32 := 0#32
  let c0_i32_46 : BitVec 32 := 0#32
  ![v79.toNat, 0, 0]
def k0_off3 (c0_i32_43 : BitVec 32) : Fin 2 → Nat :=
  let c512_i32_44 : BitVec 32 := 512#32
  let v80 : BitVec 32 := Scalar.muli c0_i32_43 c512_i32_44
  let c0_i32_47 : BitVec 32 := 0#32
  ![v80.toNat, 0]
def k0_off4 (c0_i32_48 : BitVec 32) : Fin 3 → Nat :=
  let c3_i32_49 : BitVec 32 := 3#32
  let v86 : BitVec 32 := Scalar.remsi c0_i32_48 c3_i32_49
  let c0_i32_52 : BitVec 32 := 0#32
  let c0_i32_53 : BitVec 32 := 0#32
  ![v86.toNat, 0, 0]
def k0_off5 (c0_i32_50 : BitVec 32) : Fin 2 → Nat :=
  let c512_i32_51 : BitVec 32 := 512#32
  let v87 : BitVec 32 := Scalar.muli c0_i32_50 c512_i32_51
  let c0_i32_54 : BitVec 32 := 0#32
  ![v87.toNat, 0]
def k0_cond3 (i : grid0.Coords) : BitVec 1 :=
  let arg0 : BitVec 32 := BitVec.ofNat 32 (i 0).val
  let c1_i32 : BitVec 32 := 1#32
  let v28 : BitVec 1 := Scalar.cmpi .sge arg0 c1_i32
  let c2_i32 : BitVec 32 := 2#32
  let v29 : BitVec 32 := Scalar.addi arg0 c2_i32
  let c8_i32_11 : BitVec 32 := 8#32
  let v30 : BitVec 1 := Scalar.cmpi .slt v29 c8_i32_11
  let v31 : BitVec 1 := Scalar.andi v28 v30
  let v32 : BitVec 32 := Scalar.extui v31
  let c0_i32_12 : BitVec 32 := 0#32
  let v33 : BitVec 1 := Scalar.cmpi .ne v32 c0_i32_12
  v33

def k0_off6 (i : grid0.Coords) : Fin 1 → Nat :=
  let arg0 : BitVec 32 := BitVec.ofNat 32 (i 0).val
  let c2_i32_35 : BitVec 32 := 2#32
  let v75 : BitVec 32 := Scalar.addi arg0 c2_i32_35
  let c3_i32_36 : BitVec 32 := 3#32
  let v76 : BitVec 32 := Scalar.remsi v75 c3_i32_36
  ![v76.toNat]
def k0_off7 (i : grid0.Coords) : Fin 3 → Nat :=
  let arg0 : BitVec 32 := BitVec.ofNat 32 (i 0).val
  let c2_i32_35 : BitVec 32 := 2#32
  let v75 : BitVec 32 := Scalar.addi arg0 c2_i32_35
  let c3_i32_36 : BitVec 32 := 3#32
  let v76 : BitVec 32 := Scalar.remsi v75 c3_i32_36
  let c0_i32_38 : BitVec 32 := 0#32
  let c0_i32_39 : BitVec 32 := 0#32
  ![v76.toNat, 0, 0]
def k0_off8 (i : grid0.Coords) : Fin 2 → Nat :=
  let arg0 : BitVec 32 := BitVec.ofNat 32 (i 0).val
  let c2_i32_35 : BitVec 32 := 2#32
  let v75 : BitVec 32 := Scalar.addi arg0 c2_i32_35
  let c512_i32_37 : BitVec 32 := 512#32
  let v77 : BitVec 32 := Scalar.muli v75 c512_i32_37
  let c0_i32_40 : BitVec 32 := 0#32
  ![v77.toNat, 0]
def k0_off9 (i : grid0.Coords) : Fin 3 → Nat :=
  let arg0 : BitVec 32 := BitVec.ofNat 32 (i 0).val
  let c2_i32_41 : BitVec 32 := 2#32
  let v83 : BitVec 32 := Scalar.addi arg0 c2_i32_41
  let c3_i32_42 : BitVec 32 := 3#32
  let v84 : BitVec 32 := Scalar.remsi v83 c3_i32_42
  let c0_i32_44 : BitVec 32 := 0#32
  let c0_i32_45 : BitVec 32 := 0#32
  ![v84.toNat, 0, 0]
def k0_off10 (i : grid0.Coords) : Fin 2 → Nat :=
  let arg0 : BitVec 32 := BitVec.ofNat 32 (i 0).val
  let c2_i32_41 : BitVec 32 := 2#32
  let v83 : BitVec 32 := Scalar.addi arg0 c2_i32_41
  let c512_i32_43 : BitVec 32 := 512#32
  let v85 : BitVec 32 := Scalar.muli v83 c512_i32_43
  let c0_i32_46 : BitVec 32 := 0#32
  ![v85.toNat, 0]
def k0_cond4 (i : grid0.Coords) : BitVec 1 :=
  let arg0 : BitVec 32 := BitVec.ofNat 32 (i 0).val
  let c6_i32 : BitVec 32 := 6#32
  let v34 : BitVec 1 := Scalar.cmpi .sge arg0 c6_i32
  let v35 : BitVec 32 := Scalar.extui v34
  let c0_i32_13 : BitVec 32 := 0#32
  let v36 : BitVec 1 := Scalar.cmpi .ne v35 c0_i32_13
  v36

def k0_off11 (i : grid0.Coords) : Fin 1 → Nat :=
  let arg0 : BitVec 32 := BitVec.ofNat 32 (i 0).val
  let c6_i32_35 : BitVec 32 := 6#32
  let v75 : BitVec 32 := Scalar.subi arg0 c6_i32_35
  let c3_i32_36 : BitVec 32 := 3#32
  let v76 : BitVec 32 := Scalar.remsi v75 c3_i32_36
  ![v76.toNat]
def k0_off12 (i : grid0.Coords) : Fin 3 → Nat :=
  let arg0 : BitVec 32 := BitVec.ofNat 32 (i 0).val
  let c6_i32_35 : BitVec 32 := 6#32
  let v75 : BitVec 32 := Scalar.subi arg0 c6_i32_35
  let c3_i32_36 : BitVec 32 := 3#32
  let v76 : BitVec 32 := Scalar.remsi v75 c3_i32_36
  let c0_i32_37 : BitVec 32 := 0#32
  let c0_i32_38 : BitVec 32 := 0#32
  ![v76.toNat, 0, 0]
def k0_off13 (i : grid0.Coords) : Fin 2 → Nat :=
  let arg0 : BitVec 32 := BitVec.ofNat 32 (i 0).val
  let c6_i32_35 : BitVec 32 := 6#32
  let v75 : BitVec 32 := Scalar.subi arg0 c6_i32_35
  let c256_i32 : BitVec 32 := 256#32
  let v77 : BitVec 32 := Scalar.muli v75 c256_i32
  let c0_i32_39 : BitVec 32 := 0#32
  ![v77.toNat, 0]
def k0_off14 (i : grid0.Coords) : Fin 1 → Nat :=
  let arg0 : BitVec 32 := BitVec.ofNat 32 (i 0).val
  let c3_i32 : BitVec 32 := 3#32
  let v37 : BitVec 32 := Scalar.remsi arg0 c3_i32
  ![v37.toNat]
def k0_off15 (i : grid0.Coords) : Fin 3 → Nat :=
  let arg0 : BitVec 32 := BitVec.ofNat 32 (i 0).val
  let c3_i32 : BitVec 32 := 3#32
  let v37 : BitVec 32 := Scalar.remsi arg0 c3_i32
  let c0_i32_14 : BitVec 32 := 0#32
  let c0_i32_15 : BitVec 32 := 0#32
  ![v37.toNat, 0, 0]
def k0_off16 (i : grid0.Coords) : Fin 2 → Nat :=
  let arg0 : BitVec 32 := BitVec.ofNat 32 (i 0).val
  let c512_i32 : BitVec 32 := 512#32
  let v38 : BitVec 32 := Scalar.muli arg0 c512_i32
  let c0_i32_16 : BitVec 32 := 0#32
  ![v38.toNat, 0]
def k0_off17 (i : grid0.Coords) : Fin 3 → Nat :=
  let arg0 : BitVec 32 := BitVec.ofNat 32 (i 0).val
  let c3_i32_17 : BitVec 32 := 3#32
  let v44 : BitVec 32 := Scalar.remsi arg0 c3_i32_17
  let c0_i32_19 : BitVec 32 := 0#32
  let c0_i32_20 : BitVec 32 := 0#32
  ![v44.toNat, 0, 0]
def k0_off18 (i : grid0.Coords) : Fin 2 → Nat :=
  let arg0 : BitVec 32 := BitVec.ofNat 32 (i 0).val
  let c512_i32_18 : BitVec 32 := 512#32
  let v45 : BitVec 32 := Scalar.muli arg0 c512_i32_18
  let c0_i32_21 : BitVec 32 := 0#32
  ![v45.toNat, 0]
def k0_off19 (i : grid0.Coords) : Fin 3 → Nat :=
  let arg0 : BitVec 32 := BitVec.ofNat 32 (i 0).val
  let c3_i32_22 : BitVec 32 := 3#32
  let v51 : BitVec 32 := Scalar.remsi arg0 c3_i32_22
  let v54 : Index := Scalar.indexCast v51
  let c0_24 : Index := 0#32
  let c0_25 : Index := 0#32
  ![v54.toNat, 0, 0]
def k0_off20 (i : grid0.Coords) : Fin 3 → Nat :=
  let arg0 : BitVec 32 := BitVec.ofNat 32 (i 0).val
  let c3_i32_22 : BitVec 32 := 3#32
  let v51 : BitVec 32 := Scalar.remsi arg0 c3_i32_22
  let v60 : Index := Scalar.indexCast v51
  let c0_28 : Index := 0#32
  let c0_29 : Index := 0#32
  ![v60.toNat, 0, 0]
def k0_off21 (i : grid0.Coords) : Fin 2 → Nat :=
  let c0_32 : Index := 0#32
  let arg0 : BitVec 32 := BitVec.ofNat 32 (i 0).val
  let c512_i32_31 : BitVec 32 := 512#32
  let v65 : BitVec 32 := Scalar.muli arg0 c512_i32_31
  let v66 : Index := Scalar.indexCast v65
  ![0, v66.toNat]
def k0_cond6 (i : grid0.Coords) : BitVec 1 :=
  let arg0 : BitVec 32 := BitVec.ofNat 32 (i 0).val
  let c8_i32_1 : BitVec 32 := 8#32
  let v6 : BitVec 1 := Scalar.cmpi .eq arg0 c8_i32_1
  let v7 : BitVec 32 := Scalar.extui v6
  let c0_i32_2 : BitVec 32 := 0#32
  let v8 : BitVec 1 := Scalar.cmpi .ne v7 c0_i32_2
  v8

def k0_off22 : Fin 1 → Nat :=
  let c2_i32 : BitVec 32 := 2#32
  let c3_i32 : BitVec 32 := 3#32
  let v25 : BitVec 32 := Scalar.remsi c2_i32 c3_i32
  ![v25.toNat]
def k0_off23 : Fin 3 → Nat :=
  let c2_i32 : BitVec 32 := 2#32
  let c3_i32 : BitVec 32 := 3#32
  let v25 : BitVec 32 := Scalar.remsi c2_i32 c3_i32
  let c0_i32_10 : BitVec 32 := 0#32
  let c0_i32_11 : BitVec 32 := 0#32
  ![v25.toNat, 0, 0]
def k0_off24 : Fin 2 → Nat :=
  let c2_i32_9 : BitVec 32 := 2#32
  let c256_i32 : BitVec 32 := 256#32
  let v26 : BitVec 32 := Scalar.muli c2_i32_9 c256_i32
  let c0_i32_12 : BitVec 32 := 0#32
  ![v26.toNat, 0]
def k0_cond7 (i : grid0.Coords) : BitVec 1 :=
  let arg0 : BitVec 32 := BitVec.ofNat 32 (i 0).val
  let c9_i32 : BitVec 32 := 9#32
  let v9 : BitVec 1 := Scalar.cmpi .sge arg0 c9_i32
  let c17_i32 : BitVec 32 := 17#32
  let v10 : BitVec 1 := Scalar.cmpi .slt arg0 c17_i32
  let v11 : BitVec 1 := Scalar.andi v9 v10
  let v12 : BitVec 32 := Scalar.extui v11
  let c0_i32_3 : BitVec 32 := 0#32
  let v13 : BitVec 1 := Scalar.cmpi .ne v12 c0_i32_3
  v13

def k0_cond8 (i : grid0.Coords) : BitVec 1 :=
  let arg0 : BitVec 32 := BitVec.ofNat 32 (i 0).val
  let c9_i32_9 : BitVec 32 := 9#32
  let v25 : BitVec 32 := Scalar.subi arg0 c9_i32_9
  let c1_i32 : BitVec 32 := 1#32
  let v26 : BitVec 1 := Scalar.cmpi .sge v25 c1_i32
  let c2_i32 : BitVec 32 := 2#32
  let v27 : BitVec 32 := Scalar.addi v25 c2_i32
  let c8_i32_10 : BitVec 32 := 8#32
  let v28 : BitVec 1 := Scalar.cmpi .slt v27 c8_i32_10
  let v29 : BitVec 1 := Scalar.andi v26 v28
  let v30 : BitVec 32 := Scalar.extui v29
  let c0_i32_11 : BitVec 32 := 0#32
  let v31 : BitVec 1 := Scalar.cmpi .ne v30 c0_i32_11
  v31

def k0_off25 (i : grid0.Coords) : Fin 1 → Nat :=
  let arg0 : BitVec 32 := BitVec.ofNat 32 (i 0).val
  let c9_i32_9 : BitVec 32 := 9#32
  let v25 : BitVec 32 := Scalar.subi arg0 c9_i32_9
  let c2_i32_39 : BitVec 32 := 2#32
  let v93 : BitVec 32 := Scalar.addi v25 c2_i32_39
  let c3_i32_40 : BitVec 32 := 3#32
  let v94 : BitVec 32 := Scalar.remsi v93 c3_i32_40
  ![v94.toNat]
def k0_off26 (i : grid0.Coords) : Fin 3 → Nat :=
  let arg0 : BitVec 32 := BitVec.ofNat 32 (i 0).val
  let c9_i32_9 : BitVec 32 := 9#32
  let v25 : BitVec 32 := Scalar.subi arg0 c9_i32_9
  let c2_i32_39 : BitVec 32 := 2#32
  let v93 : BitVec 32 := Scalar.addi v25 c2_i32_39
  let c3_i32_40 : BitVec 32 := 3#32
  let v94 : BitVec 32 := Scalar.remsi v93 c3_i32_40
  let c0_i32_42 : BitVec 32 := 0#32
  let c0_i32_43 : BitVec 32 := 0#32
  ![v94.toNat, 0, 0]
def k0_off27 (i : grid0.Coords) : Fin 2 → Nat :=
  let arg0 : BitVec 32 := BitVec.ofNat 32 (i 0).val
  let c9_i32_9 : BitVec 32 := 9#32
  let v25 : BitVec 32 := Scalar.subi arg0 c9_i32_9
  let c2_i32_39 : BitVec 32 := 2#32
  let v93 : BitVec 32 := Scalar.addi v25 c2_i32_39
  let c256_i32_41 : BitVec 32 := 256#32
  let v95 : BitVec 32 := Scalar.muli v93 c256_i32_41
  let c0_i32_44 : BitVec 32 := 0#32
  ![v95.toNat, 0]
def k0_cond9 (i : grid0.Coords) : BitVec 1 :=
  let arg0 : BitVec 32 := BitVec.ofNat 32 (i 0).val
  let c9_i32_9 : BitVec 32 := 9#32
  let v25 : BitVec 32 := Scalar.subi arg0 c9_i32_9
  let c5_i32 : BitVec 32 := 5#32
  let v32 : BitVec 1 := Scalar.cmpi .sge v25 c5_i32
  let v33 : BitVec 32 := Scalar.extui v32
  let c0_i32_12 : BitVec 32 := 0#32
  let v34 : BitVec 1 := Scalar.cmpi .ne v33 c0_i32_12
  v34

def k0_off28 (i : grid0.Coords) : Fin 1 → Nat :=
  let arg0 : BitVec 32 := BitVec.ofNat 32 (i 0).val
  let c9_i32_9 : BitVec 32 := 9#32
  let v25 : BitVec 32 := Scalar.subi arg0 c9_i32_9
  let c5_i32_39 : BitVec 32 := 5#32
  let v93 : BitVec 32 := Scalar.subi v25 c5_i32_39
  let c3_i32_40 : BitVec 32 := 3#32
  let v94 : BitVec 32 := Scalar.remsi v93 c3_i32_40
  ![v94.toNat]
def k0_off29 (i : grid0.Coords) : Fin 3 → Nat :=
  let arg0 : BitVec 32 := BitVec.ofNat 32 (i 0).val
  let c9_i32_9 : BitVec 32 := 9#32
  let v25 : BitVec 32 := Scalar.subi arg0 c9_i32_9
  let c5_i32_39 : BitVec 32 := 5#32
  let v93 : BitVec 32 := Scalar.subi v25 c5_i32_39
  let c3_i32_40 : BitVec 32 := 3#32
  let v94 : BitVec 32 := Scalar.remsi v93 c3_i32_40
  let c0_i32_42 : BitVec 32 := 0#32
  let c0_i32_43 : BitVec 32 := 0#32
  ![v94.toNat, 0, 0]
def k0_off30 (i : grid0.Coords) : Fin 2 → Nat :=
  let arg0 : BitVec 32 := BitVec.ofNat 32 (i 0).val
  let c9_i32_9 : BitVec 32 := 9#32
  let v25 : BitVec 32 := Scalar.subi arg0 c9_i32_9
  let c5_i32_39 : BitVec 32 := 5#32
  let v93 : BitVec 32 := Scalar.subi v25 c5_i32_39
  let c256_i32_41 : BitVec 32 := 256#32
  let v95 : BitVec 32 := Scalar.muli v93 c256_i32_41
  let c0_i32_44 : BitVec 32 := 0#32
  ![v95.toNat, 0]
def k0_off31 (i : grid0.Coords) : Fin 1 → Nat :=
  let arg0 : BitVec 32 := BitVec.ofNat 32 (i 0).val
  let c9_i32_9 : BitVec 32 := 9#32
  let v25 : BitVec 32 := Scalar.subi arg0 c9_i32_9
  let c3_i32 : BitVec 32 := 3#32
  let v35 : BitVec 32 := Scalar.remsi v25 c3_i32
  ![v35.toNat]
def k0_off32 (i : grid0.Coords) : Fin 3 → Nat :=
  let arg0 : BitVec 32 := BitVec.ofNat 32 (i 0).val
  let c9_i32_9 : BitVec 32 := 9#32
  let v25 : BitVec 32 := Scalar.subi arg0 c9_i32_9
  let c3_i32 : BitVec 32 := 3#32
  let v35 : BitVec 32 := Scalar.remsi v25 c3_i32
  let c0_i32_13 : BitVec 32 := 0#32
  let c0_i32_14 : BitVec 32 := 0#32
  ![v35.toNat, 0, 0]
def k0_off33 (i : grid0.Coords) : Fin 2 → Nat :=
  let arg0 : BitVec 32 := BitVec.ofNat 32 (i 0).val
  let c9_i32_9 : BitVec 32 := 9#32
  let v25 : BitVec 32 := Scalar.subi arg0 c9_i32_9
  let c256_i32 : BitVec 32 := 256#32
  let v36 : BitVec 32 := Scalar.muli v25 c256_i32
  let c0_i32_15 : BitVec 32 := 0#32
  ![v36.toNat, 0]
def k0_off34 (i : grid0.Coords) : Fin 3 → Nat :=
  let arg0 : BitVec 32 := BitVec.ofNat 32 (i 0).val
  let c9_i32_9 : BitVec 32 := 9#32
  let v25 : BitVec 32 := Scalar.subi arg0 c9_i32_9
  let c3_i32_16 : BitVec 32 := 3#32
  let v42 : BitVec 32 := Scalar.remsi v25 c3_i32_16
  let v43 : Index := Scalar.indexCast v42
  let c0 : Index := 0#32
  let c0_17 : Index := 0#32
  ![v43.toNat, 0, 0]
def k0_off35 (i : grid0.Coords) : Fin 2 → Nat :=
  let c0_28 : Index := 0#32
  let arg0 : BitVec 32 := BitVec.ofNat 32 (i 0).val
  let c9_i32_9 : BitVec 32 := 9#32
  let v25 : BitVec 32 := Scalar.subi arg0 c9_i32_9
  let c256_i32_27 : BitVec 32 := 256#32
  let v60 : BitVec 32 := Scalar.muli v25 c256_i32_27
  let v61 : Index := Scalar.indexCast v60
  ![0, v61.toNat]
def k0_cond11 (i : grid0.Coords) : BitVec 1 :=
  let arg0 : BitVec 32 := BitVec.ofNat 32 (i 0).val
  let c17_i32_5 : BitVec 32 := 17#32
  let v17 : BitVec 1 := Scalar.cmpi .sge arg0 c17_i32_5
  let c21_i32 : BitVec 32 := 21#32
  let v18 : BitVec 1 := Scalar.cmpi .slt arg0 c21_i32
  let v19 : BitVec 1 := Scalar.andi v17 v18
  let v20 : BitVec 32 := Scalar.extui v19
  let c0_i32_6 : BitVec 32 := 0#32
  let v21 : BitVec 1 := Scalar.cmpi .ne v20 c0_i32_6
  v21

def k0_cond12 (i : grid0.Coords) : BitVec 1 :=
  let arg0 : BitVec 32 := BitVec.ofNat 32 (i 0).val
  let c17_i32_9 : BitVec 32 := 17#32
  let v25 : BitVec 32 := Scalar.subi arg0 c17_i32_9
  let c0_i32_10 : BitVec 32 := 0#32
  let v26 : BitVec 1 := Scalar.cmpi .eq v25 c0_i32_10
  let v27 : BitVec 32 := Scalar.extui v26
  let c0_i32_11 : BitVec 32 := 0#32
  let v28 : BitVec 1 := Scalar.cmpi .ne v27 c0_i32_11
  v28

def k0_cond13 : BitVec 1 :=
  let c0_i32_29 : BitVec 32 := 0#32
  let c32_i32 : BitVec 32 := 32#32
  let v61 : BitVec 1 := Scalar.cmpi .slt c0_i32_29 c32_i32
  let v62 : BitVec 32 := Scalar.extui v61
  let c0_i32_31 : BitVec 32 := 0#32
  let v63 : BitVec 1 := Scalar.cmpi .ne v62 c0_i32_31
  v63

def k0_off36 : Fin 1 → Nat :=
  let c0_i32_27 : BitVec 32 := 0#32
  let c3_i32_28 : BitVec 32 := 3#32
  let v60 : BitVec 32 := Scalar.remsi c0_i32_27 c3_i32_28
  ![v60.toNat]
def k0_off37 : Fin 3 → Nat :=
  let c0_i32_27 : BitVec 32 := 0#32
  let c3_i32_28 : BitVec 32 := 3#32
  let v60 : BitVec 32 := Scalar.remsi c0_i32_27 c3_i32_28
  let c0_i32_36 : BitVec 32 := 0#32
  let c0_i32_37 : BitVec 32 := 0#32
  ![v60.toNat, 0, 0]
def k0_off38 : Fin 2 → Nat :=
  let c0_i32_30 : BitVec 32 := 0#32
  let c1536_i32 : BitVec 32 := 1536#32
  let v67 : BitVec 32 := Scalar.muli c0_i32_30 c1536_i32
  let c0_i32_38 : BitVec 32 := 0#32
  ![v67.toNat, 0]
def k0_cond14 : BitVec 1 :=
  let c0_i32_32 : BitVec 32 := 0#32
  let c32_i32_33 : BitVec 32 := 32#32
  let v64 : BitVec 1 := Scalar.cmpi .eq c0_i32_32 c32_i32_33
  let v65 : BitVec 32 := Scalar.extui v64
  let c0_i32_35 : BitVec 32 := 0#32
  let v66 : BitVec 1 := Scalar.cmpi .ne v65 c0_i32_35
  v66

def k0_off39 : Fin 1 → Nat :=
  let c0_i32_27 : BitVec 32 := 0#32
  let c3_i32_28 : BitVec 32 := 3#32
  let v60 : BitVec 32 := Scalar.remsi c0_i32_27 c3_i32_28
  ![v60.toNat]
def k0_off40 : Fin 3 → Nat :=
  let c0_i32_27 : BitVec 32 := 0#32
  let c3_i32_28 : BitVec 32 := 3#32
  let v60 : BitVec 32 := Scalar.remsi c0_i32_27 c3_i32_28
  let c0_i32_36 : BitVec 32 := 0#32
  let c0_i32_37 : BitVec 32 := 0#32
  ![v60.toNat, 0, 0]
def k0_off41 : Fin 2 → Nat :=
  let c0_i32_34 : BitVec 32 := 0#32
  let c1536_i32 : BitVec 32 := 1536#32
  let v67 : BitVec 32 := Scalar.muli c0_i32_34 c1536_i32
  let c0_i32_38 : BitVec 32 := 0#32
  ![v67.toNat, 0]
def k0_cond15 (i : grid0.Coords) : BitVec 1 :=
  let arg0 : BitVec 32 := BitVec.ofNat 32 (i 0).val
  let c17_i32_9 : BitVec 32 := 17#32
  let v25 : BitVec 32 := Scalar.subi arg0 c17_i32_9
  let c1_i32 : BitVec 32 := 1#32
  let v29 : BitVec 1 := Scalar.cmpi .eq v25 c1_i32
  let v30 : BitVec 32 := Scalar.extui v29
  let c0_i32_12 : BitVec 32 := 0#32
  let v31 : BitVec 1 := Scalar.cmpi .ne v30 c0_i32_12
  v31

def k0_off42 : Fin 1 → Nat :=
  let c3_i32_27 : BitVec 32 := 3#32
  let c3_i32_28 : BitVec 32 := 3#32
  let v60 : BitVec 32 := Scalar.remsi c3_i32_27 c3_i32_28
  ![v60.toNat]
def k0_off43 : Fin 3 → Nat :=
  let c3_i32_27 : BitVec 32 := 3#32
  let c3_i32_28 : BitVec 32 := 3#32
  let v60 : BitVec 32 := Scalar.remsi c3_i32_27 c3_i32_28
  let c0_i32_31 : BitVec 32 := 0#32
  let c0_i32_32 : BitVec 32 := 0#32
  ![v60.toNat, 0, 0]
def k0_off44 : Fin 2 → Nat :=
  let c3_i32_29 : BitVec 32 := 3#32
  let c256_i32_30 : BitVec 32 := 256#32
  let v61 : BitVec 32 := Scalar.muli c3_i32_29 c256_i32_30
  let c0_i32_33 : BitVec 32 := 0#32
  ![v61.toNat, 0]
def k0_cond16 : BitVec 1 :=
  let c1_i32_36 : BitVec 32 := 1#32
  let c32_i32 : BitVec 32 := 32#32
  let v68 : BitVec 1 := Scalar.cmpi .slt c1_i32_36 c32_i32
  let v69 : BitVec 32 := Scalar.extui v68
  let c0_i32_38 : BitVec 32 := 0#32
  let v70 : BitVec 1 := Scalar.cmpi .ne v69 c0_i32_38
  v70

def k0_off45 : Fin 1 → Nat :=
  let c1_i32_34 : BitVec 32 := 1#32
  let c3_i32_35 : BitVec 32 := 3#32
  let v67 : BitVec 32 := Scalar.remsi c1_i32_34 c3_i32_35
  ![v67.toNat]
def k0_off46 : Fin 3 → Nat :=
  let c1_i32_34 : BitVec 32 := 1#32
  let c3_i32_35 : BitVec 32 := 3#32
  let v67 : BitVec 32 := Scalar.remsi c1_i32_34 c3_i32_35
  let c0_i32_43 : BitVec 32 := 0#32
  let c0_i32_44 : BitVec 32 := 0#32
  ![v67.toNat, 0, 0]
def k0_off47 : Fin 2 → Nat :=
  let c1_i32_37 : BitVec 32 := 1#32
  let c1536_i32 : BitVec 32 := 1536#32
  let v74 : BitVec 32 := Scalar.muli c1_i32_37 c1536_i32
  let c0_i32_45 : BitVec 32 := 0#32
  ![v74.toNat, 0]
def k0_cond17 : BitVec 1 :=
  let c1_i32_39 : BitVec 32 := 1#32
  let c32_i32_40 : BitVec 32 := 32#32
  let v71 : BitVec 1 := Scalar.cmpi .eq c1_i32_39 c32_i32_40
  let v72 : BitVec 32 := Scalar.extui v71
  let c0_i32_42 : BitVec 32 := 0#32
  let v73 : BitVec 1 := Scalar.cmpi .ne v72 c0_i32_42
  v73

def k0_off48 : Fin 1 → Nat :=
  let c1_i32_34 : BitVec 32 := 1#32
  let c3_i32_35 : BitVec 32 := 3#32
  let v67 : BitVec 32 := Scalar.remsi c1_i32_34 c3_i32_35
  ![v67.toNat]
def k0_off49 : Fin 3 → Nat :=
  let c1_i32_34 : BitVec 32 := 1#32
  let c3_i32_35 : BitVec 32 := 3#32
  let v67 : BitVec 32 := Scalar.remsi c1_i32_34 c3_i32_35
  let c0_i32_43 : BitVec 32 := 0#32
  let c0_i32_44 : BitVec 32 := 0#32
  ![v67.toNat, 0, 0]
def k0_off50 : Fin 2 → Nat :=
  let c1_i32_41 : BitVec 32 := 1#32
  let c1536_i32 : BitVec 32 := 1536#32
  let v74 : BitVec 32 := Scalar.muli c1_i32_41 c1536_i32
  let c0_i32_45 : BitVec 32 := 0#32
  ![v74.toNat, 0]
def k0_off51 (i : grid0.Coords) : Fin 1 → Nat :=
  let arg0 : BitVec 32 := BitVec.ofNat 32 (i 0).val
  let c17_i32_9 : BitVec 32 := 17#32
  let v25 : BitVec 32 := Scalar.subi arg0 c17_i32_9
  let c3_i32 : BitVec 32 := 3#32
  let v32 : BitVec 32 := Scalar.remsi v25 c3_i32
  ![v32.toNat]
def k0_off52 (i : grid0.Coords) : Fin 3 → Nat :=
  let arg0 : BitVec 32 := BitVec.ofNat 32 (i 0).val
  let c17_i32_9 : BitVec 32 := 17#32
  let v25 : BitVec 32 := Scalar.subi arg0 c17_i32_9
  let c3_i32 : BitVec 32 := 3#32
  let v32 : BitVec 32 := Scalar.remsi v25 c3_i32
  let c0_i32_13 : BitVec 32 := 0#32
  let c0_i32_14 : BitVec 32 := 0#32
  ![v32.toNat, 0, 0]
def k0_off53 (i : grid0.Coords) : Fin 2 → Nat :=
  let arg0 : BitVec 32 := BitVec.ofNat 32 (i 0).val
  let c17_i32_9 : BitVec 32 := 17#32
  let v25 : BitVec 32 := Scalar.subi arg0 c17_i32_9
  let c256_i32 : BitVec 32 := 256#32
  let v33 : BitVec 32 := Scalar.muli v25 c256_i32
  let c0_i32_15 : BitVec 32 := 0#32
  ![v33.toNat, 0]
def k0_off54 (i : grid0.Coords) : Fin 3 → Nat :=
  let arg0 : BitVec 32 := BitVec.ofNat 32 (i 0).val
  let c17_i32_9 : BitVec 32 := 17#32
  let v25 : BitVec 32 := Scalar.subi arg0 c17_i32_9
  let c3_i32_16 : BitVec 32 := 3#32
  let v39 : BitVec 32 := Scalar.remsi v25 c3_i32_16
  let v40 : Index := Scalar.indexCast v39
  let c0 : Index := 0#32
  let c0_17 : Index := 0#32
  ![v40.toNat, 0, 0]
def k0_off55 (i : grid0.Coords) : Fin 2 → Nat :=
  let c0_24 : Index := 0#32
  let arg0 : BitVec 32 := BitVec.ofNat 32 (i 0).val
  let c17_i32_9 : BitVec 32 := 17#32
  let v25 : BitVec 32 := Scalar.subi arg0 c17_i32_9
  let c256_i32_23 : BitVec 32 := 256#32
  let v50 : BitVec 32 := Scalar.muli v25 c256_i32_23
  let v51 : Index := Scalar.indexCast v50
  ![0, v51.toNat]
def k0_cond18 (i : grid0.Coords) : BitVec 1 :=
  let arg0 : BitVec 32 := BitVec.ofNat 32 (i 0).val
  let c21_i32_7 : BitVec 32 := 21#32
  let v22 : BitVec 1 := Scalar.cmpi .sge arg0 c21_i32_7
  let v23 : BitVec 32 := Scalar.extui v22
  let c0_i32_8 : BitVec 32 := 0#32
  let v24 : BitVec 1 := Scalar.cmpi .ne v23 c0_i32_8
  v24

def k0_cond19 (i : grid0.Coords) : BitVec 1 :=
  let arg0 : BitVec 32 := BitVec.ofNat 32 (i 0).val
  let c21_i32_9 : BitVec 32 := 21#32
  let v25 : BitVec 32 := Scalar.subi arg0 c21_i32_9
  let c32_i32 : BitVec 32 := 32#32
  let v27 : BitVec 1 := Scalar.cmpi .slt v25 c32_i32
  let v28 : BitVec 32 := Scalar.extui v27
  let c0_i32_10 : BitVec 32 := 0#32
  let v29 : BitVec 1 := Scalar.cmpi .ne v28 c0_i32_10
  v29

def k0_off56 (i : grid0.Coords) : Fin 1 → Nat :=
  let arg0 : BitVec 32 := BitVec.ofNat 32 (i 0).val
  let c21_i32_9 : BitVec 32 := 21#32
  let v25 : BitVec 32 := Scalar.subi arg0 c21_i32_9
  let c3_i32 : BitVec 32 := 3#32
  let v26 : BitVec 32 := Scalar.remsi v25 c3_i32
  ![v26.toNat]
def k0_off57 (i : grid0.Coords) : Fin 3 → Nat :=
  let arg0 : BitVec 32 := BitVec.ofNat 32 (i 0).val
  let c21_i32_9 : BitVec 32 := 21#32
  let v25 : BitVec 32 := Scalar.subi arg0 c21_i32_9
  let c3_i32 : BitVec 32 := 3#32
  let v26 : BitVec 32 := Scalar.remsi v25 c3_i32
  let c0_i32_26 : BitVec 32 := 0#32
  let c0_i32_27 : BitVec 32 := 0#32
  ![v26.toNat, 0, 0]
def k0_off58 (i : grid0.Coords) : Fin 2 → Nat :=
  let arg0 : BitVec 32 := BitVec.ofNat 32 (i 0).val
  let c21_i32_9 : BitVec 32 := 21#32
  let v25 : BitVec 32 := Scalar.subi arg0 c21_i32_9
  let c1536_i32_25 : BitVec 32 := 1536#32
  let v55 : BitVec 32 := Scalar.muli v25 c1536_i32_25
  let c0_i32_28 : BitVec 32 := 0#32
  ![v55.toNat, 0]
def k0_cond20 (i : grid0.Coords) : BitVec 1 :=
  let arg0 : BitVec 32 := BitVec.ofNat 32 (i 0).val
  let c21_i32_9 : BitVec 32 := 21#32
  let v25 : BitVec 32 := Scalar.subi arg0 c21_i32_9
  let c32_i32_11 : BitVec 32 := 32#32
  let v30 : BitVec 1 := Scalar.cmpi .eq v25 c32_i32_11
  let v31 : BitVec 32 := Scalar.extui v30
  let c0_i32_12 : BitVec 32 := 0#32
  let v32 : BitVec 1 := Scalar.cmpi .ne v31 c0_i32_12
  v32

def k0_off59 (i : grid0.Coords) : Fin 1 → Nat :=
  let arg0 : BitVec 32 := BitVec.ofNat 32 (i 0).val
  let c21_i32_9 : BitVec 32 := 21#32
  let v25 : BitVec 32 := Scalar.subi arg0 c21_i32_9
  let c3_i32 : BitVec 32 := 3#32
  let v26 : BitVec 32 := Scalar.remsi v25 c3_i32
  ![v26.toNat]
def k0_off60 (i : grid0.Coords) : Fin 3 → Nat :=
  let arg0 : BitVec 32 := BitVec.ofNat 32 (i 0).val
  let c21_i32_9 : BitVec 32 := 21#32
  let v25 : BitVec 32 := Scalar.subi arg0 c21_i32_9
  let c3_i32 : BitVec 32 := 3#32
  let v26 : BitVec 32 := Scalar.remsi v25 c3_i32
  let c0_i32_26 : BitVec 32 := 0#32
  let c0_i32_27 : BitVec 32 := 0#32
  ![v26.toNat, 0, 0]
def k0_off61 (i : grid0.Coords) : Fin 2 → Nat :=
  let arg0 : BitVec 32 := BitVec.ofNat 32 (i 0).val
  let c21_i32_9 : BitVec 32 := 21#32
  let v25 : BitVec 32 := Scalar.subi arg0 c21_i32_9
  let c1536_i32_25 : BitVec 32 := 1536#32
  let v55 : BitVec 32 := Scalar.muli v25 c1536_i32_25
  let c0_i32_28 : BitVec 32 := 0#32
  ![v55.toNat, 0]
def k0_off62 (i : grid0.Coords) : Fin 3 → Nat :=
  let arg0 : BitVec 32 := BitVec.ofNat 32 (i 0).val
  let c21_i32_9 : BitVec 32 := 21#32
  let v25 : BitVec 32 := Scalar.subi arg0 c21_i32_9
  let c3_i32_14 : BitVec 32 := 3#32
  let v34 : BitVec 32 := Scalar.remsi v25 c3_i32_14
  let v35 : Index := Scalar.indexCast v34
  let c0_15 : Index := 0#32
  let c0_16 : Index := 0#32
  ![v35.toNat, 0, 0]
def k0_off63 (i : grid0.Coords) : Fin 2 → Nat :=
  let c0_17 : Index := 0#32
  let arg0 : BitVec 32 := BitVec.ofNat 32 (i 0).val
  let c21_i32_9 : BitVec 32 := 21#32
  let v25 : BitVec 32 := Scalar.subi arg0 c21_i32_9
  let c1536_i32 : BitVec 32 := 1536#32
  let v39 : BitVec 32 := Scalar.muli v25 c1536_i32
  let v40 : Index := Scalar.indexCast v39
  ![0, v40.toNat]
def k0_cond21 (i : grid0.Coords) : BitVec 1 :=
  let arg0 : BitVec 32 := BitVec.ofNat 32 (i 0).val
  let c21_i32_9 : BitVec 32 := 21#32
  let v25 : BitVec 32 := Scalar.subi arg0 c21_i32_9
  let c2_i32 : BitVec 32 := 2#32
  let v44 : BitVec 32 := Scalar.addi v25 c2_i32
  let c32_i32_19 : BitVec 32 := 32#32
  let v46 : BitVec 1 := Scalar.cmpi .slt v44 c32_i32_19
  let v47 : BitVec 32 := Scalar.extui v46
  let c0_i32_20 : BitVec 32 := 0#32
  let v48 : BitVec 1 := Scalar.cmpi .ne v47 c0_i32_20
  v48

def k0_off64 (i : grid0.Coords) : Fin 1 → Nat :=
  let arg0 : BitVec 32 := BitVec.ofNat 32 (i 0).val
  let c21_i32_9 : BitVec 32 := 21#32
  let v25 : BitVec 32 := Scalar.subi arg0 c21_i32_9
  let c2_i32 : BitVec 32 := 2#32
  let v44 : BitVec 32 := Scalar.addi v25 c2_i32
  let c3_i32_18 : BitVec 32 := 3#32
  let v45 : BitVec 32 := Scalar.remsi v44 c3_i32_18
  ![v45.toNat]
def k0_off65 (i : grid0.Coords) : Fin 3 → Nat :=
  let arg0 : BitVec 32 := BitVec.ofNat 32 (i 0).val
  let c21_i32_9 : BitVec 32 := 21#32
  let v25 : BitVec 32 := Scalar.subi arg0 c21_i32_9
  let c2_i32 : BitVec 32 := 2#32
  let v44 : BitVec 32 := Scalar.addi v25 c2_i32
  let c3_i32_18 : BitVec 32 := 3#32
  let v45 : BitVec 32 := Scalar.remsi v44 c3_i32_18
  let c0_i32_26 : BitVec 32 := 0#32
  let c0_i32_27 : BitVec 32 := 0#32
  ![v45.toNat, 0, 0]
def k0_off66 (i : grid0.Coords) : Fin 2 → Nat :=
  let arg0 : BitVec 32 := BitVec.ofNat 32 (i 0).val
  let c21_i32_9 : BitVec 32 := 21#32
  let v25 : BitVec 32 := Scalar.subi arg0 c21_i32_9
  let c2_i32 : BitVec 32 := 2#32
  let v44 : BitVec 32 := Scalar.addi v25 c2_i32
  let c1536_i32_25 : BitVec 32 := 1536#32
  let v55 : BitVec 32 := Scalar.muli v44 c1536_i32_25
  let c0_i32_28 : BitVec 32 := 0#32
  ![v55.toNat, 0]
def k0_cond22 (i : grid0.Coords) : BitVec 1 :=
  let arg0 : BitVec 32 := BitVec.ofNat 32 (i 0).val
  let c21_i32_9 : BitVec 32 := 21#32
  let v25 : BitVec 32 := Scalar.subi arg0 c21_i32_9
  let c2_i32 : BitVec 32 := 2#32
  let v44 : BitVec 32 := Scalar.addi v25 c2_i32
  let c32_i32_21 : BitVec 32 := 32#32
  let v49 : BitVec 1 := Scalar.cmpi .eq v44 c32_i32_21
  let v50 : BitVec 32 := Scalar.extui v49
  let c0_i32_22 : BitVec 32 := 0#32
  let v51 : BitVec 1 := Scalar.cmpi .ne v50 c0_i32_22
  v51

def k0_off67 (i : grid0.Coords) : Fin 1 → Nat :=
  let arg0 : BitVec 32 := BitVec.ofNat 32 (i 0).val
  let c21_i32_9 : BitVec 32 := 21#32
  let v25 : BitVec 32 := Scalar.subi arg0 c21_i32_9
  let c2_i32 : BitVec 32 := 2#32
  let v44 : BitVec 32 := Scalar.addi v25 c2_i32
  let c3_i32_18 : BitVec 32 := 3#32
  let v45 : BitVec 32 := Scalar.remsi v44 c3_i32_18
  ![v45.toNat]
def k0_off68 (i : grid0.Coords) : Fin 3 → Nat :=
  let arg0 : BitVec 32 := BitVec.ofNat 32 (i 0).val
  let c21_i32_9 : BitVec 32 := 21#32
  let v25 : BitVec 32 := Scalar.subi arg0 c21_i32_9
  let c2_i32 : BitVec 32 := 2#32
  let v44 : BitVec 32 := Scalar.addi v25 c2_i32
  let c3_i32_18 : BitVec 32 := 3#32
  let v45 : BitVec 32 := Scalar.remsi v44 c3_i32_18
  let c0_i32_26 : BitVec 32 := 0#32
  let c0_i32_27 : BitVec 32 := 0#32
  ![v45.toNat, 0, 0]
def k0_off69 (i : grid0.Coords) : Fin 2 → Nat :=
  let arg0 : BitVec 32 := BitVec.ofNat 32 (i 0).val
  let c21_i32_9 : BitVec 32 := 21#32
  let v25 : BitVec 32 := Scalar.subi arg0 c21_i32_9
  let c2_i32 : BitVec 32 := 2#32
  let v44 : BitVec 32 := Scalar.addi v25 c2_i32
  let c1536_i32_25 : BitVec 32 := 1536#32
  let v55 : BitVec 32 := Scalar.muli v44 c1536_i32_25
  let c0_i32_28 : BitVec 32 := 0#32
  ![v55.toNat, 0]
def k0_cond23 (i : grid0.Coords) : BitVec 1 :=
  let arg0 : BitVec 32 := BitVec.ofNat 32 (i 0).val
  let c21_i32_9 : BitVec 32 := 21#32
  let v25 : BitVec 32 := Scalar.subi arg0 c21_i32_9
  let c32_i32_23 : BitVec 32 := 32#32
  let v52 : BitVec 1 := Scalar.cmpi .eq v25 c32_i32_23
  let v53 : BitVec 32 := Scalar.extui v52
  let c0_i32_24 : BitVec 32 := 0#32
  let v54 : BitVec 1 := Scalar.cmpi .ne v53 c0_i32_24
  v54

def k0_cond5 (i : grid0.Coords) : BitVec 1 :=
  let arg0 : BitVec 32 := BitVec.ofNat 32 (i 0).val
  let c7_i32 : BitVec 32 := 7#32
  let v3 : BitVec 1 := Scalar.cmpi .eq arg0 c7_i32
  let v4 : BitVec 32 := Scalar.extui v3
  let c0_i32_0 : BitVec 32 := 0#32
  let v5 : BitVec 1 := Scalar.cmpi .ne v4 c0_i32_0
  v5

def k0_cond10 (i : grid0.Coords) : BitVec 1 :=
  let arg0 : BitVec 32 := BitVec.ofNat 32 (i 0).val
  let c16_i32 : BitVec 32 := 16#32
  let v14 : BitVec 1 := Scalar.cmpi .eq arg0 c16_i32
  let v15 : BitVec 32 := Scalar.extui v14
  let c0_i32_4 : BitVec 32 := 0#32
  let v16 : BitVec 1 := Scalar.cmpi .ne v15 c0_i32_4
  v16

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x50688 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x50000 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S1x1x512 : Shape := ⟨3, ![1, 1, 512]⟩
abbrev S50000 : Shape := ⟨1, ![50000]⟩
abbrev S1x1x1024 : Shape := ⟨3, ![1, 1, 1024]⟩
abbrev S2048x2048 : Shape := ⟨2, ![2048, 2048]⟩
abbrev S1x2048 : Shape := ⟨2, ![1, 2048]⟩
abbrev S4096x512 : Shape := ⟨2, ![4096, 512]⟩
abbrev S4096x1024 : Shape := ⟨2, ![4096, 1024]⟩
abbrev S4096 : Shape := ⟨1, ![4096]⟩
abbrev S1024x2048 : Shape := ⟨2, ![1024, 2048]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S1024x3072 : Shape := ⟨2, ![1024, 3072]⟩
abbrev S50000x1024 : Shape := ⟨2, ![50000, 1024]⟩
abbrev S1x512 : Shape := ⟨2, ![1, 512]⟩
abbrev S512x4096 : Shape := ⟨2, ![512, 4096]⟩
abbrev S1x4096 : Shape := ⟨2, ![1, 4096]⟩
abbrev S1024x4096 : Shape := ⟨2, ![1024, 4096]⟩
abbrev S_ : Shape := ⟨0, ![]⟩
abbrev S2048x1024 : Shape := ⟨2, ![2048, 1024]⟩
abbrev S1024x1 : Shape := ⟨2, ![1024, 1]⟩
abbrev S2048x1 : Shape := ⟨2, ![2048, 1]⟩
abbrev S1x1 : Shape := ⟨2, ![1, 1]⟩
abbrev S1x3072 : Shape := ⟨2, ![1, 3072]⟩
abbrev S3072x1024 : Shape := ⟨2, ![3072, 1024]⟩
abbrev S1024x50000 : Shape := ⟨2, ![1024, 50000]⟩
abbrev S1x50000 : Shape := ⟨2, ![1, 50000]⟩

abbrev nBuf : Space → Nat
  | .hbm => 127
  | .vmem => 0
  | .smem => 0
  | _ => 0

abbrev bufTy : (tb : Table) → Fin (tcTables nBuf tb) → BufTy
  | .hbm, ⟨0, _⟩ => ⟨S1x1x512, .f32⟩
  | .hbm, ⟨1, _⟩ => ⟨S50000, .i32⟩
  | .hbm, ⟨2, _⟩ => ⟨S1x1x1024, .f32⟩
  | .hbm, ⟨3, _⟩ => ⟨S1x1x1024, .f32⟩
  | .hbm, ⟨4, _⟩ => ⟨S2048x2048, .f32⟩
  | .hbm, ⟨5, _⟩ => ⟨S1x2048, .f32⟩
  | .hbm, ⟨6, _⟩ => ⟨S1x2048, .f32⟩
  | .hbm, ⟨7, _⟩ => ⟨S4096x512, .f32⟩
  | .hbm, ⟨8, _⟩ => ⟨S4096x1024, .f32⟩
  | .hbm, ⟨9, _⟩ => ⟨S4096, .f32⟩
  | .hbm, ⟨10, _⟩ => ⟨S4096, .f32⟩
  | .hbm, ⟨11, _⟩ => ⟨S1024x2048, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1x1024, .f32⟩
  | .hbm, ⟨16, _⟩ => ⟨S1, .f32⟩
  | .hbm, ⟨17, _⟩ => ⟨S1024x3072, .f32⟩
  | .hbm, ⟨18, _⟩ => ⟨S1024, .f32⟩
  | .hbm, ⟨19, _⟩ => ⟨S50000x1024, .f32⟩
  | .hbm, ⟨20, _⟩ => ⟨S50000, .f32⟩
  | .hbm, ⟨21, _⟩ => ⟨S1x2048, .f32⟩
  | .hbm, ⟨22, _⟩ => ⟨S1x512, .f32⟩
  | .hbm, ⟨23, _⟩ => ⟨S1x1024, .f32⟩
  | .hbm, ⟨24, _⟩ => ⟨S1x1024, .f32⟩
  | .hbm, ⟨25, _⟩ => ⟨S512x4096, .f32⟩
  | .hbm, ⟨26, _⟩ => ⟨S1x4096, .f32⟩
  | .hbm, ⟨27, _⟩ => ⟨S1x4096, .f32⟩
  | .hbm, ⟨28, _⟩ => ⟨S1x4096, .f32⟩
  | .hbm, ⟨29, _⟩ => ⟨S1024x4096, .f32⟩
  | .hbm, ⟨30, _⟩ => ⟨S1x4096, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S_, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S2048x1024, .f32⟩
  | .hbm, ⟨69, _⟩ => ⟨S2048x1024, .f32⟩
  | .hbm, ⟨70, _⟩ => ⟨S1x1024, .f32⟩
  | .hbm, ⟨71, _⟩ => ⟨S2048x1024, .f32⟩
  | .hbm, ⟨72, _⟩ => ⟨S2048x1024, .f32⟩
  | .hbm, ⟨73, _⟩ => ⟨S1024x1024, .f32⟩
  | .hbm, ⟨74, _⟩ => ⟨S1x1024, .f32⟩
  | .hbm, ⟨75, _⟩ => ⟨S2048x1024, .f32⟩
  | .hbm, ⟨76, _⟩ => ⟨S2048x1024, .f32⟩
  | .hbm, ⟨77, _⟩ => ⟨S1x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S1024x1, .f32⟩
  | .hbm, ⟨82, _⟩ => ⟨S2048x1, .f32⟩
  | .hbm, ⟨83, _⟩ => ⟨S1x1, .f32⟩
  | .hbm, ⟨84, _⟩ => ⟨S2048x1, .f32⟩
  | .hbm, ⟨85, _⟩ => ⟨S2048x1, .f32⟩
  | .hbm, ⟨86, _⟩ => ⟨S1x2048, .f32⟩
  | .hbm, ⟨87, _⟩ => ⟨S_, .f32⟩
  | .hbm, ⟨88, _⟩ => ⟨S1, .f32⟩
  | .hbm, ⟨89, _⟩ => ⟨S_, .f32⟩
  | .hbm, ⟨90, _⟩ => ⟨S1, .f32⟩
  | .hbm, ⟨91, _⟩ => ⟨S1, .f32⟩
  | .hbm, ⟨92, _⟩ => ⟨S1x1, .f32⟩
  | .hbm, ⟨93, _⟩ => ⟨S1x2048, .f32⟩
  | .hbm, ⟨94, _⟩ => ⟨S1x2048, .f32⟩
  | .hbm, ⟨95, _⟩ => ⟨S1x2048, .f32⟩
  | .hbm, ⟨96, _⟩ => ⟨S_, .f32⟩
  | .hbm, ⟨97, _⟩ => ⟨S1, .f32⟩
  | .hbm, ⟨98, _⟩ => ⟨S1x1, .f32⟩
  | .hbm, ⟨99, _⟩ => ⟨S1x2048, .f32⟩
  | .hbm, ⟨100, _⟩ => ⟨S1x2048, .f32⟩
  | .hbm, ⟨101, _⟩ => ⟨S1x2048, .f32⟩
  | .hbm, ⟨102, _⟩ => ⟨S1x3072, .f32⟩
  | .hbm, ⟨103, _⟩ => ⟨S3072x1024, .f32⟩
  | .hbm, ⟨104, _⟩ => ⟨S1x1024, .f32⟩
  | .hbm, ⟨105, _⟩ => ⟨S1x1024, .f32⟩
  | .hbm, ⟨106, _⟩ => ⟨S1x1024, .f32⟩
  | .hbm, ⟨107, _⟩ => ⟨S1024x50000, .f32⟩
  | .hbm, ⟨108, _⟩ => ⟨S1x50000, .f32⟩
  | .hbm, ⟨109, _⟩ => ⟨S1x50000, .f32⟩
  | .hbm, ⟨110, _⟩ => ⟨S1x50000, .f32⟩
  | .hbm, ⟨111, _⟩ => ⟨S_, .f32⟩
  | .hbm, ⟨112, _⟩ => ⟨S1, .f32⟩
  | .hbm, ⟨113, _⟩ => ⟨S_, .f32⟩
  | .hbm, ⟨114, _⟩ => ⟨S1, .f32⟩
  | .hbm, ⟨115, _⟩ => ⟨S1, .f32⟩
  | .hbm, ⟨116, _⟩ => ⟨S1x1, .f32⟩
  | .hbm, ⟨117, _⟩ => ⟨S1x50000, .f32⟩
  | .hbm, ⟨118, _⟩ => ⟨S1x50000, .f32⟩
  | .hbm, ⟨119, _⟩ => ⟨S1x50000, .f32⟩
  | .hbm, ⟨120, _⟩ => ⟨S_, .f32⟩
  | .hbm, ⟨121, _⟩ => ⟨S1, .f32⟩
  | .hbm, ⟨122, _⟩ => ⟨S1x1, .f32⟩
  | .hbm, ⟨123, _⟩ => ⟨S1x50000, .f32⟩
  | .hbm, ⟨124, _⟩ => ⟨S1x50000, .f32⟩
  | .hbm, ⟨125, _⟩ => ⟨S1x1x1024, .f32⟩
  | .hbm, ⟨126, _⟩ => ⟨S1x1x1024, .f32⟩
  | _, _ => ⟨S1x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_cst_0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_1 : Ref sig .tc := ⟨.hbm, 46, rfl⟩
abbrev main_v23 : Ref sig .tc := ⟨.hbm, 47, rfl⟩
abbrev main_v24 : Ref sig .tc := ⟨.hbm, 48, rfl⟩
abbrev main_cst_2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_3 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_5 : Ref sig .tc := ⟨.hbm, 87, rfl⟩
abbrev main_v60 : Ref sig .tc := ⟨.hbm, 88, rfl⟩
abbrev main_cst_6 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_7 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_8 : Ref sig .tc := ⟨.hbm, 111, rfl⟩
abbrev main_v81 : Ref sig .tc := ⟨.hbm, 112, rfl⟩
abbrev main_cst_9 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_10 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩

abbrev nD : Nat := 1
abbrev τ : Topo := Topo.v7x

variable {F : FTy → Type} [FloatOps F]
-- ==== Proof.Names.lean ====
module

public import proofs.«01_k».proof.Proof.Gen.KernelIdeal.Frame
public import proofs.«01_k».proof.Proof.Gen.KernelIdeal.Skeleton
public import Idealize.ShloMosaic.Lib.Ring

@[expose] public section

set_option maxRecDepth 16384

noncomputable section

/-! Names for the five rings of copies: their slots, the blocks they stream, their counters; and what the offsets the
    body computes are, as those names index them. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Ring (sl bk)

/-! ## Slots -/

theorem inbIhS (s : Fin 3) : ∀ a, (![s.val, 0, 0] : Fin 3 → Nat) a + S1x512x512.size a ≤ S3x512x512.size a := by
  have := s.isLt; intro a; fin_cases a <;> simp <;> omega
theorem inbHhS (s : Fin 3) : ∀ a, (![s.val, 0, 0] : Fin 3 → Nat) a + S1x512x1024.size a ≤ S3x512x1024.size a := by
  have := s.isLt; intro a; fin_cases a <;> simp <;> omega
theorem inbEnS (s : Fin 3) : ∀ a, (![s.val, 0, 0] : Fin 3 → Nat) a + S1x256x2048.size a ≤ S3x256x2048.size a := by
  have := s.isLt; intro a; fin_cases a <;> simp <;> omega
theorem inbPvS (s : Fin 3) : ∀ a, (![s.val, 0, 0] : Fin 3 → Nat) a + S1x256x3072.size a ≤ S3x256x3072.size a := by
  have := s.isLt; intro a; fin_cases a <;> simp <;> omega
theorem inbVoS (s : Fin 3) : ∀ a, (![s.val, 0, 0] : Fin 3 → Nat) a + S1x1536x1024.size a ≤ S3x1536x1024.size a := by
  have := s.isLt; intro a; fin_cases a <;> simp <;> omega
theorem inbVtS (s : Fin 3) : ∀ a, (![s.val, 0, 0] : Fin 3 → Nat) a + S1x848x1024.size a ≤ S3x1536x1024.size a := by
  have := s.isLt; intro a; fin_cases a <;> simp <;> omega
theorem inbC (s : Fin 3) : ∀ a, (![s.val] : Fin 1 → Nat) a + S1.size a ≤ S3.size a := by
  have := s.isLt; intro a; fin_cases a <;> simp <;> omega

/-- Slot `s` of the ring of input-weight blocks. -/
def ihS (s : Fin 3) : Memref sig .tc .vmem S512x512 .f32 :=
  ((Memref.whole cc0_scratch8).slice (Rect.unit (s := S3x512x512) ![s.val, 0, 0] S1x512x512.size (inbIhS s)) (fun _ => rfl)).squeeze S512x512 squeezes_S1x512x512_S512x512
/-- Slot `s` of the ring of recurrent-weight blocks. -/
def hhS (s : Fin 3) : Memref sig .tc .vmem S512x1024 .f32 :=
  ((Memref.whole cc0_scratch9).slice (Rect.unit (s := S3x512x1024) ![s.val, 0, 0] S1x512x1024.size (inbHhS s)) (fun _ => rfl)).squeeze S512x1024 squeezes_S1x512x1024_S512x1024
/-- Slot `s` of the ring of encoder-state blocks. -/
def enS (s : Fin 3) : Memref sig .tc .vmem S256x2048 .f32 :=
  ((Memref.whole cc0_scratch10).slice (Rect.unit (s := S3x256x2048) ![s.val, 0, 0] S1x256x2048.size (inbEnS s)) (fun _ => rfl)).squeeze S256x2048 squeezes_S1x256x2048_S256x2048
/-- Slot `s` of the ring of first-projection blocks. -/
def pvS (s : Fin 3) : Memref sig .tc .vmem S256x3072 .f32 :=
  ((Memref.whole cc0_scratch11).slice (Rect.unit (s := S3x256x3072) ![s.val, 0, 0] S1x256x3072.size (inbPvS s)) (fun _ => rfl)).squeeze S256x3072 squeezes_S1x256x3072_S256x3072
/-- Slot `s` of the ring of vocabulary blocks. -/
def voS (s : Fin 3) : Memref sig .tc .vmem S1536x1024 .f32 :=
  ((Memref.whole cc0_scratch12).slice (Rect.unit (s := S3x1536x1024) ![s.val, 0, 0] S1x1536x1024.size (inbVoS s)) (fun _ => rfl)).squeeze S1536x1024 squeezes_S1x1536x1024_S1536x1024
/-- The leading 848 rows of that slot: where the last, short block lands. -/
def vtS (s : Fin 3) : Memref sig .tc .vmem S848x1024 .f32 :=
  ((Memref.whole cc0_scratch12).slice (Rect.unit (s := S3x1536x1024) ![s.val, 0, 0] S1x848x1024.size (inbVtS s)) (fun _ => rfl)).squeeze S848x1024 squeezes_S1x848x1024_S848x1024

/-! ## Blocks of the arrays left in HBM -/

theorem inbIhB (b : Fin 8) : ∀ a, (![512 * b.val, 0] : Fin 2 → Nat) a + S512x512.size a ≤ S4096x512.size a := by
  have := b.isLt; intro a; fin_cases a <;> simp <;> omega
theorem inbHhB (b : Fin 8) : ∀ a, (![512 * b.val, 0] : Fin 2 → Nat) a + S512x1024.size a ≤ S4096x1024.size a := by
  have := b.isLt; intro a; fin_cases a <;> simp <;> omega
theorem inbEnB (b : Fin 8) : ∀ a, (![256 * b.val, 0] : Fin 2 → Nat) a + S256x2048.size a ≤ S2048x2048.size a := by
  have := b.isLt; intro a; fin_cases a <;> simp <;> omega
theorem inbPvB (b : Fin 4) : ∀ a, (![256 * b.val, 0] : Fin 2 → Nat) a + S256x3072.size a ≤ S1024x3072.size a := by
  have := b.isLt; intro a; fin_cases a <;> simp <;> omega
theorem inbVoB (b : Fin 32) : ∀ a, (![1536 * b.val, 0] : Fin 2 → Nat) a + S1536x1024.size a ≤ S50000x1024.size a := by
  have := b.isLt; intro a; fin_cases a <;> simp <;> omega
theorem inbVtB : ∀ a, (![49152, 0] : Fin 2 → Nat) a + S848x1024.size a ≤ S50000x1024.size a := by
  intro a; fin_cases a <;> simp

def ihB (b : Fin 8) : Memref sig .tc .hbm S512x512 .f32 :=
  (Memref.whole main_arg7).slice (Rect.unit (s := S4096x512) ![512 * b.val, 0] S512x512.size (inbIhB b)) (fun _ => rfl)
def hhB (b : Fin 8) : Memref sig .tc .hbm S512x1024 .f32 :=
  (Memref.whole main_arg8).slice (Rect.unit (s := S4096x1024) ![512 * b.val, 0] S512x1024.size (inbHhB b)) (fun _ => rfl)
def enB (b : Fin 8) : Memref sig .tc .hbm S256x2048 .f32 :=
  (Memref.whole main_arg4).slice (Rect.unit (s := S2048x2048) ![256 * b.val, 0] S256x2048.size (inbEnB b)) (fun _ => rfl)
def pvB (b : Fin 4) : Memref sig .tc .hbm S256x3072 .f32 :=
  (Memref.whole main_arg17).slice (Rect.unit (s := S1024x3072) ![256 * b.val, 0] S256x3072.size (inbPvB b)) (fun _ => rfl)
def voB (b : Fin 32) : Memref sig .tc .hbm S1536x1024 .f32 :=
  (Memref.whole main_arg19).slice (Rect.unit (s := S50000x1024) ![1536 * b.val, 0] S1536x1024.size (inbVoB b)) (fun _ => rfl)
def vtB : Memref sig .tc .hbm S848x1024 .f32 :=
  (Memref.whole main_arg19).slice (Rect.unit (s := S50000x1024) ![49152, 0] S848x1024.size inbVtB) (fun _ => rfl)

/-! ## Counters -/

/-- Counter `s` of the group `A` of three. -/
def cel (A : DmaSems sig S3) (s : Fin 3) : DmaSems sig S_ := (A.slice (Rect.unit (s := S3) ![s.val] S1.size (inbC s))).squeeze S_ squeezes_S1_S_

/-! ## The body's spellings are those names -/

section Fold
theorem cel_at {o : Fin 1 → Nat} (A : DmaSems sig S3) {s : Fin 3} (h : o = ![s.val]) (inb) : (A.slice (Rect.unit (s := S3) o S1.size inb)).squeeze S_ squeezes_S1_S_ = cel A s := by subst h; rfl
theorem ihS_at {o : Fin 3 → Nat} {s : Fin 3} (h : o = ![s.val, 0, 0]) (inb) : ((Memref.whole cc0_scratch8).slice (Rect.unit (s := S3x512x512) o S1x512x512.size inb) (fun _ => rfl)).squeeze S512x512 squeezes_S1x512x512_S512x512 = ihS s := by subst h; rfl
theorem hhS_at {o : Fin 3 → Nat} {s : Fin 3} (h : o = ![s.val, 0, 0]) (inb) : ((Memref.whole cc0_scratch9).slice (Rect.unit (s := S3x512x1024) o S1x512x1024.size inb) (fun _ => rfl)).squeeze S512x1024 squeezes_S1x512x1024_S512x1024 = hhS s := by subst h; rfl
theorem enS_at {o : Fin 3 → Nat} {s : Fin 3} (h : o = ![s.val, 0, 0]) (inb) : ((Memref.whole cc0_scratch10).slice (Rect.unit (s := S3x256x2048) o S1x256x2048.size inb) (fun _ => rfl)).squeeze S256x2048 squeezes_S1x256x2048_S256x2048 = enS s := by subst h; rfl
theorem pvS_at {o : Fin 3 → Nat} {s : Fin 3} (h : o = ![s.val, 0, 0]) (inb) : ((Memref.whole cc0_scratch11).slice (Rect.unit (s := S3x256x3072) o S1x256x3072.size inb) (fun _ => rfl)).squeeze S256x3072 squeezes_S1x256x3072_S256x3072 = pvS s := by subst h; rfl
theorem voS_at {o : Fin 3 → Nat} {s : Fin 3} (h : o = ![s.val, 0, 0]) (inb) : ((Memref.whole cc0_scratch12).slice (Rect.unit (s := S3x1536x1024) o S1x1536x1024.size inb) (fun _ => rfl)).squeeze S1536x1024 squeezes_S1x1536x1024_S1536x1024 = voS s := by subst h; rfl
theorem vtS_at {o : Fin 3 → Nat} {s : Fin 3} (h : o = ![s.val, 0, 0]) (inb) : ((Memref.whole cc0_scratch12).slice (Rect.unit (s := S3x1536x1024) o S1x848x1024.size inb) (fun _ => rfl)).squeeze S848x1024 squeezes_S1x848x1024_S848x1024 = vtS s := by subst h; rfl
theorem ihB_at {o : Fin 2 → Nat} {b : Fin 8} (h : o = ![512 * b.val, 0]) (inb) : (Memref.whole main_arg7).slice (Rect.unit (s := S4096x512) o S512x512.size inb) (fun _ => rfl) = ihB b := by subst h; rfl
theorem hhB_at {o : Fin 2 → Nat} {b : Fin 8} (h : o = ![512 * b.val, 0]) (inb) : (Memref.whole main_arg8).slice (Rect.unit (s := S4096x1024) o S512x1024.size inb) (fun _ => rfl) = hhB b := by subst h; rfl
theorem enB_at {o : Fin 2 → Nat} {b : Fin 8} (h : o = ![256 * b.val, 0]) (inb) : (Memref.whole main_arg4).slice (Rect.unit (s := S2048x2048) o S256x2048.size inb) (fun _ => rfl) = enB b := by subst h; rfl
theorem pvB_at {o : Fin 2 → Nat} {b : Fin 4} (h : o = ![256 * b.val, 0]) (inb) : (Memref.whole main_arg17).slice (Rect.unit (s := S1024x3072) o S256x3072.size inb) (fun _ => rfl) = pvB b := by subst h; rfl
theorem voB_at {o : Fin 2 → Nat} {b : Fin 32} (h : o = ![1536 * b.val, 0]) (inb) : (Memref.whole main_arg19).slice (Rect.unit (s := S50000x1024) o S1536x1024.size inb) (fun _ => rfl) = voB b := by subst h; rfl
theorem vtB_at {o : Fin 2 → Nat} (h : o = ![49152, 0]) (inb) : (Memref.whole main_arg19).slice (Rect.unit (s := S50000x1024) o S848x1024.size inb) (fun _ => rfl) = vtB := by subst h; rfl
end Fold

/-! ## The conditions, by the point -/

section Conds
theorem c1 : ∀ t : Fin grid0.N, (k0_cond1 (grid0.coords t) = 1#1 ↔ t.val < 8) := by decide +kernel
theorem c2 : ∀ t : Fin grid0.N, (k0_cond2 (grid0.coords t) = 1#1 ↔ t.val = 0) := by decide +kernel
theorem c3 : ∀ t : Fin grid0.N, (k0_cond3 (grid0.coords t) = 1#1 ↔ 1 ≤ t.val ∧ t.val < 6) := by decide +kernel
theorem c4 : ∀ t : Fin grid0.N, t.val < 8 → (k0_cond4 (grid0.coords t) = 1#1 ↔ 6 ≤ t.val ∧ t.val < 8) := by decide +kernel
theorem c5 : ∀ t : Fin grid0.N, (k0_cond5 (grid0.coords t) = 1#1 ↔ t.val = 7) := by decide +kernel
theorem c6 : ∀ t : Fin grid0.N, (k0_cond6 (grid0.coords t) = 1#1 ↔ t.val = 8) := by decide +kernel
theorem c7 : ∀ t : Fin grid0.N, (k0_cond7 (grid0.coords t) = 1#1 ↔ 9 ≤ t.val ∧ t.val < 17) := by decide +kernel
theorem c8 : ∀ t : Fin grid0.N, 9 ≤ t.val → t.val < 17 → (k0_cond8 (grid0.coords t) = 1#1 ↔ 10 ≤ t.val ∧ t.val < 15) := by decide +kernel
theorem c9 : ∀ t : Fin grid0.N, 9 ≤ t.val → t.val < 17 → (k0_cond9 (grid0.coords t) = 1#1 ↔ 14 ≤ t.val) := by decide +kernel
theorem c10 : ∀ t : Fin grid0.N, (k0_cond10 (grid0.coords t) = 1#1 ↔ t.val = 16) := by decide +kernel
theorem c11 : ∀ t : Fin grid0.N, (k0_cond11 (grid0.coords t) = 1#1 ↔ 17 ≤ t.val ∧ t.val < 21) := by decide +kernel
theorem c12 : ∀ t : Fin grid0.N, 17 ≤ t.val → t.val < 21 → (k0_cond12 (grid0.coords t) = 1#1 ↔ t.val = 17) := by decide +kernel
theorem c15 : ∀ t : Fin grid0.N, 17 ≤ t.val → t.val < 21 → (k0_cond15 (grid0.coords t) = 1#1 ↔ t.val = 18) := by decide +kernel
theorem c18 : ∀ t : Fin grid0.N, (k0_cond18 (grid0.coords t) = 1#1 ↔ 21 ≤ t.val) := by decide +kernel
theorem c19 : ∀ t : Fin grid0.N, 21 ≤ t.val → (k0_cond19 (grid0.coords t) = 1#1 ↔ t.val < 53) := by decide +kernel
theorem c20 : ∀ t : Fin grid0.N, 21 ≤ t.val → (k0_cond20 (grid0.coords t) = 1#1 ↔ t.val = 53) := by decide +kernel
theorem c21 : ∀ t : Fin grid0.N, 21 ≤ t.val → (k0_cond21 (grid0.coords t) = 1#1 ↔ t.val < 51) := by decide +kernel
theorem c22 : ∀ t : Fin grid0.N, 21 ≤ t.val → (k0_cond22 (grid0.coords t) = 1#1 ↔ t.val = 51) := by decide +kernel
theorem c23 : ∀ t : Fin grid0.N, 21 ≤ t.val → (k0_cond23 (grid0.coords t) = 1#1 ↔ t.val = 53) := by decide +kernel
theorem c13 : k0_cond13 = 1#1 := by decide +kernel
theorem c14 : k0_cond14 = 0#1 := by decide +kernel
theorem c16 : k0_cond16 = 1#1 := by decide +kernel
theorem c17 : k0_cond17 = 0#1 := by decide +kernel
end Conds

/-! ## The offsets, by the point -/

section Offsets
set_option synthInstance.maxSize 4096
theorem o1_0 : ∀ t : Fin grid0.N, t.val = 0 → k0_off1 0#32 = ![(sl 3 (t.val)).val] := by decide +kernel
theorem o2_0 : ∀ t : Fin grid0.N, t.val = 0 → k0_off2 0#32 = ![(sl 3 (t.val)).val, 0, 0] := by decide +kernel
theorem o3_0 : ∀ t : Fin grid0.N, t.val = 0 → k0_off3 0#32 = ![512 * (bk 8 (t.val)).val, 0] := by decide +kernel
theorem o4_0 : ∀ t : Fin grid0.N, t.val = 0 → k0_off4 0#32 = ![(sl 3 (t.val)).val, 0, 0] := by decide +kernel
theorem o5_0 : ∀ t : Fin grid0.N, t.val = 0 → k0_off5 0#32 = ![512 * (bk 8 (t.val)).val, 0] := by decide +kernel
theorem o1_1 : ∀ t : Fin grid0.N, t.val = 0 → k0_off1 1#32 = ![(sl 3 (t.val + 1)).val] := by decide +kernel
theorem o2_1 : ∀ t : Fin grid0.N, t.val = 0 → k0_off2 1#32 = ![(sl 3 (t.val + 1)).val, 0, 0] := by decide +kernel
theorem o3_1 : ∀ t : Fin grid0.N, t.val = 0 → k0_off3 1#32 = ![512 * (bk 8 (t.val + 1)).val, 0] := by decide +kernel
theorem o4_1 : ∀ t : Fin grid0.N, t.val = 0 → k0_off4 1#32 = ![(sl 3 (t.val + 1)).val, 0, 0] := by decide +kernel
theorem o5_1 : ∀ t : Fin grid0.N, t.val = 0 → k0_off5 1#32 = ![512 * (bk 8 (t.val + 1)).val, 0] := by decide +kernel
theorem o1_2 : ∀ t : Fin grid0.N, t.val = 0 → k0_off1 2#32 = ![(sl 3 (t.val + 2)).val] := by decide +kernel
theorem o2_2 : ∀ t : Fin grid0.N, t.val = 0 → k0_off2 2#32 = ![(sl 3 (t.val + 2)).val, 0, 0] := by decide +kernel
theorem o3_2 : ∀ t : Fin grid0.N, t.val = 0 → k0_off3 2#32 = ![512 * (bk 8 (t.val + 2)).val, 0] := by decide +kernel
theorem o4_2 : ∀ t : Fin grid0.N, t.val = 0 → k0_off4 2#32 = ![(sl 3 (t.val + 2)).val, 0, 0] := by decide +kernel
theorem o5_2 : ∀ t : Fin grid0.N, t.val = 0 → k0_off5 2#32 = ![512 * (bk 8 (t.val + 2)).val, 0] := by decide +kernel
theorem o6 : ∀ t : Fin grid0.N, k0_off6 (grid0.coords t) = ![(sl 3 (t.val + 2)).val] := by decide +kernel
theorem o7 : ∀ t : Fin grid0.N, k0_off7 (grid0.coords t) = ![(sl 3 (t.val + 2)).val, 0, 0] := by decide +kernel
theorem o8 : ∀ t : Fin grid0.N, t.val < 6 → k0_off8 (grid0.coords t) = ![512 * (bk 8 (t.val + 2)).val, 0] := by decide +kernel
theorem o9 : ∀ t : Fin grid0.N, k0_off9 (grid0.coords t) = ![(sl 3 (t.val + 2)).val, 0, 0] := by decide +kernel
theorem o10 : ∀ t : Fin grid0.N, t.val < 6 → k0_off10 (grid0.coords t) = ![512 * (bk 8 (t.val + 2)).val, 0] := by decide +kernel
theorem o11 : ∀ t : Fin grid0.N, 6 ≤ t.val → k0_off11 (grid0.coords t) = ![(sl 3 (t.val)).val] := by decide +kernel
theorem o12 : ∀ t : Fin grid0.N, 6 ≤ t.val → k0_off12 (grid0.coords t) = ![(sl 3 (t.val)).val, 0, 0] := by decide +kernel
theorem o13 : ∀ t : Fin grid0.N, 6 ≤ t.val → t.val < 14 → k0_off13 (grid0.coords t) = ![256 * (bk 8 (t.val - 6)).val, 0] := by decide +kernel
theorem o14 : ∀ t : Fin grid0.N, k0_off14 (grid0.coords t) = ![(sl 3 (t.val)).val] := by decide +kernel
theorem o15 : ∀ t : Fin grid0.N, k0_off15 (grid0.coords t) = ![(sl 3 (t.val)).val, 0, 0] := by decide +kernel
theorem o16 : ∀ t : Fin grid0.N, t.val < 8 → k0_off16 (grid0.coords t) = ![512 * (bk 8 (t.val)).val, 0] := by decide +kernel
theorem o17 : ∀ t : Fin grid0.N, k0_off17 (grid0.coords t) = ![(sl 3 (t.val)).val, 0, 0] := by decide +kernel
theorem o18 : ∀ t : Fin grid0.N, t.val < 8 → k0_off18 (grid0.coords t) = ![512 * (bk 8 (t.val)).val, 0] := by decide +kernel
theorem o19 : ∀ t : Fin grid0.N, k0_off19 (grid0.coords t) = ![(sl 3 (t.val)).val, 0, 0] := by decide +kernel
theorem o20 : ∀ t : Fin grid0.N, k0_off20 (grid0.coords t) = ![(sl 3 (t.val)).val, 0, 0] := by decide +kernel
theorem o21 : ∀ t : Fin grid0.N, t.val < 8 → k0_off21 (grid0.coords t) = ![0, 512 * (bk 8 t.val).val] := by decide +kernel
theorem o22 : ∀ t : Fin grid0.N, t.val = 8 → k0_off22 = ![(sl 3 (t.val)).val] := by decide +kernel
theorem o23 : ∀ t : Fin grid0.N, t.val = 8 → k0_off23 = ![(sl 3 (t.val)).val, 0, 0] := by decide +kernel
theorem o24 : ∀ t : Fin grid0.N, t.val = 8 → k0_off24 = ![256 * (bk 8 (t.val - 6)).val, 0] := by decide +kernel
theorem o25 : ∀ t : Fin grid0.N, 9 ≤ t.val → k0_off25 (grid0.coords t) = ![(sl 3 (t.val + 2)).val] := by decide +kernel
theorem o26 : ∀ t : Fin grid0.N, 9 ≤ t.val → k0_off26 (grid0.coords t) = ![(sl 3 (t.val + 2)).val, 0, 0] := by decide +kernel
theorem o27 : ∀ t : Fin grid0.N, 9 ≤ t.val → t.val < 15 → k0_off27 (grid0.coords t) = ![256 * (bk 8 (t.val - 7)).val, 0] := by decide +kernel
theorem o28 : ∀ t : Fin grid0.N, 14 ≤ t.val → k0_off28 (grid0.coords t) = ![(sl 3 (t.val + 1)).val] := by decide +kernel
theorem o29 : ∀ t : Fin grid0.N, 14 ≤ t.val → k0_off29 (grid0.coords t) = ![(sl 3 (t.val + 1)).val, 0, 0] := by decide +kernel
theorem o30 : ∀ t : Fin grid0.N, 14 ≤ t.val → t.val < 18 → k0_off30 (grid0.coords t) = ![256 * (bk 4 (t.val - 14)).val, 0] := by decide +kernel
theorem o31 : ∀ t : Fin grid0.N, 9 ≤ t.val → k0_off31 (grid0.coords t) = ![(sl 3 (t.val)).val] := by decide +kernel
theorem o32 : ∀ t : Fin grid0.N, 9 ≤ t.val → k0_off32 (grid0.coords t) = ![(sl 3 (t.val)).val, 0, 0] := by decide +kernel
theorem o33 : ∀ t : Fin grid0.N, 9 ≤ t.val → t.val < 17 → k0_off33 (grid0.coords t) = ![256 * (bk 8 (t.val - 9)).val, 0] := by decide +kernel
theorem o34 : ∀ t : Fin grid0.N, 9 ≤ t.val → k0_off34 (grid0.coords t) = ![(sl 3 (t.val)).val, 0, 0] := by decide +kernel
theorem o35 : ∀ t : Fin grid0.N, 9 ≤ t.val → t.val < 17 → k0_off35 (grid0.coords t) = ![0, 256 * (bk 8 (t.val - 9)).val] := by decide +kernel
theorem o36 : ∀ t : Fin grid0.N, t.val = 17 → k0_off36 = ![(sl 3 (t.val + 1)).val] := by decide +kernel
theorem o37 : ∀ t : Fin grid0.N, t.val = 17 → k0_off37 = ![(sl 3 (t.val + 1)).val, 0, 0] := by decide +kernel
theorem o38 : ∀ t : Fin grid0.N, t.val = 17 → k0_off38 = ![1536 * (bk 32 (t.val - 17)).val, 0] := by decide +kernel
theorem o42 : ∀ t : Fin grid0.N, t.val = 18 → k0_off42 = ![(sl 3 (t.val + 3)).val] := by decide +kernel
theorem o43 : ∀ t : Fin grid0.N, t.val = 18 → k0_off43 = ![(sl 3 (t.val + 3)).val, 0, 0] := by decide +kernel
theorem o44 : ∀ t : Fin grid0.N, t.val = 18 → k0_off44 = ![256 * (bk 4 (t.val - 15)).val, 0] := by decide +kernel
theorem o45 : ∀ t : Fin grid0.N, t.val = 18 → k0_off45 = ![(sl 3 (t.val + 1)).val] := by decide +kernel
theorem o46 : ∀ t : Fin grid0.N, t.val = 18 → k0_off46 = ![(sl 3 (t.val + 1)).val, 0, 0] := by decide +kernel
theorem o47 : ∀ t : Fin grid0.N, t.val = 18 → k0_off47 = ![1536 * (bk 32 (t.val - 17)).val, 0] := by decide +kernel
theorem o51 : ∀ t : Fin grid0.N, 17 ≤ t.val → k0_off51 (grid0.coords t) = ![(sl 3 (t.val + 1)).val] := by decide +kernel
theorem o52 : ∀ t : Fin grid0.N, 17 ≤ t.val → k0_off52 (grid0.coords t) = ![(sl 3 (t.val + 1)).val, 0, 0] := by decide +kernel
theorem o53 : ∀ t : Fin grid0.N, 17 ≤ t.val → t.val < 21 → k0_off53 (grid0.coords t) = ![256 * (bk 4 (t.val - 17)).val, 0] := by decide +kernel
theorem o54 : ∀ t : Fin grid0.N, 17 ≤ t.val → k0_off54 (grid0.coords t) = ![(sl 3 (t.val + 1)).val, 0, 0] := by decide +kernel
theorem o55 : ∀ t : Fin grid0.N, 17 ≤ t.val → t.val < 21 → k0_off55 (grid0.coords t) = ![0, 256 * (bk 4 (t.val - 17)).val] := by decide +kernel
theorem o56 : ∀ t : Fin grid0.N, 21 ≤ t.val → k0_off56 (grid0.coords t) = ![(sl 3 (t.val)).val] := by decide +kernel
theorem o57 : ∀ t : Fin grid0.N, 21 ≤ t.val → k0_off57 (grid0.coords t) = ![(sl 3 (t.val)).val, 0, 0] := by decide +kernel
theorem o58 : ∀ t : Fin grid0.N, 21 ≤ t.val → t.val < 53 → k0_off58 (grid0.coords t) = ![1536 * (bk 32 (t.val - 21)).val, 0] := by decide +kernel
theorem o59 : ∀ t : Fin grid0.N, 21 ≤ t.val → k0_off59 (grid0.coords t) = ![(sl 3 (t.val)).val] := by decide +kernel
theorem o60 : ∀ t : Fin grid0.N, 21 ≤ t.val → k0_off60 (grid0.coords t) = ![(sl 3 (t.val)).val, 0, 0] := by decide +kernel
theorem o61 : ∀ t : Fin grid0.N, t.val = 53 → k0_off61 (grid0.coords t) = ![49152, 0] := by decide +kernel
theorem o62 : ∀ t : Fin grid0.N, 21 ≤ t.val → k0_off62 (grid0.coords t) = ![(sl 3 (t.val)).val, 0, 0] := by decide +kernel
theorem o63 : ∀ t : Fin grid0.N, 21 ≤ t.val → k0_off63 (grid0.coords t) = ![0, 1536 * (bk 33 (t.val - 21)).val] := by decide +kernel
theorem o64 : ∀ t : Fin grid0.N, 21 ≤ t.val → k0_off64 (grid0.coords t) = ![(sl 3 (t.val + 2)).val] := by decide +kernel
theorem o65 : ∀ t : Fin grid0.N, 21 ≤ t.val → k0_off65 (grid0.coords t) = ![(sl 3 (t.val + 2)).val, 0, 0] := by decide +kernel
theorem o66 : ∀ t : Fin grid0.N, 21 ≤ t.val → t.val < 51 → k0_off66 (grid0.coords t) = ![1536 * (bk 32 (t.val - 19)).val, 0] := by decide +kernel
theorem o67 : ∀ t : Fin grid0.N, 21 ≤ t.val → k0_off67 (grid0.coords t) = ![(sl 3 (t.val + 2)).val] := by decide +kernel
theorem o68 : ∀ t : Fin grid0.N, 21 ≤ t.val → k0_off68 (grid0.coords t) = ![(sl 3 (t.val + 2)).val, 0, 0] := by decide +kernel
theorem o69 : ∀ t : Fin grid0.N, t.val = 51 → k0_off69 (grid0.coords t) = ![49152, 0] := by decide +kernel
end Offsets

end Cert.KernelIdeal.Run
-- ==== Proof.Slots.lean ====
module

public import proofs.«01_k».proof.Proof.Names

@[expose] public section

set_option maxRecDepth 16384

noncomputable section

/-! What a slot of a ring may be: idle, its counter at zero and a third of the streamed array beside it; or with a copy
    on its way into it, which borrowed one block of that third. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Ring (sl bk)

variable {F : FTy → Type} [FloatOps F]

local notation "𝕄" => MT nD τ sig Unit (Elt F) ℕ (Pipeline.UD sig nD τ) ℕ

/-- The contents of `M`'s buffer on core `c`. -/
abbrev BufOf (F : FTy → Type) (c : Dev nD) {sp : Space} {S : Shape} {e : EltTy} (M : Memref sig .tc sp S e) : Type := Buf (Elt F) (M.view.loc (c : Thread nD τ))

/-- The third of an array that slot `s` of a ring streams from. -/
abbrev third (s : Fin 3) : PosShare TreeShare := if s.val = 0 then fullShare.left else if s.val = 1 then fullShare.right.left else fullShare.right.right

section Fam
variable (c : Dev nD) {sp sp' : Space} {S T : Shape} {e e' : EltTy}

/-- The elements `M` reaches, held outright at `f`. -/
abbrev held (M : Memref sig .tc sp S e) (f : BufOf F c M) : sProp 𝕄 := M.view.loc (c : Thread nD τ) ↦[M.view.set]{fullShare} f
/-- The elements `M` reaches, held at the share `q`. -/
abbrev part (M : Memref sig .tc sp S e) (q : PosShare TreeShare) (W : BufOf F c M) : sProp 𝕄 := M.view.loc (c : Thread nD τ) ↦[M.view.set]{q} W
/-- All of `M`'s buffer but those elements, at the share `q`. -/
def others (M : Memref sig .tc sp S e) (q : PosShare TreeShare) (W : BufOf F c M) : sProp 𝕄 := M.view.loc (c : Thread nD τ) ↦[Finset.univ \ M.view.set]{q} W
/-- All of `M`'s buffer at the share `q`. -/
def entire (M : Memref sig .tc sp S e) (q : PosShare TreeShare) (W : BufOf F c M) : sProp 𝕄 := M.view.loc (c : Thread nD τ) ↦[Finset.univ]{q} W
/-- What the slot `D` holds over `f` once the block `M` of `W` has landed in it. -/
abbrev landed (D : Memref sig .tc sp S e) (M : Memref sig .tc sp' S e) (W : BufOf F c M) (f : BufOf F c D) : BufOf F c D :=
  D.view.writes (Elt F) f [⟨Rect.whole S, ReadAs.same.apply (M.view.read (Elt F) W)⟩]
/-- The copy of block `M` into slot `D` on the counter `A`, under way. -/
abbrev flying (D : Memref sig .tc sp S e) (A : DmaSems sig S_) (M : Memref sig .tc sp' S e) (q : PosShare TreeShare) (W : BufOf F c M) (f : BufOf F c D) : sProp 𝕄 :=
  Transfers.Flight countersEmb (c : Thread nD τ) (SemLoc.dma A.sem) default (D.view.amount (SemLoc.dma A.sem)) iprop(held c D (landed c D M W f) ∗ part c M q W)

omit [FloatOps F] in
theorem entire_split (M : Memref sig .tc sp S e) (q : PosShare TreeShare) (W : BufOf F c M) : entire c M q W ⊣⊢ iprop(part c M q W ∗ others c M q W) := by
  unfold entire others; exact pointsTo_split_subset (Finset.subset_univ _)

omit [FloatOps F] in
theorem ih_split (b : Fin 8) (q : PosShare TreeShare) (W : BufOf F c (Memref.whole main_arg7)) : entire c (Memref.whole main_arg7) q W ⊣⊢ iprop(part c (ihB b) q W ∗ others c (ihB b) q W) := entire_split c (ihB b) q W
omit [FloatOps F] in
theorem hh_split (b : Fin 8) (q : PosShare TreeShare) (W : BufOf F c (Memref.whole main_arg8)) : entire c (Memref.whole main_arg8) q W ⊣⊢ iprop(part c (hhB b) q W ∗ others c (hhB b) q W) := entire_split c (hhB b) q W
omit [FloatOps F] in
theorem en_split (b : Fin 8) (q : PosShare TreeShare) (W : BufOf F c (Memref.whole main_arg4)) : entire c (Memref.whole main_arg4) q W ⊣⊢ iprop(part c (enB b) q W ∗ others c (enB b) q W) := entire_split c (enB b) q W
omit [FloatOps F] in
theorem pv_split (b : Fin 4) (q : PosShare TreeShare) (W : BufOf F c (Memref.whole main_arg17)) : entire c (Memref.whole main_arg17) q W ⊣⊢ iprop(part c (pvB b) q W ∗ others c (pvB b) q W) := entire_split c (pvB b) q W
omit [FloatOps F] in
theorem vo_split (b : Fin 32) (q : PosShare TreeShare) (W : BufOf F c (Memref.whole main_arg19)) : entire c (Memref.whole main_arg19) q W ⊣⊢ iprop(part c (voB b) q W ∗ others c (voB b) q W) := entire_split c (voB b) q W
omit [FloatOps F] in
theorem vt_split (q : PosShare TreeShare) (W : BufOf F c (Memref.whole main_arg19)) : entire c (Memref.whole main_arg19) q W ⊣⊢ iprop(part c vtB q W ∗ others c vtB q W) := entire_split c vtB q W

/-- An idle slot. -/
abbrev idle (D : Memref sig .tc sp S e) (A : DmaSems sig S_) (whole : sProp 𝕄) : sProp 𝕄 :=
  iprop(semVal ((c : Thread nD τ), SemLoc.dma A.sem) 0 ∗ (∃ f, held c D f) ∗ whole)
/-- A slot with a copy on its way. -/
abbrev busy (D : Memref sig .tc sp S e) (A : DmaSems sig S_) (M : Memref sig .tc sp' S e) (q : PosShare TreeShare) (W : BufOf F c M) : sProp 𝕄 :=
  iprop((∃ f, flying c D A M q W f) ∗ others c M q W)
end Fam

/-- The staging buffers a step is handed, one per window, each a whole buffer. -/
structure Stg where
  x : Memref sig .tc .vmem S1x512 .f32
  xW : x.IsWhole
  h0 : Memref sig .tc .vmem S1x1024 .f32
  h0W : h0.IsWhole
  c0 : Memref sig .tc .vmem S1x1024 .f32
  c0W : c0.IsWhole
  aw : Memref sig .tc .vmem S1x2048 .f32
  awW : aw.IsWhole
  cv : Memref sig .tc .vmem S1x2048 .f32
  cvW : cv.IsWhole
  bg : Memref sig .tc .vmem S1x4096 .f32
  bgW : bg.IsWhole
  we : Memref sig .tc .vmem S1024x2048 .bf16
  weW : we.IsWhole
  wd : Memref sig .tc .vmem S1024x1024 .f32
  wdW : wd.IsWhole
  bd : Memref sig .tc .vmem S1x1024 .f32
  bdW : bd.IsWhole
  wi : Memref sig .tc .vmem S1x1024 .f32
  wiW : wi.IsWhole
  bi : Memref sig .tc .vmem S1x1 .f32
  biW : bi.IsWhole
  b1 : Memref sig .tc .vmem S1x1024 .f32
  b1W : b1.IsWhole
  b2 : Memref sig .tc .vmem S1x50688 .f32
  b2W : b2.IsWhole
  op : Memref sig .tc .vmem S1x50000 .f32
  opW : op.IsWhole
  oh : Memref sig .tc .vmem S1x1024 .f32
  ohW : oh.IsWhole
  oc : Memref sig .tc .vmem S1x1024 .f32
  ocW : oc.IsWhole
  oa : Memref sig .tc .vmem S1x2048 .f32
  oaW : oa.IsWhole
  ov : Memref sig .tc .vmem S1x2048 .f32
  ovW : ov.IsWhole

/-- The body at point `t`, on those buffers. -/
abbrev bodyOf (t : Fin grid0.N) (S : Stg) : Prog (TpuEff nD τ sig (Elt F) Λ₀ .tc) PUnit :=
  cc0__body (grid0.coords t) S.x S.xW S.h0 S.h0W S.c0 S.c0W S.aw S.awW S.cv S.cvW S.bg S.bgW S.we S.weW S.wd S.wdW S.bd S.bdW S.wi S.wiW S.bi S.biW S.b1 S.b1W S.b2 S.b2W
    (Memref.whole main_arg7) (Memref.isWhole_whole _) (Memref.whole main_arg8) (Memref.isWhole_whole _) (Memref.whole main_arg4) (Memref.isWhole_whole _)
    (Memref.whole main_arg17) (Memref.isWhole_whole _) (Memref.whole main_arg19) (Memref.isWhole_whole _)
    S.op S.opW S.oh S.ohW S.oc S.ocW S.oa S.oaW S.ov S.ovW
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _) (Memref.whole cc0_scratch10) (Memref.isWhole_whole _)
    (Memref.whole cc0_scratch11) (Memref.isWhole_whole _) (Memref.whole cc0_scratch12) (Memref.isWhole_whole _)
    cc0_scratch13 cc0_scratch14 cc0_scratch15 cc0_scratch16 cc0_scratch17

/-- The staging buffers the loop hands the body at point `t`. -/
def stgAt (t : Fin cfg0.N) : Stg where
  x := win0_0.stage (cfg0.slots t 0)
  xW := hstage0_0 ((cfg0.slots t 0).cast nbuf0_0)
  h0 := win0_1.stage (cfg0.slots t 1)
  h0W := hstage0_1 ((cfg0.slots t 1).cast nbuf0_1)
  c0 := win0_2.stage (cfg0.slots t 2)
  c0W := hstage0_2 ((cfg0.slots t 2).cast nbuf0_2)
  aw := win0_3.stage (cfg0.slots t 3)
  awW := hstage0_3 ((cfg0.slots t 3).cast nbuf0_3)
  cv := win0_4.stage (cfg0.slots t 4)
  cvW := hstage0_4 ((cfg0.slots t 4).cast nbuf0_4)
  bg := win0_5.stage (cfg0.slots t 5)
  bgW := hstage0_5 ((cfg0.slots t 5).cast nbuf0_5)
  we := win0_6.stage (cfg0.slots t 6)
  weW := hstage0_6 ((cfg0.slots t 6).cast nbuf0_6)
  wd := win0_7.stage (cfg0.slots t 7)
  wdW := hstage0_7 ((cfg0.slots t 7).cast nbuf0_7)
  bd := win0_8.stage (cfg0.slots t 8)
  bdW := hstage0_8 ((cfg0.slots t 8).cast nbuf0_8)
  wi := win0_9.stage (cfg0.slots t 9)
  wiW := hstage0_9 ((cfg0.slots t 9).cast nbuf0_9)
  bi := win0_10.stage (cfg0.slots t 10)
  biW := hstage0_10 ((cfg0.slots t 10).cast nbuf0_10)
  b1 := win0_11.stage (cfg0.slots t 11)
  b1W := hstage0_11 ((cfg0.slots t 11).cast nbuf0_11)
  b2 := win0_12.stage (cfg0.slots t 12)
  b2W := hstage0_12 ((cfg0.slots t 12).cast nbuf0_12)
  op := win0_13.stage (cfg0.slots t 13)
  opW := hstage0_13 ((cfg0.slots t 13).cast nbuf0_13)
  oh := win0_14.stage (cfg0.slots t 14)
  ohW := hstage0_14 ((cfg0.slots t 14).cast nbuf0_14)
  oc := win0_15.stage (cfg0.slots t 15)
  ocW := hstage0_15 ((cfg0.slots t 15).cast nbuf0_15)
  oa := win0_16.stage (cfg0.slots t 16)
  oaW := hstage0_16 ((cfg0.slots t 16).cast nbuf0_16)
  ov := win0_17.stage (cfg0.slots t 17)
  ovW := hstage0_17 ((cfg0.slots t 17).cast nbuf0_17)

theorem bodyAt_eq (t : Fin cfg0.N) : bodyAt0 (F := F) t = bodyOf t (stgAt t) := rfl

/-- The buffer of the whole memref `M`, held outright at `f`. -/
abbrev whl (c : Dev nD) {sp : Space} {S : Shape} {e : EltTy} (M : Memref sig .tc sp S e) (f : BufOf F c M) : sProp 𝕄 := M.view.loc (c : Thread nD τ) ↦{fullShare} f

/-- The point `t` satisfies `P`'s negation, as the conditions take it. -/
theorem nc {p q : Prop} (h : p ↔ q) (hq : ¬q) : ¬p := fun hp => hq (h.1 hp)

end Cert.KernelIdeal.Run
-- ==== Proof.Flow.lean ====
module

public import proofs.«01_k».proof.Proof.Slots
public import Idealize.ShloMosaic.Lib.ValueIdx
public import Idealize.ShloMosaic.Lib.WritesUnit
public import Idealize.ShloMosaic.Lib.VecWindow
public import Idealize.ShloMosaic.Lib.WholeRead
public import Idealize.ShloMosaic.Lib.Pipeline.Value

@[expose] public section

set_option maxRecDepth 16384

noncomputable section

/-! What every array of the kernel holds, as functions of the arrays the region was entered with: block by block, in the
    kernel's own operations. -/

namespace Cert.KernelIdeal.Run

open Idealize.ShloMosaic Idealize.ShloMosaic.TcCoe
open Idealize.SL Idealize.SL.Sem
open Cert.KernelIdeal Cert.KernelIdeal.Gen
open Idealize.ShloMosaic.Ring (sl bk)
open Idealize.ShloMosaic.ValueIdx (ix2 eq_ix2 idx2_lt0 idx2_lt1)

variable {F : FTy → Type} [FloatOps F]

/-- What the region is entered with: the thirteen staged arrays and the five streamed ones. -/
structure Inp (F : FTy → Type) where
  x : Vec F S1x512 .f32
  h0 : Vec F S1x1024 .f32
  c0 : Vec F S1x1024 .f32
  aw : Vec F S1x2048 .f32
  cv : Vec F S1x2048 .f32
  bg : Vec F S1x4096 .f32
  we : Vec F S1024x2048 .bf16
  wd : Vec F S1024x1024 .f32
  bd : Vec F S1x1024 .f32
  wi : Vec F S1x1024 .f32
  bi : Vec F S1x1 .f32
  b1 : Vec F S1x1024 .f32
  b2 : Vec F S1x50688 .f32
  ih : Vec F S4096x512 .f32
  hh : Vec F S4096x1024 .f32
  en : Vec F S2048x2048 .f32
  pv : Vec F S1024x3072 .f32
  vo : Vec F S50000x1024 .f32

/-- Columns `w * b` and on of a row, `w` of them. -/
def cols {e : EltTy} {N : Nat} (w : Nat) (V : Vec F ⟨2, ![1, N]⟩ e) (b : Nat) (h : w * b + w ≤ N) : Vec F ⟨2, ![1, w]⟩ e :=
  fun j => V (ix2 0 ⟨w * b + (j 1).val, by have := idx2_lt1 j; omega⟩)

/-- The row glued from `n` chunks of `w` columns. -/
def glue {e : EltTy} {N : Nat} (w n : Nat) (hN : N = w * n) (hw : 0 < w) (p : Fin n → Vec F ⟨2, ![1, w]⟩ e) : Vec F ⟨2, ![1, N]⟩ e :=
  fun i => p ⟨(i 1).val / w, Nat.div_lt_of_lt_mul (hN ▸ idx2_lt1 i)⟩ (ix2 0 ⟨(i 1).val % w, Nat.mod_lt _ hw⟩)

theorem glue_at {e : EltTy} {N : Nat} (w n : Nat) (hN : N = w * n) (hw : 0 < w) (p : Fin n → Vec F ⟨2, ![1, w]⟩ e) (b : Fin n) (j : (⟨2, ![1, w]⟩ : Shape).Idx)
    (i : (⟨2, ![1, N]⟩ : Shape).Idx) (hi : (i 1).val = w * b.val + (j 1).val) : glue w n hN hw p i = p b j := by
  have hj := idx2_lt1 j
  unfold glue
  have h1 : (i 1).val / w = b.val := by rw [hi, Nat.mul_add_div hw, Nat.div_eq_of_lt hj, Nat.add_zero]
  have h2 : (i 1).val % w = (j 1).val := by rw [hi, Nat.mul_add_mod, Nat.mod_eq_of_lt hj]
  have e1 : (⟨(i 1).val / w, Nat.div_lt_of_lt_mul (hN ▸ idx2_lt1 i)⟩ : Fin n) = b := Fin.ext h1
  rw [e1]
  refine congrArg _ ?_
  rw [eq_ix2 j]
  refine congrArg₂ ix2 (Fin.ext ?_) (Fin.ext h2)
  have := idx2_lt0 j
  show 0 = (j 0).val
  omega

/-- The first `k` columns of `g` are those of `V`. -/
def Upto {e : EltTy} {N : Nat} (g V : Vec F ⟨2, ![1, N]⟩ e) (k : Nat) : Prop := ∀ i, (i 1).val < k → g i = V i

theorem Upto.all {e : EltTy} {N : Nat} {g V : Vec F ⟨2, ![1, N]⟩ e} (h : Upto g V N) : g = V := funext fun i => h i (idx2_lt1 i)

theorem casts_ih : S512x512.ShapeCasts S1x512x512 := by decide
theorem casts_ih' : S1x512x512.ShapeCasts S512x512 := by decide
theorem casts_hh : S512x1024.ShapeCasts S1x512x1024 := by decide
theorem casts_hh' : S1x512x1024.ShapeCasts S512x1024 := by decide
theorem casts_en : S256x2048.ShapeCasts S1x256x2048 := by decide
theorem casts_en' : S1x256x2048.ShapeCasts S256x2048 := by decide
theorem casts_pv : S256x3072.ShapeCasts S1x256x3072 := by decide
theorem casts_pv' : S1x256x3072.ShapeCasts S256x3072 := by decide
theorem casts_vo : S1536x1024.ShapeCasts S1x1536x1024 := by decide
theorem casts_vo' : S1x1536x1024.ShapeCasts S1536x1024 := by decide

variable (I : Inp F)

/-! ### The recurrent cell -/

/-- Block `b` of the input weights, as a slot of their ring shows it. -/
def ldI (b : Fin 8) : Vec F S1x512x512 .f32 := shapeCast S1x512x512 ((ihB b).view.read (Elt F) I.ih) casts_ih
def ldH (b : Fin 8) : Vec F S1x512x1024 .f32 := shapeCast S1x512x1024 ((hhB b).view.read (Elt F) I.hh) casts_hh
/-- Chunk `b` of the gates. -/
def gch (b : Fin 8) : Vec F S1x512 .f32 :=
  k0_pay1 (k0_pay21 I.x) (k0_pay22 (ldI I b)) I.h0 (ldH I b) (cols 512 (N := 4096) I.bg b.val (by have := b.isLt; omega))
/-- The gates. -/
def gV : Vec F S1x4096 .f32 := glue 512 8 (by decide) (by decide) (gch I)
/-- The new hidden and cell states. -/
def hV : Vec F S1x1024 .f32 := k0_pay3 (gV I) I.c0
def cV : Vec F S1x1024 .f32 := k0_pay2 (gV I) I.c0
/-- The hidden state as the scratch keeps it. -/
def hN : Vec F S1x1024 .f32 := k0_pay4 (gV I) I.c0

/-! ### The attention -/

/-- The decoder's part of the scores. -/
def sT : Vec F S1x1024 .f32 := k0_pay5 (hN I) I.wd I.bd
def ldE (b : Fin 8) : Vec F S1x256x2048 .f32 := shapeCast S1x256x2048 ((enB b).view.read (Elt F) I.en) casts_en
/-- Chunk `b` of the scores, before its bias, -/
def ePre (b : Fin 8) : Vec F S1x256 .f32 := k0_pay24 (ldE I b) I.we (sT I) I.wi
/-- and with it. -/
def ech (b : Fin 8) : Vec F S1x256 .f32 := k0_pay8 (ePre I b) I.bi
def eV : Vec F S1x2048 .f32 := glue 256 8 (by decide) (by decide) (ech I)
/-- The running maximum, the running sum and the running context after `n` blocks. -/
def stt : ℕ → F .f32 × F .f32 × Vec F S1x2048 .f32
  | 0 => (Scalar.ofBits .f32 0xFF800000#32, Scalar.ofBits .f32 0x00000000#32, k0_pay6)
  | n + 1 =>
    (k0_pay9 (ePre I (bk 8 n)) I.bi (stt n).1,
     k0_pay13 (ePre I (bk 8 n)) I.bi (stt n).1 (stt n).2.1,
     k0_pay12 (k0_pay23 (ldE I (bk 8 n))) (ePre I (bk 8 n)) I.bi (stt n).1 (stt n).2.2)
/-- The attention weights and the context. -/
def aV : Vec F S1x2048 .f32 := k0_pay15 (stt I 8).2.1 (eV I) (stt I 8).1
def ctx : Vec F S1x2048 .f32 := k0_pay16 (stt I 8).2.1 (stt I 8).2.2

/-! ### The two projections -/

def ldP (b : Fin 4) : Vec F S1x256x3072 .f32 := shapeCast S1x256x3072 ((pvB b).view.read (Elt F) I.pv) casts_pv
/-- Chunk `b` of the first projection. -/
def pch (b : Fin 4) : Vec F S1x256 .f32 :=
  k0_pay17 (k0_pay25 (ldP I b) (hN I) (ctx I) (cols 256 (N := 1024) I.b1 b.val (by have := b.isLt; omega)))
def pV : Vec F S1x1024 .f32 := glue 256 4 (by decide) (by decide) (pch I)
/-- What a slot of the vocabulary ring shows at the step of block `b`: a block of 1536 rows; at the last, short one its 848
    rows, over what the slot held before. -/
def vRaw (b : Fin 33) : Vec F S1536x1024 .f32 :=
  if h : b.val < 32 then (voB ⟨b.val, h⟩).view.read (Elt F) I.vo
  else fun j => if h : (j 0).val < 848 then vtB.view.read (Elt F) I.vo (ix2 ⟨(j 0).val, h⟩ (j 1)) else (voB 29).view.read (Elt F) I.vo j
def ldV (b : Fin 33) : Vec F S1x1536x1024 .f32 := shapeCast S1x1536x1024 (vRaw I b) casts_vo
/-- Chunk `b` of the second projection. -/
def vch (b : Fin 33) : Vec F S1x1536 .f32 := k0_pay18 (pV I) (ldV I b)
def vV : Vec F S1x50688 .f32 := glue 1536 33 (by decide) (by decide) (vch I)
/-- The distribution over the vocabulary, and the coverage. -/
def oV : Vec F S1x50000 .f32 := k0_pay19 (vV I) I.b2
def covV : Vec F S1x2048 .f32 := k0_pay20 I.cv I.aw

/-! ### Reading and writing -/

section ReadWrite
variable {sp : Space} {S : Shape} {e : EltTy}

/-- A load of all of a staging buffer. -/
theorem ld_all {M : Memref sig .tc sp S e} (h : M.IsWhole) (x : Vec F S e) {off : Fin S.rank → ℕ} (inb) :
    M.view.readAt (Elt F) (Rect.unit off S.size inb).toLoadRect (h.unread x) = x :=
  (View.readAt_full M.view (h.unread x) inb).trans (h.read_unread x)

/-- A load of a chunk of columns of a staging buffer that is one row. -/
theorem ld_cols {N w : Nat} {M : Memref sig .tc sp ⟨2, ![1, N]⟩ e} (h : M.IsWhole) (x : Vec F ⟨2, ![1, N]⟩ e) {off : Fin 2 → ℕ} (b : ℕ) (ho : off = ![0, w * b]) (inb) (hb : w * b + w ≤ N) :
    M.view.readAt (Elt F) (Rect.unit (s := ⟨2, ![1, N]⟩) off ![1, w] inb).toLoadRect (h.unread x) = cols w x b hb := by
  subst ho
  funext j
  rw [Memref.IsWhole.readAt_unread]
  unfold cols
  refine congrArg x (funext fun a => Fin.ext ?_)
  match a with
  | ⟨0, _⟩ =>
    show 0 + 1 * (j 0).val = 0
    have : (j 0).val < 1 := (j 0).isLt
    omega
  | ⟨1, _⟩ => show w * b + 1 * (j 1).val = w * b + (j 1).val; omega

/-- A store of the next chunk of columns extends the columns that are known. -/
theorem Upto.step {N w : Nat} {M : Memref sig .tc sp ⟨2, ![1, N]⟩ e} {g : M.view.ty.Contents (Elt F)} {V : Vec F ⟨2, ![1, N]⟩ e} {off : Fin 2 → ℕ} (b : ℕ) (ho : off = ![0, w * b]) (inb)
    {p : Vec F ⟨2, ![1, w]⟩ e} (h : Upto (M.view.read (Elt F) g) V (w * b)) (hp : ∀ (j : (⟨2, ![1, w]⟩ : Shape).Idx) (i : (⟨2, ![1, N]⟩ : Shape).Idx), (i 1).val = w * b + (j 1).val → p j = V i) :
    Upto (M.view.read (Elt F) (M.view.writes (Elt F) g [⟨Rect.unit (s := ⟨2, ![1, N]⟩) off ![1, w] inb, p⟩])) V (w * (b + 1)) := by
  intro i hi
  have hi0 := idx2_lt0 i
  by_cases hlt : (i 1).val < w * b
  · rw [View.read_writes_cons_unit_of_not_mem M.view g inb p [] i ho 1 (Or.inl (by show (i 1).val < w * b; exact hlt))]
    exact h i hlt
  · have hlt2 : (i 1).val < w * b + w := by rw [Nat.mul_add, Nat.mul_one] at hi; exact hi
    have hj : (i 1).val = w * b + ((ix2 (0 : Fin 1) ⟨(i 1).val - w * b, by omega⟩ : (⟨2, ![1, w]⟩ : Shape).Idx) 1).val := by
      show (i 1).val = w * b + ((i 1).val - w * b); omega
    rw [View.read_writes_cons_unit_of_mem M.view g inb p [] i (ix2 (0 : Fin 1) ⟨(i 1).val - w * b, by omega⟩) ho (fun a => by
      match a with
      | ⟨0, _⟩ => show (i 0).val = 0 + 0; omega
      | ⟨1, _⟩ => exact hj)]
    exact hp _ i hj
end ReadWrite

/-! ### What a slot shows once its block has landed -/

section Show

/-- A load of a squeezed slice's rectangle of an array shows what the squeezed slice reads. -/
theorem shows_slot {κ : Kind} {sp : Space} {s s' : Shape} {e : EltTy} {M : Memref sig κ sp s e} {r : Rect s} {hr : ∀ a, r.stride a = 1} {hq : r.shape.Squeezes s'} {f : M.view.ty.Contents (Elt F)}
    {X : Vec F s' e} (hf : ((M.slice r hr).squeeze s' hq).view.read (Elt F) f = X) (hc : s'.ShapeCasts r.shape) (hc' : r.shape.ShapeCasts s') :
    M.view.readAt (Elt F) r.toLoadRect f = shapeCast r.shape X hc := by
  rw [← hf, Memref.read_squeeze_slice (hc := hc'), shapeCast_shapeCast]

variable (c : Dev nD) (s : Fin 3)

theorem shows_ih (b : Fin 8) (f : BufOf F c (ihS s)) {o : Fin 3 → Nat} (h : o = ![s.val, 0, 0]) (inb) :
    (Memref.whole cc0_scratch8).view.readAt (Elt F) (Rect.unit (s := S3x512x512) o S1x512x512.size inb).toLoadRect (landed c (ihS s) (ihB b) I.ih f) = ldI I b := by
  subst h
  exact shows_slot (M := Memref.whole cc0_scratch8) (View.read_writes_whole (Val := Elt F) (ihS s).view f (ReadAs.same.apply ((ihB b).view.read (Elt F) I.ih))) (hr := fun _ => rfl) (hq := squeezes_S1x512x512_S512x512) casts_ih casts_ih'

theorem shows_hh (b : Fin 8) (f : BufOf F c (hhS s)) {o : Fin 3 → Nat} (h : o = ![s.val, 0, 0]) (inb) :
    (Memref.whole cc0_scratch9).view.readAt (Elt F) (Rect.unit (s := S3x512x1024) o S1x512x1024.size inb).toLoadRect (landed c (hhS s) (hhB b) I.hh f) = ldH I b := by
  subst h
  exact shows_slot (M := Memref.whole cc0_scratch9) (View.read_writes_whole (Val := Elt F) (hhS s).view f (ReadAs.same.apply ((hhB b).view.read (Elt F) I.hh))) (hr := fun _ => rfl) (hq := squeezes_S1x512x1024_S512x1024) casts_hh casts_hh'

theorem shows_en (b : Fin 8) (f : BufOf F c (enS s)) {o : Fin 3 → Nat} (h : o = ![s.val, 0, 0]) (inb) :
    (Memref.whole cc0_scratch10).view.readAt (Elt F) (Rect.unit (s := S3x256x2048) o S1x256x2048.size inb).toLoadRect (landed c (enS s) (enB b) I.en f) = ldE I b := by
  subst h
  exact shows_slot (M := Memref.whole cc0_scratch10) (View.read_writes_whole (Val := Elt F) (enS s).view f (ReadAs.same.apply ((enB b).view.read (Elt F) I.en))) (hr := fun _ => rfl) (hq := squeezes_S1x256x2048_S256x2048) casts_en casts_en'

theorem shows_pv (b : Fin 4) (f : BufOf F c (pvS s)) {o : Fin 3 → Nat} (h : o = ![s.val, 0, 0]) (inb) :
    (Memref.whole cc0_scratch11).view.readAt (Elt F) (Rect.unit (s := S3x256x3072) o S1x256x3072.size inb).toLoadRect (landed c (pvS s) (pvB b) I.pv f) = ldP I b := by
  subst h
  exact shows_slot (M := Memref.whole cc0_scratch11) (View.read_writes_whole (Val := Elt F) (pvS s).view f (ReadAs.same.apply ((pvB b).view.read (Elt F) I.pv))) (hr := fun _ => rfl) (hq := squeezes_S1x256x3072_S256x3072) casts_pv casts_pv'

/-- The vocabulary ring's slot, at any contents it reads as `b`'s rows. -/
theorem shows_vo (b : Fin 33) (f : BufOf F c (voS s)) (hf : (voS s).view.read (Elt F) f = vRaw I b) {o : Fin 3 → Nat} (h : o = ![s.val, 0, 0]) (inb) :
    (Memref.whole cc0_scratch12).view.readAt (Elt F) (Rect.unit (s := S3x1536x1024) o S1x1536x1024.size inb).toLoadRect f = ldV I b := by
  subst h
  exact shows_slot (M := Memref.whole cc0_scratch12) hf (hr := fun _ => rfl) (hq := squeezes_S1x1536x1024_S1536x1024) casts_vo casts_vo'
end Show

end Cert.KernelIdeal.Run
-- ==== Proof.State.lean ====
module

public import proofs.«01_k».proof.Proof.Flow

@[expose] public section

set_option maxRecDepth 16384

noncomputable section

/-! What a step finds and leaves: the five rings of copies and the eight scratch arrays, as functions of the step. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Ring (sl bk)
open Idealize.ShloMosaic.ValueIdx (ix2 eq_ix2 idx2_lt0 idx2_lt1)

variable {F : FTy → Type} [FloatOps F]

local notation "𝕄" => MT nD τ sig Unit (Elt F) ℕ (Pipeline.UD sig nD τ) ℕ

/-! ### The rings -/

/-- Three slots, from the slot of `k` on, and what each is doing. -/
def ring {β : Type} (cell : Fin 3 → β → sProp 𝕄) (k : ℕ) (o0 o1 o2 : β) : sProp 𝕄 := iprop(cell (sl 3 k) o0 ∗ cell (sl 3 (k + 1)) o1 ∗ cell (sl 3 (k + 2)) o2)

omit [FloatOps F] in
theorem ring_next {β : Type} (cell : Fin 3 → β → sProp 𝕄) (k : ℕ) (a b d : β) :
    ring cell (k + 1) a b d = iprop(cell (sl 3 (k + 1)) a ∗ cell (sl 3 (k + 2)) b ∗ cell (sl 3 k) d) := by
  unfold ring
  rw [show k + 1 + 2 = k + 3 from rfl, Ring.sl_add]

section Cells
variable (c : Dev nD)

/-- A slot of the input weights' ring: free, or awaiting a block; and so for the other rings. -/
abbrev cellI (W : BufOf F c (Memref.whole main_arg7)) (s : Fin 3) : Option (Fin 8) → sProp 𝕄
  | none => idle c (ihS s) (cel cc0_scratch13 s) (entire c (Memref.whole main_arg7) (third s) W)
  | some b => busy c (ihS s) (cel cc0_scratch13 s) (ihB b) (third s) W
abbrev cellH (W : BufOf F c (Memref.whole main_arg8)) (s : Fin 3) : Option (Fin 8) → sProp 𝕄
  | none => idle c (hhS s) (cel cc0_scratch14 s) (entire c (Memref.whole main_arg8) (third s) W)
  | some b => busy c (hhS s) (cel cc0_scratch14 s) (hhB b) (third s) W
abbrev cellE (W : BufOf F c (Memref.whole main_arg4)) (s : Fin 3) : Option (Fin 8) → sProp 𝕄
  | none => idle c (enS s) (cel cc0_scratch15 s) (entire c (Memref.whole main_arg4) (third s) W)
  | some b => busy c (enS s) (cel cc0_scratch15 s) (enB b) (third s) W
abbrev cellP (W : BufOf F c (Memref.whole main_arg17)) (s : Fin 3) : Option (Fin 4) → sProp 𝕄
  | none => idle c (pvS s) (cel cc0_scratch16 s) (entire c (Memref.whole main_arg17) (third s) W)
  | some b => busy c (pvS s) (cel cc0_scratch16 s) (pvB b) (third s) W

/-- What a slot of the vocabulary ring is doing: nothing; nothing, and it still holds a block; awaiting a block; or awaiting
    the short last block, the rows past it still those of block 29. -/
inductive Doing | free | keeps (b : Fin 32) | flies (b : Fin 32) | last

/-- The contents `f` of slot `s` read as block `b`. -/
def Keeps (W : BufOf F c (Memref.whole main_arg19)) (s : Fin 3) (b : Fin 32) (f : BufOf F c (voS s)) : Prop :=
  (voS s).view.read (Elt F) f = (voB b).view.read (Elt F) (W : BufOf F c (voB b))

abbrev cellV (W : BufOf F c (Memref.whole main_arg19)) (s : Fin 3) : Doing → sProp 𝕄
  | .free => idle c (voS s) (cel cc0_scratch17 s) (entire c (Memref.whole main_arg19) (third s) W)
  | .keeps b => iprop(semVal ((c : Thread nD τ), SemLoc.dma (cel cc0_scratch17 s).sem) 0 ∗ (∃ f, ⌜Keeps c W s b f⌝ ∗ held c (voS s) f) ∗ entire c (Memref.whole main_arg19) (third s) W)
  | .flies b => busy c (voS s) (cel cc0_scratch17 s) (voB b) (third s) W
  | .last => iprop((∃ f, ⌜Keeps c W s 29 f⌝ ∗ flying c (vtS s) (cel cc0_scratch17 s) vtB (third s) W f
      ∗ (voS s).view.loc (c : Thread nD τ) ↦[(voS s).view.set \ (vtS s).view.set]{fullShare} f) ∗ others c vtB (third s) W)

/-- The rings before step `t`. -/
def RI (W : BufOf F c (Memref.whole main_arg7)) (t : ℕ) : sProp 𝕄 :=
  ring (cellI c W) t (if 1 ≤ t ∧ t < 8 then some (bk 8 t) else none) (if 1 ≤ t ∧ t < 7 then some (bk 8 (t + 1)) else none) none
def RH (W : BufOf F c (Memref.whole main_arg8)) (t : ℕ) : sProp 𝕄 :=
  ring (cellH c W) t (if 1 ≤ t ∧ t < 8 then some (bk 8 t) else none) (if 1 ≤ t ∧ t < 7 then some (bk 8 (t + 1)) else none) none
def RE (W : BufOf F c (Memref.whole main_arg4)) (t : ℕ) : sProp 𝕄 :=
  ring (cellE c W) t (if 9 ≤ t ∧ t < 17 then some (bk 8 (t - 9)) else none) (if 8 ≤ t ∧ t < 16 then some (bk 8 (t - 8)) else none)
    (if 7 ≤ t ∧ t < 10 then some (bk 8 (t - 7)) else none)
def RP (W : BufOf F c (Memref.whole main_arg17)) (t : ℕ) : sProp 𝕄 :=
  ring (cellP c W) (t + 1) (if 17 ≤ t ∧ t < 21 then some (bk 4 (t - 17)) else none) (if 16 ≤ t ∧ t < 20 then some (bk 4 (t - 16)) else none)
    (if 15 ≤ t ∧ t < 18 then some (bk 4 (t - 15)) else none)
/-- What the three slots of the vocabulary ring do before step `t`. -/
def v0 (t : ℕ) : Doing :=
  if 21 ≤ t ∧ t < 53 then .flies (bk 32 (t - 21)) else if t = 53 then .last else if 18 ≤ t ∧ t < 20 then .flies (bk 32 (t - 18)) else .free
def v1 (t : ℕ) : Doing := if 20 ≤ t ∧ t < 52 then .flies (bk 32 (t - 20)) else if t = 52 then .last else .free
def v2 (t : ℕ) : Doing := if 19 ≤ t ∧ t < 21 then .flies (bk 32 (t - 19)) else if 22 ≤ t ∧ t < 52 then .keeps (bk 32 (t - 22)) else .free
def RV (W : BufOf F c (Memref.whole main_arg19)) (t : ℕ) : sProp 𝕄 := ring (cellV c W) t (v0 t) (v1 t) (v2 t)

section Eq
variable {c}

theorem RI_eq {W : BufOf F c (Memref.whole main_arg7)} {t : ℕ} {a b : Option (Fin 8)} (ha : (if 1 ≤ t ∧ t < 8 then some (bk 8 t) else none) = a)
    (hb : (if 1 ≤ t ∧ t < 7 then some (bk 8 (t + 1)) else none) = b) :
    RI c W t = iprop(cellI c W (sl 3 t) a ∗ cellI c W (sl 3 (t + 1)) b ∗ cellI c W (sl 3 (t + 2)) none) := by subst ha hb; rfl
theorem RI_succ {W : BufOf F c (Memref.whole main_arg7)} {t : ℕ} {a b : Option (Fin 8)} (ha : (if 1 ≤ t + 1 ∧ t + 1 < 8 then some (bk 8 (t + 1)) else none) = a)
    (hb : (if 1 ≤ t + 1 ∧ t + 1 < 7 then some (bk 8 (t + 2)) else none) = b) :
    RI c W (t + 1) = iprop(cellI c W (sl 3 (t + 1)) a ∗ cellI c W (sl 3 (t + 2)) b ∗ cellI c W (sl 3 t) none) := by subst ha hb; exact ring_next ..
theorem RH_eq {W : BufOf F c (Memref.whole main_arg8)} {t : ℕ} {a b : Option (Fin 8)} (ha : (if 1 ≤ t ∧ t < 8 then some (bk 8 t) else none) = a)
    (hb : (if 1 ≤ t ∧ t < 7 then some (bk 8 (t + 1)) else none) = b) :
    RH c W t = iprop(cellH c W (sl 3 t) a ∗ cellH c W (sl 3 (t + 1)) b ∗ cellH c W (sl 3 (t + 2)) none) := by subst ha hb; rfl
theorem RH_succ {W : BufOf F c (Memref.whole main_arg8)} {t : ℕ} {a b : Option (Fin 8)} (ha : (if 1 ≤ t + 1 ∧ t + 1 < 8 then some (bk 8 (t + 1)) else none) = a)
    (hb : (if 1 ≤ t + 1 ∧ t + 1 < 7 then some (bk 8 (t + 2)) else none) = b) :
    RH c W (t + 1) = iprop(cellH c W (sl 3 (t + 1)) a ∗ cellH c W (sl 3 (t + 2)) b ∗ cellH c W (sl 3 t) none) := by subst ha hb; exact ring_next ..
theorem RE_eq {W : BufOf F c (Memref.whole main_arg4)} {t : ℕ} {a b d : Option (Fin 8)} (ha : (if 9 ≤ t ∧ t < 17 then some (bk 8 (t - 9)) else none) = a)
    (hb : (if 8 ≤ t ∧ t < 16 then some (bk 8 (t - 8)) else none) = b) (hd : (if 7 ≤ t ∧ t < 10 then some (bk 8 (t - 7)) else none) = d) :
    RE c W t = iprop(cellE c W (sl 3 t) a ∗ cellE c W (sl 3 (t + 1)) b ∗ cellE c W (sl 3 (t + 2)) d) := by subst ha hb hd; rfl
theorem RE_succ {W : BufOf F c (Memref.whole main_arg4)} {t : ℕ} {a b d : Option (Fin 8)} (ha : (if 9 ≤ t + 1 ∧ t + 1 < 17 then some (bk 8 (t + 1 - 9)) else none) = a)
    (hb : (if 8 ≤ t + 1 ∧ t + 1 < 16 then some (bk 8 (t + 1 - 8)) else none) = b) (hd : (if 7 ≤ t + 1 ∧ t + 1 < 10 then some (bk 8 (t + 1 - 7)) else none) = d) :
    RE c W (t + 1) = iprop(cellE c W (sl 3 (t + 1)) a ∗ cellE c W (sl 3 (t + 2)) b ∗ cellE c W (sl 3 t) d) := by subst ha hb hd; exact ring_next ..
theorem RP_eq {W : BufOf F c (Memref.whole main_arg17)} {t : ℕ} {a b d : Option (Fin 4)} (ha : (if 17 ≤ t ∧ t < 21 then some (bk 4 (t - 17)) else none) = a)
    (hb : (if 16 ≤ t ∧ t < 20 then some (bk 4 (t - 16)) else none) = b) (hd : (if 15 ≤ t ∧ t < 18 then some (bk 4 (t - 15)) else none) = d) :
    RP c W t = iprop(cellP c W (sl 3 (t + 1)) a ∗ cellP c W (sl 3 (t + 2)) b ∗ cellP c W (sl 3 (t + 3)) d) := by subst ha hb hd; rfl
theorem RP_succ {W : BufOf F c (Memref.whole main_arg17)} {t : ℕ} {a b d : Option (Fin 4)} (ha : (if 17 ≤ t + 1 ∧ t + 1 < 21 then some (bk 4 (t + 1 - 17)) else none) = a)
    (hb : (if 16 ≤ t + 1 ∧ t + 1 < 20 then some (bk 4 (t + 1 - 16)) else none) = b) (hd : (if 15 ≤ t + 1 ∧ t + 1 < 18 then some (bk 4 (t + 1 - 15)) else none) = d) :
    RP c W (t + 1) = iprop(cellP c W (sl 3 (t + 2)) a ∗ cellP c W (sl 3 (t + 3)) b ∗ cellP c W (sl 3 (t + 1)) d) := by subst ha hb hd; exact ring_next ..
theorem RV_eq {W : BufOf F c (Memref.whole main_arg19)} {t : ℕ} {a b d : Doing} (ha : v0 t = a) (hb : v1 t = b) (hd : v2 t = d) :
    RV c W t = iprop(cellV c W (sl 3 t) a ∗ cellV c W (sl 3 (t + 1)) b ∗ cellV c W (sl 3 (t + 2)) d) := by subst ha hb hd; rfl
theorem RV_succ {W : BufOf F c (Memref.whole main_arg19)} {t : ℕ} {a b d : Doing} (ha : v0 (t + 1) = a) (hb : v1 (t + 1) = b) (hd : v2 (t + 1) = d) :
    RV c W (t + 1) = iprop(cellV c W (sl 3 (t + 1)) a ∗ cellV c W (sl 3 (t + 2)) b ∗ cellV c W (sl 3 t) d) := by subst ha hb hd; exact ring_next ..
end Eq

/-- The slots move up a step with nothing done. -/
theorem turn {P Q R : sProp 𝕄} : iprop(P ∗ Q ∗ R) ⊢ iprop(Q ∗ R ∗ P) := by
  iintro ⟨H1, H2, H3⟩
  isplitl [H2]; · iexact H2
  isplitl [H3]; · iexact H3
  iexact H1

theorem RI_rest (W : BufOf F c (Memref.whole main_arg7)) (t : ℕ) (h : 8 ≤ t) : RI c W t ⊢ RI c W (t + 1) := by
  rw [RI_eq (a := none) (b := none) (if_neg (by omega)) (if_neg (by omega)), RI_succ (a := none) (b := none) (if_neg (by omega)) (if_neg (by omega))]
  exact turn
theorem RH_rest (W : BufOf F c (Memref.whole main_arg8)) (t : ℕ) (h : 8 ≤ t) : RH c W t ⊢ RH c W (t + 1) := by
  rw [RH_eq (a := none) (b := none) (if_neg (by omega)) (if_neg (by omega)), RH_succ (a := none) (b := none) (if_neg (by omega)) (if_neg (by omega))]
  exact turn
theorem RE_rest (W : BufOf F c (Memref.whole main_arg4)) (t : ℕ) (h : t < 6 ∨ 17 ≤ t) : RE c W t ⊢ RE c W (t + 1) := by
  rw [RE_eq (a := none) (b := none) (d := none) (if_neg (by omega)) (if_neg (by omega)) (if_neg (by omega)),
    RE_succ (a := none) (b := none) (d := none) (if_neg (by omega)) (if_neg (by omega)) (if_neg (by omega))]
  exact turn
theorem RP_rest (W : BufOf F c (Memref.whole main_arg17)) (t : ℕ) (h : t < 14 ∨ 21 ≤ t) : RP c W t ⊢ RP c W (t + 1) := by
  rw [RP_eq (a := none) (b := none) (d := none) (if_neg (by omega)) (if_neg (by omega)) (if_neg (by omega)),
    RP_succ (a := none) (b := none) (d := none) (if_neg (by omega)) (if_neg (by omega)) (if_neg (by omega))]
  exact turn
theorem v0_free {t : ℕ} (h : t < 18 ∨ t = 20 ∨ 54 ≤ t) : v0 t = .free := by
  unfold v0; rw [if_neg (by omega), if_neg (by omega), if_neg (by omega)]
theorem v1_free {t : ℕ} (h : t < 20 ∨ 53 ≤ t) : v1 t = .free := by unfold v1; rw [if_neg (by omega), if_neg (by omega)]
theorem v2_free {t : ℕ} (h : t < 19 ∨ t = 21 ∨ 52 ≤ t) : v2 t = .free := by unfold v2; rw [if_neg (by omega), if_neg (by omega)]
theorem v0_flies {t : ℕ} (h : 21 ≤ t ∧ t < 53) : v0 t = .flies (bk 32 (t - 21)) := if_pos h
theorem v0_early {t : ℕ} (h : 18 ≤ t ∧ t < 20) : v0 t = .flies (bk 32 (t - 18)) := by unfold v0; rw [if_neg (by omega), if_neg (by omega), if_pos h]
theorem v1_flies {t : ℕ} (h : 20 ≤ t ∧ t < 52) : v1 t = .flies (bk 32 (t - 20)) := if_pos h
theorem v2_flies {t : ℕ} (h : 19 ≤ t ∧ t < 21) : v2 t = .flies (bk 32 (t - 19)) := if_pos h
theorem v2_keeps {t : ℕ} (h : 22 ≤ t ∧ t < 52) : v2 t = .keeps (bk 32 (t - 22)) := by unfold v2; rw [if_neg (by omega), if_pos h]

theorem RV_rest (W : BufOf F c (Memref.whole main_arg19)) (t : ℕ) (h : t < 17) : RV c W t ⊢ RV c W (t + 1) := by
  rw [RV_eq (v0_free (by omega)) (v1_free (by omega)) (v2_free (by omega)), RV_succ (v0_free (by omega)) (v1_free (by omega)) (v2_free (by omega))]
  exact turn
theorem RV_rest19 (W : BufOf F c (Memref.whole main_arg19)) (t : ℕ) (h : t = 19) : RV c W t ⊢ RV c W (t + 1) := by
  rw [RV_eq (v0_early (by omega)) (v1_free (by omega)) (v2_flies (by omega)), RV_succ (v0_free (by omega)) (v1_flies (by omega)) (v2_flies (by omega))]
  subst h
  exact turn
theorem RV_rest20 (W : BufOf F c (Memref.whole main_arg19)) (t : ℕ) (h : t = 20) : RV c W t ⊢ RV c W (t + 1) := by
  rw [RV_eq (v0_free (by omega)) (v1_flies (by omega)) (v2_flies (by omega)), RV_succ (v0_flies (by omega)) (v1_flies (by omega)) (v2_free (by omega))]
  subst h
  exact turn
/-- A slot that keeps a block is free. -/
theorem keeps_free (W : BufOf F c (Memref.whole main_arg19)) (s : Fin 3) (b : Fin 32) : cellV c W s (.keeps b) ⊢ cellV c W s .free := by
  iintro ⟨H1, ⟨%f, -, H2⟩, H3⟩
  isplitl [H1]; · iexact H1
  isplitl [H2]; · iexists f; iexact H2
  iexact H3

/-! ### The scratch arrays -/

/-- An array whose contents satisfy `P`. -/
abbrev dat {sp : Space} {S : Shape} {e : EltTy} (M : Memref sig .tc sp S e) (P : Vec F S e → Prop) : sProp 𝕄 := iprop(∃ f, ⌜P (M.view.read (Elt F) f)⌝ ∗ whl c M f)

theorem dat_mono {sp : Space} {S : Shape} {e : EltTy} {M : Memref sig .tc sp S e} {P Q : Vec F S e → Prop} (h : ∀ f, P f → Q f) : dat c M P ⊢ dat c M Q := by
  iintro ⟨%f, %hf, H⟩
  iexists f
  isplitr; · ipureintro; exact h _ hf
  iexact H

theorem dat_close {sp : Space} {S : Shape} {e : EltTy} {M : Memref sig .tc sp S e} {P : Vec F S e → Prop} {g : BufOf F c M} (h : P (M.view.read (Elt F) g)) : whl c M g ⊢ dat c M P := by
  iintro H
  iexists g
  isplitr; · ipureintro; exact h
  iexact H

variable (I : Inp F) (t : ℕ)

/-- The gates known so far; the hidden state; the decoder's score; the scores known so far; the running context; the first
    projection so far; the second so far; the running maximum and sum. -/
def D0 : sProp 𝕄 := dat c (Memref.whole cc0_scratch0) fun f => Upto (e := .f32) (N := 4096) f (gV I) (512 * min t 8)
def D1 : sProp 𝕄 := dat c (Memref.whole cc0_scratch1) fun f => 8 ≤ t → f = hN I
def D2 : sProp 𝕄 := dat c (Memref.whole cc0_scratch2) fun f => 9 ≤ t → f = sT I
def D3 : sProp 𝕄 := dat c (Memref.whole cc0_scratch3) fun f => Upto (e := .f32) (N := 2048) f (eV I) (256 * min (t - 9) 8)
def D4 : sProp 𝕄 := dat c (Memref.whole cc0_scratch4) fun f => (9 ≤ t → t < 17 → f = (stt I (t - 9)).2.2) ∧ (17 ≤ t → f = ctx I)
def D5 : sProp 𝕄 := dat c (Memref.whole cc0_scratch5) fun f => Upto (e := .f32) (N := 1024) f (pV I) (256 * min (t - 17) 4)
def D6 : sProp 𝕄 := dat c (Memref.whole cc0_scratch6) fun f => Upto (e := .f32) (N := 50688) f (vV I) (1536 * (t - 21))
def D7 : sProp 𝕄 := dat c (Memref.whole cc0_scratch7) fun f => 9 ≤ t → t < 17 → f (ValueIdx.ix1 0) = (stt I (t - 9)).1 ∧ f (ValueIdx.ix1 1) = (stt I (t - 9)).2.1

section Open
variable {c I t}
theorem D0_open : D0 c I t ⊢ (dat c (Memref.whole cc0_scratch0) fun f => Upto (e := .f32) (N := 4096) f (gV I) (512 * min t 8) : sProp 𝕄) := .rfl
theorem D0_close {g : BufOf F c (Memref.whole cc0_scratch0)} (hg : (fun f : Vec F _ _ => Upto (e := .f32) (N := 4096) f (gV I) (512 * min t 8)) ((Memref.whole cc0_scratch0).view.read (Elt F) g)) : whl c (Memref.whole cc0_scratch0) g ⊢ D0 c I t := by
  unfold D0; exact dat_close (M := (Memref.whole cc0_scratch0)) c hg
theorem D1_open : D1 c I t ⊢ (dat c (Memref.whole cc0_scratch1) fun f => 8 ≤ t → f = hN I : sProp 𝕄) := .rfl
theorem D1_close {g : BufOf F c (Memref.whole cc0_scratch1)} (hg : (fun f : Vec F _ _ => 8 ≤ t → f = hN I) ((Memref.whole cc0_scratch1).view.read (Elt F) g)) : whl c (Memref.whole cc0_scratch1) g ⊢ D1 c I t := by
  unfold D1; exact dat_close (M := (Memref.whole cc0_scratch1)) c hg
theorem D2_open : D2 c I t ⊢ (dat c (Memref.whole cc0_scratch2) fun f => 9 ≤ t → f = sT I : sProp 𝕄) := .rfl
theorem D2_close {g : BufOf F c (Memref.whole cc0_scratch2)} (hg : (fun f : Vec F _ _ => 9 ≤ t → f = sT I) ((Memref.whole cc0_scratch2).view.read (Elt F) g)) : whl c (Memref.whole cc0_scratch2) g ⊢ D2 c I t := by
  unfold D2; exact dat_close (M := (Memref.whole cc0_scratch2)) c hg
theorem D3_open : D3 c I t ⊢ (dat c (Memref.whole cc0_scratch3) fun f => Upto (e := .f32) (N := 2048) f (eV I) (256 * min (t - 9) 8) : sProp 𝕄) := .rfl
theorem D3_close {g : BufOf F c (Memref.whole cc0_scratch3)} (hg : (fun f : Vec F _ _ => Upto (e := .f32) (N := 2048) f (eV I) (256 * min (t - 9) 8)) ((Memref.whole cc0_scratch3).view.read (Elt F) g)) : whl c (Memref.whole cc0_scratch3) g ⊢ D3 c I t := by
  unfold D3; exact dat_close (M := (Memref.whole cc0_scratch3)) c hg
theorem D4_open : D4 c I t ⊢ (dat c (Memref.whole cc0_scratch4) fun f => (9 ≤ t → t < 17 → f = (stt I (t - 9)).2.2) ∧ (17 ≤ t → f = ctx I) : sProp 𝕄) := .rfl
theorem D4_close {g : BufOf F c (Memref.whole cc0_scratch4)} (hg : (fun f : Vec F _ _ => (9 ≤ t → t < 17 → f = (stt I (t - 9)).2.2) ∧ (17 ≤ t → f = ctx I)) ((Memref.whole cc0_scratch4).view.read (Elt F) g)) : whl c (Memref.whole cc0_scratch4) g ⊢ D4 c I t := by
  unfold D4; exact dat_close (M := (Memref.whole cc0_scratch4)) c hg
theorem D5_open : D5 c I t ⊢ (dat c (Memref.whole cc0_scratch5) fun f => Upto (e := .f32) (N := 1024) f (pV I) (256 * min (t - 17) 4) : sProp 𝕄) := .rfl
theorem D5_close {g : BufOf F c (Memref.whole cc0_scratch5)} (hg : (fun f : Vec F _ _ => Upto (e := .f32) (N := 1024) f (pV I) (256 * min (t - 17) 4)) ((Memref.whole cc0_scratch5).view.read (Elt F) g)) : whl c (Memref.whole cc0_scratch5) g ⊢ D5 c I t := by
  unfold D5; exact dat_close (M := (Memref.whole cc0_scratch5)) c hg
theorem D6_open : D6 c I t ⊢ (dat c (Memref.whole cc0_scratch6) fun f => Upto (e := .f32) (N := 50688) f (vV I) (1536 * (t - 21)) : sProp 𝕄) := .rfl
theorem D6_close {g : BufOf F c (Memref.whole cc0_scratch6)} (hg : (fun f : Vec F _ _ => Upto (e := .f32) (N := 50688) f (vV I) (1536 * (t - 21))) ((Memref.whole cc0_scratch6).view.read (Elt F) g)) : whl c (Memref.whole cc0_scratch6) g ⊢ D6 c I t := by
  unfold D6; exact dat_close (M := (Memref.whole cc0_scratch6)) c hg
theorem D7_open : D7 c I t ⊢ (dat c (Memref.whole cc0_scratch7) fun f => 9 ≤ t → t < 17 → f (ValueIdx.ix1 0) = (stt I (t - 9)).1 ∧ f (ValueIdx.ix1 1) = (stt I (t - 9)).2.1 : sProp 𝕄) := .rfl
theorem D7_close {g : BufOf F c (Memref.whole cc0_scratch7)} (hg : (fun f : Vec F _ _ => 9 ≤ t → t < 17 → f (ValueIdx.ix1 0) = (stt I (t - 9)).1 ∧ f (ValueIdx.ix1 1) = (stt I (t - 9)).2.1) ((Memref.whole cc0_scratch7).view.read (Elt F) g)) : whl c (Memref.whole cc0_scratch7) g ⊢ D7 c I t := by
  unfold D7; exact dat_close (M := (Memref.whole cc0_scratch7)) c hg
end Open

/-- What the thread owes, whatever it is. -/
def ow : sProp 𝕄 := iprop(∃ W, owes (c : Thread nD τ) 0 (W : Waits sig Unit))
end Cells

end Cert.KernelIdeal.Run
-- ==== Proof.State2.lean ====
module

public import proofs.«01_k».proof.Proof.State

@[expose] public section

set_option maxRecDepth 16384

noncomputable section

/-! A step's whole state, its operands and its results; and what a step leaves untouched, read one step later. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Ring (sl bk)

variable {F : FTy → Type} [FloatOps F]

local notation "𝕄" => MT nD τ sig Unit (Elt F) ℕ (Pipeline.UD sig nD τ) ℕ

variable (c : Dev nD) (I : Inp F)

theorem D0_rest {t : ℕ} (h : 8 ≤ t) : D0 c I t ⊢ D0 c I (t + 1) := by
  unfold D0; rw [show min (t + 1) 8 = min t 8 by omega]
theorem D1_rest {t : ℕ} (h : t < 7 ∨ 8 ≤ t) : D1 c I t ⊢ D1 c I (t + 1) := by
  unfold D1; exact dat_mono c fun _ H _ => H (by omega)
theorem D2_rest {t : ℕ} (h : t < 8 ∨ 9 ≤ t) : D2 c I t ⊢ D2 c I (t + 1) := by
  unfold D2; exact dat_mono c fun _ H _ => H (by omega)
theorem D3_rest {t : ℕ} (h : t < 9 ∨ 17 ≤ t) : D3 c I t ⊢ D3 c I (t + 1) := by
  unfold D3; rw [show min (t + 1 - 9) 8 = min (t - 9) 8 by omega]
theorem D4_rest {t : ℕ} (h : t < 8 ∨ 17 ≤ t) : D4 c I t ⊢ D4 c I (t + 1) := by
  unfold D4; exact dat_mono c fun _ H => ⟨fun _ _ => absurd h (by omega), fun _ => H.2 (by omega)⟩
theorem D5_rest {t : ℕ} (h : t < 17 ∨ 21 ≤ t) : D5 c I t ⊢ D5 c I (t + 1) := by
  unfold D5; rw [show min (t + 1 - 17) 4 = min (t - 17) 4 by omega]
theorem D6_rest {t : ℕ} (h : t < 21) : D6 c I t ⊢ D6 c I (t + 1) := by
  unfold D6; rw [show t + 1 - 21 = t - 21 by omega]
theorem D7_rest {t : ℕ} (h : t < 8 ∨ 16 ≤ t) : D7 c I t ⊢ D7 c I (t + 1) := by
  unfold D7; exact dat_mono c fun _ H _ _ => absurd h (by omega)

/-- The state before step `t`. -/
def St (t : ℕ) : sProp 𝕄 :=
  iprop(RI c I.ih t ∗ RH c I.hh t ∗ RE c I.en t ∗ RP c I.pv t ∗ RV c I.vo t
    ∗ D0 c I t ∗ D1 c I t ∗ D2 c I t ∗ D3 c I t ∗ D4 c I t ∗ D5 c I t ∗ D6 c I t ∗ D7 c I t)

variable (S : Stg)

/-- The operands of a step, each in its staging buffer. -/
def Ops : sProp 𝕄 :=
  iprop(owns (c : Thread nD τ) S.x fullShare I.x ∗ owns (c : Thread nD τ) S.h0 fullShare I.h0 ∗ owns (c : Thread nD τ) S.c0 fullShare I.c0
    ∗ owns (c : Thread nD τ) S.aw fullShare I.aw ∗ owns (c : Thread nD τ) S.cv fullShare I.cv ∗ owns (c : Thread nD τ) S.bg fullShare I.bg
    ∗ owns (c : Thread nD τ) S.we fullShare I.we ∗ owns (c : Thread nD τ) S.wd fullShare I.wd ∗ owns (c : Thread nD τ) S.bd fullShare I.bd
    ∗ owns (c : Thread nD τ) S.wi fullShare I.wi ∗ owns (c : Thread nD τ) S.bi fullShare I.bi ∗ owns (c : Thread nD τ) S.b1 fullShare I.b1
    ∗ owns (c : Thread nD τ) S.b2 fullShare I.b2)

/-- The staging buffers of the results, at given contents. -/
def Res (xp : Vec F S1x50000 .f32) (xh xc : Vec F S1x1024 .f32) (xa xv : Vec F S1x2048 .f32) : sProp 𝕄 :=
  iprop(owns (c : Thread nD τ) S.op fullShare xp ∗ owns (c : Thread nD τ) S.oh fullShare xh ∗ owns (c : Thread nD τ) S.oc fullShare xc
    ∗ owns (c : Thread nD τ) S.oa fullShare xa ∗ owns (c : Thread nD τ) S.ov fullShare xv)

/-- What step `t` does: it moves the state on, gives the operands back, and stores the results due at it. -/
def Does (t : Fin grid0.N) (xp yp : Vec F S1x50000 .f32) (xh xc yh yc : Vec F S1x1024 .f32) (xa xv ya yv : Vec F S1x2048 .f32) : Prop :=
  ∀ K : PUnit → sProp 𝕄, iprop(Ops c I S ∗ St c I t.val ∗ ow c ∗ Res c S xp xh xc xa xv
      ∗ (iprop(Ops c I S ∗ St c I (t.val + 1) ∗ ow c ∗ Res c S yp yh yc ya yv) -∗ K PUnit.unit))
    ⊢ wp frame (wpE (defs₀ (F := F)) Variants.none c none) Set.univ (bodyOf t S) K

end Cert.KernelIdeal.Run
-- ==== Proof.Chunks.lean ====
module

public import proofs.«01_k».proof.Proof.State
public import Idealize.ShloMosaic.Lib.CellWrites

@[expose] public section

set_option maxRecDepth 16384

noncomputable section

/-! What a step's stores leave in the scratch arrays. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Ring (sl bk)

variable {F : FTy → Type} [FloatOps F]

local notation "𝕄" => MT nD τ sig Unit (Elt F) ℕ (Pipeline.UD sig nD τ) ℕ

theorem bk_val {n t : ℕ} [NeZero n] (h : t < n) : (bk n t).val = t := Nat.mod_eq_of_lt h

/-- Chunk `b` of the gates, from what the step's loads show; and so for the scores and the two projections. -/
theorem gch_of (I : Inp F) (b : Fin 8) {x : Vec F S1x512 .f32} {wi : Vec F S1x512x512 .f32} {h : Vec F S1x1024 .f32} {wh : Vec F S1x512x1024 .f32} {bg : Vec F S1x512 .f32}
    (e1 : x = I.x) (e2 : wi = ldI I b) (e3 : h = I.h0) (e4 : wh = ldH I b) (e5 : bg = cols 512 (N := 4096) I.bg b.val (by have := b.isLt; omega))
    (j : (⟨2, ![1, 512]⟩ : Shape).Idx) (i : (⟨2, ![1, 4096]⟩ : Shape).Idx) (hi : (i 1).val = 512 * b.val + (j 1).val) :
    k0_pay1 (k0_pay21 x) (k0_pay22 wi) h wh bg j = gV I i := by
  subst e1 e2 e3 e4 e5
  exact (glue_at (N := 4096) 512 8 (by decide) (by decide) (gch I) b j i hi).symm
theorem ech_of (I : Inp F) (b : Fin 8) {v44 : Vec F S1x256x2048 .f32} {we : Vec F S1024x2048 .bf16} {s wi : Vec F S1x1024 .f32} {bi : Vec F S1x1 .f32}
    (e1 : v44 = ldE I b) (e2 : we = I.we) (e3 : s = sT I) (e4 : wi = I.wi) (e5 : bi = I.bi)
    (j : (⟨2, ![1, 256]⟩ : Shape).Idx) (i : (⟨2, ![1, 2048]⟩ : Shape).Idx) (hi : (i 1).val = 256 * b.val + (j 1).val) :
    k0_pay8 (k0_pay24 v44 we s wi) bi j = eV I i := by
  subst e1 e2 e3 e4 e5
  exact (glue_at (N := 2048) 256 8 (by decide) (by decide) (ech I) b j i hi).symm
theorem pch_of (I : Inp F) (b : Fin 4) {v41 : Vec F S1x256x3072 .f32} {h : Vec F S1x1024 .f32} {x : Vec F S1x2048 .f32} {b1 : Vec F S1x256 .f32}
    (e1 : v41 = ldP I b) (e2 : h = hN I) (e3 : x = ctx I) (e4 : b1 = cols 256 (N := 1024) I.b1 b.val (by have := b.isLt; omega))
    (j : (⟨2, ![1, 256]⟩ : Shape).Idx) (i : (⟨2, ![1, 1024]⟩ : Shape).Idx) (hi : (i 1).val = 256 * b.val + (j 1).val) :
    k0_pay17 (k0_pay25 v41 h x b1) j = pV I i := by
  subst e1 e2 e3 e4
  exact (glue_at (N := 1024) 256 4 (by decide) (by decide) (pch I) b j i hi).symm
theorem vch_of (I : Inp F) (b : Fin 33) {a : Vec F S1x1024 .f32} {v36 : Vec F S1x1536x1024 .f32} (e1 : a = pV I) (e2 : v36 = ldV I b)
    (j : (⟨2, ![1, 1536]⟩ : Shape).Idx) (i : (⟨2, ![1, 50688]⟩ : Shape).Idx) (hi : (i 1).val = 1536 * b.val + (j 1).val) :
    k0_pay18 a v36 j = vV I i := by
  subst e1 e2
  exact (glue_at (N := 50688) 1536 33 (by decide) (by decide) (vch I) b j i hi).symm

/-- The gates known after step `t`. -/
theorem gates_grow (c : Dev nD) (I : Inp F) (t : ℕ) (ht : t < 8) {f : BufOf F c (Memref.whole cc0_scratch0)} (hf : Upto (e := .f32) (N := 4096) f (gV I) (512 * min t 8))
    {o : Fin 2 → ℕ} (ho : o = ![0, 512 * (bk 8 t).val]) (inb) {p : Vec F ⟨2, ![1, 512]⟩ .f32}
    (hp : ∀ (j : (⟨2, ![1, 512]⟩ : Shape).Idx) (i : (⟨2, ![1, 4096]⟩ : Shape).Idx), (i 1).val = 512 * (bk 8 t).val + (j 1).val → p j = gV I i) :
    Upto (e := .f32) (N := 4096) ((Memref.whole cc0_scratch0).view.read (Elt F) ((Memref.whole cc0_scratch0).view.writes (Elt F) f [⟨Rect.unit (s := S1x4096) o ![1, 512] inb, p⟩])) (gV I) (512 * min (t + 1) 8) := by
  rw [Nat.min_eq_left (by omega : t + 1 ≤ 8)]
  rw [Nat.min_eq_left (by omega : t ≤ 8)] at hf
  rw [bk_val ht] at hp ho
  exact Upto.step (M := Memref.whole cc0_scratch0) t ho inb hf hp
/-- The scores known after step `t`. -/
theorem scores_grow (c : Dev nD) (I : Inp F) (t : ℕ) (ht : 9 ≤ t ∧ t < 17) {f : BufOf F c (Memref.whole cc0_scratch3)} (hf : Upto (e := .f32) (N := 2048) f (eV I) (256 * min (t - 9) 8))
    {o : Fin 2 → ℕ} (ho : o = ![0, 256 * (bk 8 (t - 9)).val]) (inb) {p : Vec F ⟨2, ![1, 256]⟩ .f32}
    (hp : ∀ (j : (⟨2, ![1, 256]⟩ : Shape).Idx) (i : (⟨2, ![1, 2048]⟩ : Shape).Idx), (i 1).val = 256 * (bk 8 (t - 9)).val + (j 1).val → p j = eV I i) :
    Upto (e := .f32) (N := 2048) ((Memref.whole cc0_scratch3).view.read (Elt F) ((Memref.whole cc0_scratch3).view.writes (Elt F) f [⟨Rect.unit (s := S1x2048) o ![1, 256] inb, p⟩])) (eV I) (256 * min (t + 1 - 9) 8) := by
  rw [show min (t + 1 - 9) 8 = t - 9 + 1 by omega]
  rw [Nat.min_eq_left (by omega : t - 9 ≤ 8)] at hf
  rw [bk_val (by omega : t - 9 < 8)] at hp ho
  exact Upto.step (M := Memref.whole cc0_scratch3) (t - 9) ho inb hf hp
/-- The first projection's columns known after step `t`, -/
theorem proj_grow (c : Dev nD) (I : Inp F) (t : ℕ) (ht : 17 ≤ t ∧ t < 21) {f : BufOf F c (Memref.whole cc0_scratch5)} (hf : Upto (e := .f32) (N := 1024) f (pV I) (256 * min (t - 17) 4))
    {o : Fin 2 → ℕ} (ho : o = ![0, 256 * (bk 4 (t - 17)).val]) (inb) {p : Vec F ⟨2, ![1, 256]⟩ .f32}
    (hp : ∀ (j : (⟨2, ![1, 256]⟩ : Shape).Idx) (i : (⟨2, ![1, 1024]⟩ : Shape).Idx), (i 1).val = 256 * (bk 4 (t - 17)).val + (j 1).val → p j = pV I i) :
    Upto (e := .f32) (N := 1024) ((Memref.whole cc0_scratch5).view.read (Elt F) ((Memref.whole cc0_scratch5).view.writes (Elt F) f [⟨Rect.unit (s := S1x1024) o ![1, 256] inb, p⟩])) (pV I) (256 * min (t + 1 - 17) 4) := by
  rw [show min (t + 1 - 17) 4 = t - 17 + 1 by omega]
  rw [Nat.min_eq_left (by omega : t - 17 ≤ 4)] at hf
  rw [bk_val (by omega : t - 17 < 4)] at hp ho
  exact Upto.step (M := Memref.whole cc0_scratch5) (t - 17) ho inb hf hp
/-- and the second's. -/
theorem vocab_grow (c : Dev nD) (I : Inp F) (t : ℕ) (ht : 21 ≤ t ∧ t < 54) {f : BufOf F c (Memref.whole cc0_scratch6)} (hf : Upto (e := .f32) (N := 50688) f (vV I) (1536 * (t - 21)))
    {o : Fin 2 → ℕ} (ho : o = ![0, 1536 * (bk 33 (t - 21)).val]) (inb) {p : Vec F ⟨2, ![1, 1536]⟩ .f32}
    (hp : ∀ (j : (⟨2, ![1, 1536]⟩ : Shape).Idx) (i : (⟨2, ![1, 50688]⟩ : Shape).Idx), (i 1).val = 1536 * (bk 33 (t - 21)).val + (j 1).val → p j = vV I i) :
    Upto (e := .f32) (N := 50688) ((Memref.whole cc0_scratch6).view.read (Elt F) ((Memref.whole cc0_scratch6).view.writes (Elt F) f [⟨Rect.unit (s := S1x50688) o ![1, 1536] inb, p⟩])) (vV I) (1536 * (t + 1 - 21)) := by
  rw [show t + 1 - 21 = t - 21 + 1 by omega]
  rw [bk_val (by omega : t - 21 < 33)] at hp ho
  exact Upto.step (M := Memref.whole cc0_scratch6) (t - 21) ho inb hf hp

/-- A store over all of an array leaves its payload. -/
theorem st_all {sp : Space} {S : Shape} {e : EltTy} {M : Memref sig .tc sp S e} (f : M.view.ty.Contents (Elt F)) {off : Fin S.rank → ℕ} (inb) {p q : Vec F S e} (h : p = q) :
    M.view.read (Elt F) (M.view.writes (Elt F) f [⟨Rect.unit off S.size inb, p⟩]) = q := h ▸ View.read_writes_full M.view f inb p []
/-- A load of all of a scratch array. -/
theorem lds {b : Ref sig .tc} {off : Fin b.ty.shape.rank → ℕ} (f : (Memref.whole b).view.ty.Contents (Elt F)) (inb) {v : Vec F b.ty.shape b.ty.elt} (h : (Memref.whole b).view.read (Elt F) f = v) :
    (Memref.whole b).view.readAt (Elt F) (Rect.unit off b.ty.shape.size inb).toLoadRect f = v := (View.readAt_full _ f inb).trans h

/-- A load of all the gates after the last chunk's store shows the gates. -/
theorem gates_all (c : Dev nD) (I : Inp F) (t : ℕ) (ht : t = 7) {f : BufOf F c (Memref.whole cc0_scratch0)} (hf : Upto (e := .f32) (N := 4096) f (gV I) (512 * min t 8))
    {o : Fin 2 → ℕ} (ho : o = ![0, 512 * (bk 8 t).val]) {inb} {p : Vec F ⟨2, ![1, 512]⟩ .f32}
    (hp : ∀ (j : (⟨2, ![1, 512]⟩ : Shape).Idx) (i : (⟨2, ![1, 4096]⟩ : Shape).Idx), (i 1).val = 512 * (bk 8 t).val + (j 1).val → p j = gV I i)
    {o' : Fin 2 → ℕ} {inb'} :
    (Memref.whole cc0_scratch0).view.readAt (Elt F) (Rect.unit (s := S1x4096) o' S1x4096.size inb').toLoadRect
      ((Memref.whole cc0_scratch0).view.writes (Elt F) f [⟨Rect.unit (s := S1x4096) o ![1, 512] inb, p⟩]) = gV I :=
  (View.readAt_full _ _ inb').trans (Upto.all (N := 4096) (by have h := gates_grow c I t (by omega) hf ho inb hp; subst ht; exact h))
/-- A load of all the scores after the last chunk's store shows the scores, -/
theorem scores_all (c : Dev nD) (I : Inp F) (t : ℕ) (ht : t = 16) {f : BufOf F c (Memref.whole cc0_scratch3)} (hf : Upto (e := .f32) (N := 2048) f (eV I) (256 * min (t - 9) 8))
    {o : Fin 2 → ℕ} (ho : o = ![0, 256 * (bk 8 (t - 9)).val]) {inb} {p : Vec F ⟨2, ![1, 256]⟩ .f32}
    (hp : ∀ (j : (⟨2, ![1, 256]⟩ : Shape).Idx) (i : (⟨2, ![1, 2048]⟩ : Shape).Idx), (i 1).val = 256 * (bk 8 (t - 9)).val + (j 1).val → p j = eV I i)
    {o' : Fin 2 → ℕ} {inb'} :
    (Memref.whole cc0_scratch3).view.readAt (Elt F) (Rect.unit (s := S1x2048) o' S1x2048.size inb').toLoadRect
      ((Memref.whole cc0_scratch3).view.writes (Elt F) f [⟨Rect.unit (s := S1x2048) o ![1, 256] inb, p⟩]) = eV I :=
  (View.readAt_full _ _ inb').trans (Upto.all (N := 2048) (by have h := scores_grow c I t (by omega) hf ho inb hp; subst ht; exact h))
/-- and so for the vocabulary. -/
theorem vocab_all (c : Dev nD) (I : Inp F) (t : ℕ) (ht : t = 53) {f : BufOf F c (Memref.whole cc0_scratch6)} (hf : Upto (e := .f32) (N := 50688) f (vV I) (1536 * (t - 21)))
    {o : Fin 2 → ℕ} (ho : o = ![0, 1536 * (bk 33 (t - 21)).val]) {inb} {p : Vec F ⟨2, ![1, 1536]⟩ .f32}
    (hp : ∀ (j : (⟨2, ![1, 1536]⟩ : Shape).Idx) (i : (⟨2, ![1, 50688]⟩ : Shape).Idx), (i 1).val = 1536 * (bk 33 (t - 21)).val + (j 1).val → p j = vV I i)
    {o' : Fin 2 → ℕ} {inb'} :
    (Memref.whole cc0_scratch6).view.readAt (Elt F) (Rect.unit (s := S1x50688) o' S1x50688.size inb').toLoadRect
      ((Memref.whole cc0_scratch6).view.writes (Elt F) f [⟨Rect.unit (s := S1x50688) o ![1, 1536] inb, p⟩]) = vV I :=
  (View.readAt_full _ _ inb').trans (Upto.all (N := 50688) (by have h := vocab_grow c I t (by omega) hf ho inb hp; subst ht; exact h))
/-- The whole first projection once its four chunks are stored, -/
theorem proj_done (I : Inp F) (t : ℕ) (ht : 21 ≤ t) {f : Vec F S1x1024 .f32} (hf : Upto (e := .f32) (N := 1024) f (pV I) (256 * min (t - 17) 4)) : f = pV I :=
  Upto.all (N := 1024) (by rw [show min (t - 17) 4 = 4 by omega] at hf; exact hf)
theorem oV_of (I : Inp F) {a b : Vec F S1x50688 .f32} (e1 : a = vV I) (e2 : b = I.b2) : k0_pay19 a b = oV I := by subst e1 e2; rfl
/-- The last of several stores over all of an array leaves its payload. -/
theorem st_top {sp : Space} {S : Shape} {e : EltTy} {M : Memref sig .tc sp S e} (f : M.view.ty.Contents (Elt F)) (L) {off : Fin S.rank → ℕ} (inb) {p q : Vec F S e} (h : p = q) :
    M.view.read (Elt F) (M.view.writes (Elt F) f (⟨Rect.unit off S.size inb, p⟩ :: L)) = q := h ▸ View.read_writes_full M.view f inb p L
/-- The results of the recurrent cell, from what its loads show. -/
theorem hV_of (I : Inp F) {g : Vec F S1x4096 .f32} {x : Vec F S1x1024 .f32} (e1 : g = gV I) (e2 : x = I.c0) : k0_pay3 g x = hV I := by subst e1 e2; rfl
theorem cV_of (I : Inp F) {g : Vec F S1x4096 .f32} {x : Vec F S1x1024 .f32} (e1 : g = gV I) (e2 : x = I.c0) : k0_pay2 g x = cV I := by subst e1 e2; rfl
theorem covV_of (I : Inp F) {g x : Vec F S1x2048 .f32} (e1 : g = I.cv) (e2 : x = I.aw) : k0_pay20 g x = covV I := by subst e1 e2; rfl
theorem hN_of (I : Inp F) {g : Vec F S1x4096 .f32} {x : Vec F S1x1024 .f32} (e1 : g = gV I) (e2 : x = I.c0) : k0_pay4 g x = hN I := by subst e1 e2; rfl

theorem sT_of (I : Inp F) {g x : Vec F S1x1024 .f32} {w : Vec F S1024x1024 .f32} (e1 : g = hN I) (e2 : w = I.wd) (e3 : x = I.bd) : k0_pay5 g w x = sT I := by subst e1 e2 e3; rfl
theorem aV_of (I : Inp F) {s m : F .f32} {e : Vec F S1x2048 .f32} (e1 : s = (stt I 8).2.1) (e2 : e = eV I) (e3 : m = (stt I 8).1) : k0_pay15 s e m = aV I := by subst e1 e2 e3; rfl
theorem ctx_of (I : Inp F) {s : F .f32} {a : Vec F S1x2048 .f32} (e1 : s = (stt I 8).2.1) (e2 : a = (stt I 8).2.2) : k0_pay16 s a = ctx I := by subst e1 e2; rfl

/-- The running maximum, sum and context after step `t`, from what its loads show. -/
theorem max_of (I : Inp F) (t : ℕ) (ht : 9 ≤ t) {v44 : Vec F S1x256x2048 .f32} {we : Vec F S1024x2048 .bf16} {s wi : Vec F S1x1024 .f32} {bi : Vec F S1x1 .f32} {m : F .f32}
    (e1 : v44 = ldE I (bk 8 (t - 9))) (e2 : we = I.we) (e3 : s = sT I) (e4 : wi = I.wi) (e5 : bi = I.bi) (e6 : m = (stt I (t - 9)).1) :
    k0_pay9 (k0_pay24 v44 we s wi) bi m = (stt I (t + 1 - 9)).1 := by
  subst e1 e2 e3 e4 e5 e6; rw [show t + 1 - 9 = t - 9 + 1 by omega]; rfl
theorem sum_of (I : Inp F) (t : ℕ) (ht : 9 ≤ t) {v44 : Vec F S1x256x2048 .f32} {we : Vec F S1024x2048 .bf16} {s wi : Vec F S1x1024 .f32} {bi : Vec F S1x1 .f32} {m u : F .f32}
    (e1 : v44 = ldE I (bk 8 (t - 9))) (e2 : we = I.we) (e3 : s = sT I) (e4 : wi = I.wi) (e5 : bi = I.bi) (e6 : m = (stt I (t - 9)).1) (e7 : u = (stt I (t - 9)).2.1) :
    k0_pay13 (k0_pay24 v44 we s wi) bi m u = (stt I (t + 1 - 9)).2.1 := by
  subst e1 e2 e3 e4 e5 e6 e7; rw [show t + 1 - 9 = t - 9 + 1 by omega]; rfl
theorem acc_of (I : Inp F) (t : ℕ) (ht : 9 ≤ t) {v44 : Vec F S1x256x2048 .f32} {we : Vec F S1024x2048 .bf16} {s wi : Vec F S1x1024 .f32} {bi : Vec F S1x1 .f32} {m : F .f32} {a : Vec F S1x2048 .f32}
    (e1 : v44 = ldE I (bk 8 (t - 9))) (e2 : we = I.we) (e3 : s = sT I) (e4 : wi = I.wi) (e5 : bi = I.bi) (e6 : m = (stt I (t - 9)).1) (e7 : a = (stt I (t - 9)).2.2) :
    k0_pay12 (k0_pay23 v44) (k0_pay24 v44 we s wi) bi m a = (stt I (t + 1 - 9)).2.2 := by
  subst e1 e2 e3 e4 e5 e6 e7; rw [show t + 1 - 9 = t - 9 + 1 by omega]; rfl

/-- A load of one of the two scalars. -/
theorem ld_cell (f : (Memref.whole cc0_scratch7).view.ty.Contents (Elt F)) (k : Fin 2) {off : Fin 1 → ℕ} (ho : off 0 = k.val) (inb) (h) {v : F .f32} (hv : (Memref.whole cc0_scratch7).view.read (Elt F) f (ValueIdx.ix1 k) = v) :
    (Memref.whole cc0_scratch7).view.readAt (Elt F) (Rect.unit (s := S2) off S1.size inb).toLoadRect f (Shape.Idx.first h) = v := by
  subst hv
  refine congrArg ((Memref.whole cc0_scratch7).view.read (Elt F) f) (funext fun a => Fin.ext ?_)
  have ha : a = (0 : Fin 1) := Subsingleton.elim (α := Fin 1) _ _
  subst ha
  show off 0 + 1 * 0 = k.val
  omega
/-- Stores of both scalars, the first one last, leave both; -/
theorem two_cells (f : (Memref.whole cc0_scratch7).view.ty.Contents (Elt F)) (i0) (i1) {p q p' q' : F .f32} (hp : p = p') (hq : q = q') :
    (Memref.whole cc0_scratch7).view.read (Elt F) ((Memref.whole cc0_scratch7).view.writes (Elt F) f [⟨Rect.unit (s := S2) ![0] ![1] i0, fun _ => p⟩, ⟨Rect.unit (s := S2) ![1] ![1] i1, fun _ => q⟩]) (ValueIdx.ix1 0) = p'
    ∧ (Memref.whole cc0_scratch7).view.read (Elt F) ((Memref.whole cc0_scratch7).view.writes (Elt F) f [⟨Rect.unit (s := S2) ![0] ![1] i0, fun _ => p⟩, ⟨Rect.unit (s := S2) ![1] ![1] i1, fun _ => q⟩]) (ValueIdx.ix1 1) = q' := by
  subst hp hq
  constructor
  · exact (View.read_writes_cons_cell (Memref.whole cc0_scratch7).view f i0 p _ _).trans (if_pos rfl)
  · exact (View.read_writes_cons_cell (Memref.whole cc0_scratch7).view f i0 p _ _).trans ((if_neg (by decide)).trans ((View.read_writes_cons_cell (Memref.whole cc0_scratch7).view f i1 q _ _).trans (if_pos rfl)))
/-- and so with the second one last. -/
theorem two_cells' (f : (Memref.whole cc0_scratch7).view.ty.Contents (Elt F)) (i0) (i1) {p q p' q' : F .f32} (hp : p = p') (hq : q = q') :
    (Memref.whole cc0_scratch7).view.read (Elt F) ((Memref.whole cc0_scratch7).view.writes (Elt F) f [⟨Rect.unit (s := S2) ![1] ![1] i1, fun _ => q⟩, ⟨Rect.unit (s := S2) ![0] ![1] i0, fun _ => p⟩]) (ValueIdx.ix1 0) = p'
    ∧ (Memref.whole cc0_scratch7).view.read (Elt F) ((Memref.whole cc0_scratch7).view.writes (Elt F) f [⟨Rect.unit (s := S2) ![1] ![1] i1, fun _ => q⟩, ⟨Rect.unit (s := S2) ![0] ![1] i0, fun _ => p⟩]) (ValueIdx.ix1 1) = q' := by
  subst hp hq
  constructor
  · exact (View.read_writes_cons_cell (Memref.whole cc0_scratch7).view f i1 q _ _).trans ((if_neg (by decide)).trans ((View.read_writes_cons_cell (Memref.whole cc0_scratch7).view f i0 p _ _).trans (if_pos rfl)))
  · exact (View.read_writes_cons_cell (Memref.whole cc0_scratch7).view f i1 q _ _).trans (if_pos rfl)

end Cert.KernelIdeal.Run
-- ==== Proof.CaseA.lean ====
module

public import proofs.«01_k».proof.Proof.Chunks

@[expose] public section

set_option maxRecDepth 16384

noncomputable section

/-! Step 0: the coverage is stored, the first three pairs of blocks of the gate weights are sent for, and the first pair's
    chunk of the gates is stored. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Ring (sl bk)

variable {F : FTy → Type} [FloatOps F]

local notation "𝕄" => MT nD τ sig Unit (Elt F) ℕ (Pipeline.UD sig nD τ) ℕ

set_option maxHeartbeats 4000000 in
theorem runA (c : Dev nD) (t : Fin grid0.N) (ht : t.val = 0) (S : Stg) (I : Inp F) (K : PUnit → sProp 𝕄) :
   iprop(owns (c : Thread nD τ) S.x fullShare I.x ∗ owns (c : Thread nD τ) S.h0 fullShare I.h0 ∗ owns (c : Thread nD τ) S.bg fullShare I.bg ∗ owns (c : Thread nD τ) S.cv fullShare I.cv
      ∗ owns (c : Thread nD τ) S.aw fullShare I.aw ∗ (∃ d, owns (c : Thread nD τ) S.ov fullShare d)
      ∗ D0 c I t.val ∗ RI c I.ih t.val ∗ RH c I.hh t.val ∗ ow c
      ∗ (iprop(owns (c : Thread nD τ) S.x fullShare I.x ∗ owns (c : Thread nD τ) S.h0 fullShare I.h0 ∗ owns (c : Thread nD τ) S.bg fullShare I.bg ∗ owns (c : Thread nD τ) S.cv fullShare I.cv
        ∗ owns (c : Thread nD τ) S.aw fullShare I.aw ∗ owns (c : Thread nD τ) S.ov fullShare (covV I)
        ∗ D0 c I (t.val + 1) ∗ RI c I.ih (t.val + 1) ∗ RH c I.hh (t.val + 1) ∗ ow c) -∗ K PUnit.unit))
   ⊢ wp frame (wpE (defs₀ (F := F)) Variants.none c none) Set.univ (bodyOf t S) K := by
  have h1 := (c1 t).2 (by omega)
  have h2 := (c2 t).2 ht
  have h3 := nc (c3 t) (by omega)
  have h4 := nc (c4 t (by omega)) (by omega)
  have h5 := nc (c5 t) (by omega)
  have h6 := nc (c6 t) (by omega)
  have h7 := nc (c7 t) (by omega)
  have h10 := nc (c10 t) (by omega)
  have h11 := nc (c11 t) (by omega)
  have h18 := nc (c18 t) (by omega)
  rw [RI_eq (a := none) (b := none) (if_neg (by omega)) (if_neg (by omega)), RI_succ (if_pos (by omega)) (if_pos (by omega)),
    RH_eq (a := none) (b := none) (if_neg (by omega)) (if_neg (by omega)), RH_succ (if_pos (by omega)) (if_pos (by omega))]
  simp only [bodyOf, cc0__body_eq_skeleton]; unfold cc0__body_skel
  simp only [dif_pos h1, dif_neg h5, dif_neg h6, dif_neg h7, dif_neg h10, dif_neg h11, dif_neg h18, k0_part2_eq_skeleton]
  unfold k0_part2_skel
  simp only [dif_pos h2, dif_neg h3, dif_neg h4, k0_part1_eq_skeleton]
  unfold k0_part1_skel
  simp only [cel_at _ (o1_0 t ht), cel_at _ (o1_1 t ht), cel_at _ (o1_2 t ht), ihS_at (o2_0 t ht), ihS_at (o2_1 t ht), ihS_at (o2_2 t ht), ihB_at (o3_0 t ht), ihB_at (o3_1 t ht), ihB_at (o3_2 t ht),
    hhS_at (o4_0 t ht), hhS_at (o4_1 t ht), hhS_at (o4_2 t ht), hhB_at (o5_0 t ht), hhB_at (o5_1 t ht), hhB_at (o5_2 t ht),
    cel_at _ (o14 t), ihS_at (o15 t), ihB_at (o16 t (by omega)), hhS_at (o17 t), hhB_at (o18 t (by omega))]
  letI : ClosedOff (k0_off19 (grid0.coords t)) := ⟨_, o19 t⟩
  letI : ClosedOff (k0_off20 (grid0.coords t)) := ⟨_, o20 t⟩
  letI : ClosedOff (k0_off21 (grid0.coords t)) := ⟨_, o21 t (by omega)⟩
  unfold owns ow
  iintro ⟨⟨%f1, %hf1, H1⟩, ⟨%f2, %hf2, H2⟩, ⟨%f6, %hf6, H6⟩, ⟨%f5, %hf5, H5⟩, ⟨%f4, %hf4, H4⟩, ⟨%dv, %fv, %hfv, H18⟩, HD0,
    ⟨⟨Hci, ⟨%gi, Hsi⟩, Hwi⟩, ⟨Hci1, ⟨%gi1, Hsi1⟩, Hwi1⟩, ⟨Hci2, ⟨%gi2, Hsi2⟩, Hwi2⟩⟩, ⟨⟨Hch, ⟨%gh, Hsh⟩, Hwh⟩, ⟨Hch1, ⟨%gh1, Hsh1⟩, Hwh1⟩, ⟨Hch2, ⟨%gh2, Hsh2⟩, Hwh2⟩⟩, ⟨%Ws, HW⟩, Hk⟩
  ihave HD0 := D0_open $$ HD0
  icases HD0 with ⟨%g, %hg, Hg⟩
  ihave Hwi' := (ih_split c (bk 8 t.val) (third (sl 3 t.val)) I.ih).1 $$ Hwi
  icases Hwi' with ⟨Hbi, Hri⟩
  ihave Hwh' := (hh_split c (bk 8 t.val) (third (sl 3 t.val)) I.hh).1 $$ Hwh
  icases Hwh' with ⟨Hbh, Hrh⟩
  ihave Hwi1' := (ih_split c (bk 8 (t.val + 1)) (third (sl 3 (t.val + 1))) I.ih).1 $$ Hwi1
  icases Hwi1' with ⟨Hbi1, Hri1⟩
  ihave Hwh1' := (hh_split c (bk 8 (t.val + 1)) (third (sl 3 (t.val + 1))) I.hh).1 $$ Hwh1
  icases Hwh1' with ⟨Hbh1, Hrh1⟩
  ihave Hwi2' := (ih_split c (bk 8 (t.val + 2)) (third (sl 3 (t.val + 2))) I.ih).1 $$ Hwi2
  icases Hwi2' with ⟨Hbi2, Hri2⟩
  ihave Hwh2' := (hh_split c (bk 8 (t.val + 2)) (third (sl 3 (t.val + 2))) I.hh).1 $$ Hwh2
  icases Hwh2' with ⟨Hbh2, Hrh2⟩
  obtain rfl := S.xW.eq_unread hf1
  obtain rfl := S.h0W.eq_unread hf2
  obtain rfl := S.bgW.eq_unread hf6
  obtain rfl := S.cvW.eq_unread hf5
  obtain rfl := S.awW.eq_unread hf4
  sl_exec
  sl_step
  iapply Hk
  isplitl [H1]; · iexists _; isplitr; · ipureintro; exact S.xW.read_unread _
                  iexact H1
  isplitl [H2]; · iexists _; isplitr; · ipureintro; exact S.h0W.read_unread _
                  iexact H2
  isplitl [H6]; · iexists _; isplitr; · ipureintro; exact S.bgW.read_unread _
                  iexact H6
  isplitl [H5]; · iexists _; isplitr; · ipureintro; exact S.cvW.read_unread _
                  iexact H5
  isplitl [H4]; · iexists _; isplitr; · ipureintro; exact S.awW.read_unread _
                  iexact H4
  isplitl [H18]; · iexists _; isplitr; rotate_left
                   · iexact H18
                   ipureintro; exact st_all _ inb_S1x2048_S1x2048_0_0 (covV_of I (ld_all S.cvW I.cv _) (ld_all S.awW I.aw _))
  isplitl [Hg]
  · iapply (D0_close (gates_grow c I t.val (by omega) hg (o21 t (by omega)) _ (gch_of I (bk 8 t.val) (ld_all S.xW I.x _) (shows_ih I c (sl 3 t.val) (bk 8 t.val) _ (o19 t) _)
      (ld_all S.h0W I.h0 _) (shows_hh I c (sl 3 t.val) (bk 8 t.val) _ (o20 t) _) (ld_cols S.bgW I.bg (bk 8 t.val).val (o21 t (by omega)) _ _))))
    iexact Hg
  isplitl [Hci Hsi Hbi Hri Hci1 Hri1 Hci2 Hri2]
  · isplitl [Hci1 Hri1]
    · isplitl [Hci1]; · iexists _; iexact Hci1
      iexact Hri1
    isplitl [Hci2 Hri2]
    · isplitl [Hci2]; · iexists _; iexact Hci2
      iexact Hri2
    isplitl [Hci]; · iexact Hci
    isplitl [Hsi]; · iexists _; iexact Hsi
    iapply (ih_split c (bk 8 t.val) (third (sl 3 t.val)) I.ih).2
    isplitl [Hbi]; · iexact Hbi
    iexact Hri
  isplitl [Hch Hsh Hbh Hrh Hch1 Hrh1 Hch2 Hrh2]
  · isplitl [Hch1 Hrh1]
    · isplitl [Hch1]; · iexists _; iexact Hch1
      iexact Hrh1
    isplitl [Hch2 Hrh2]
    · isplitl [Hch2]; · iexists _; iexact Hch2
      iexact Hrh2
    isplitl [Hch]; · iexact Hch
    isplitl [Hsh]; · iexists _; iexact Hsh
    iapply (hh_split c (bk 8 t.val) (third (sl 3 t.val)) I.hh).2
    isplitl [Hbh]; · iexact Hbh
    iexact Hrh
  iexists _; iexact HW

end Cert.KernelIdeal.Run
-- ==== Proof.CaseB.lean ====
module

public import proofs.«01_k».proof.Proof.Chunks

@[expose] public section

set_option maxRecDepth 16384

noncomputable section

/-! The steps 1 to 5: the next-but-one block of each gate weight is sent for, this step's pair has arrived, and its chunk of
    the gates is stored. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Ring (sl bk)

variable {F : FTy → Type} [FloatOps F]

local notation "𝕄" => MT nD τ sig Unit (Elt F) ℕ (Pipeline.UD sig nD τ) ℕ

set_option maxHeartbeats 2000000 in
theorem runB (c : Dev nD) (t : Fin grid0.N) (ht : 1 ≤ t.val ∧ t.val < 6) (S : Stg) (I : Inp F) (K : PUnit → sProp 𝕄) :
   iprop(owns (c : Thread nD τ) S.x fullShare I.x ∗ owns (c : Thread nD τ) S.h0 fullShare I.h0 ∗ owns (c : Thread nD τ) S.bg fullShare I.bg
      ∗ D0 c I t.val ∗ RI c I.ih t.val ∗ RH c I.hh t.val ∗ ow c
      ∗ (iprop(owns (c : Thread nD τ) S.x fullShare I.x ∗ owns (c : Thread nD τ) S.h0 fullShare I.h0 ∗ owns (c : Thread nD τ) S.bg fullShare I.bg
        ∗ D0 c I (t.val + 1) ∗ RI c I.ih (t.val + 1) ∗ RH c I.hh (t.val + 1) ∗ ow c) -∗ K PUnit.unit))
   ⊢ wp frame (wpE (defs₀ (F := F)) Variants.none c none) Set.univ (bodyOf t S) K := by
  have h1 := (c1 t).2 (by omega)
  have h2 := nc (c2 t) (by omega)
  have h3 := (c3 t).2 ht
  have h4 := nc (c4 t (by omega)) (by omega)
  have h5 := nc (c5 t) (by omega)
  have h6 := nc (c6 t) (by omega)
  have h7 := nc (c7 t) (by omega)
  have h10 := nc (c10 t) (by omega)
  have h11 := nc (c11 t) (by omega)
  have h18 := nc (c18 t) (by omega)
  rw [RI_eq (if_pos (by omega)) (if_pos (by omega)), RI_succ (if_pos (by omega)) (if_pos (by omega)),
    RH_eq (if_pos (by omega)) (if_pos (by omega)), RH_succ (if_pos (by omega)) (if_pos (by omega))]
  simp only [bodyOf, cc0__body_eq_skeleton]; unfold cc0__body_skel
  simp only [dif_pos h1, dif_neg h5, dif_neg h6, dif_neg h7, dif_neg h10, dif_neg h11, dif_neg h18, k0_part2_eq_skeleton]
  unfold k0_part2_skel
  simp only [dif_neg h2, dif_pos h3, dif_neg h4, cel_at _ (o6 t), ihS_at (o7 t), ihB_at (o8 t ht.2), hhS_at (o9 t), hhB_at (o10 t ht.2), cel_at _ (o14 t), ihS_at (o15 t), ihB_at (o16 t (by omega)), hhS_at (o17 t), hhB_at (o18 t (by omega))]
  letI : ClosedOff (k0_off19 (grid0.coords t)) := ⟨_, o19 t⟩
  letI : ClosedOff (k0_off20 (grid0.coords t)) := ⟨_, o20 t⟩
  letI : ClosedOff (k0_off21 (grid0.coords t)) := ⟨_, o21 t (by omega)⟩
  unfold owns ow
  iintro ⟨⟨%f1, %hf1, H1⟩, ⟨%f2, %hf2, H2⟩, ⟨%f6, %hf6, H6⟩, HD0, ⟨⟨⟨%fi, Hfi⟩, Hri⟩, Hqi, ⟨Hci, ⟨%gi, Hsi⟩, Hwi⟩⟩, ⟨⟨⟨%fh, Hfh⟩, Hrh⟩, Hqh, ⟨Hch, ⟨%gh, Hsh⟩, Hwh⟩⟩, ⟨%Ws, HW⟩, Hk⟩
  ihave HD0 := D0_open $$ HD0
  icases HD0 with ⟨%g, %hg, Hg⟩
  ihave Hwi' := (ih_split c (bk 8 (t.val + 2)) (third (sl 3 (t.val + 2))) I.ih).1 $$ Hwi
  icases Hwi' with ⟨Hbi, Hri2⟩
  ihave Hwh' := (hh_split c (bk 8 (t.val + 2)) (third (sl 3 (t.val + 2))) I.hh).1 $$ Hwh
  icases Hwh' with ⟨Hbh, Hrh2⟩
  obtain rfl := S.xW.eq_unread hf1
  obtain rfl := S.h0W.eq_unread hf2
  obtain rfl := S.bgW.eq_unread hf6
  sl_exec
  sl_step
  iapply Hk
  isplitl [H1]; · iexists _; isplitr; · ipureintro; exact S.xW.read_unread _
                  iexact H1
  isplitl [H2]; · iexists _; isplitr; · ipureintro; exact S.h0W.read_unread _
                  iexact H2
  isplitl [H6]; · iexists _; isplitr; · ipureintro; exact S.bgW.read_unread _
                  iexact H6
  isplitl [Hg]
  · iapply (D0_close (gates_grow c I t.val (by omega) hg (o21 t (by omega)) _ (gch_of I (bk 8 t.val) (ld_all S.xW I.x _) (shows_ih I c (sl 3 t.val) (bk 8 t.val) _ (o19 t) _)
      (ld_all S.h0W I.h0 _) (shows_hh I c (sl 3 t.val) (bk 8 t.val) _ (o20 t) _) (ld_cols S.bgW I.bg (bk 8 t.val).val (o21 t (by omega)) _ _))))
    iexact Hg
  isplitl [Hqi Hfi Hfi_dst Hfi_src Hri Hci Hri2]
  · isplitl [Hqi]; · iexact Hqi
    isplitl [Hci Hri2]
    · isplitl [Hci]; · iexists _; iexact Hci
      iexact Hri2
    isplitl [Hfi]; · iexact Hfi
    isplitl [Hfi_dst]; · iexists _; iexact Hfi_dst
    iapply (ih_split c (bk 8 t.val) (third (sl 3 t.val)) I.ih).2
    isplitl [Hfi_src]; · iexact Hfi_src
    iexact Hri
  isplitl [Hqh Hfh Hfh_dst Hfh_src Hrh Hch Hrh2]
  · isplitl [Hqh]; · iexact Hqh
    isplitl [Hch Hrh2]
    · isplitl [Hch]; · iexists _; iexact Hch
      iexact Hrh2
    isplitl [Hfh]; · iexact Hfh
    isplitl [Hfh_dst]; · iexists _; iexact Hfh_dst
    iapply (hh_split c (bk 8 t.val) (third (sl 3 t.val)) I.hh).2
    isplitl [Hfh_src]; · iexact Hfh_src
    iexact Hrh
  iexists _; iexact HW

end Cert.KernelIdeal.Run
-- ==== Proof.Steps1.lean ====
module

public import proofs.«01_k».proof.Proof.State2
public import proofs.«01_k».proof.Proof.CaseA
public import proofs.«01_k».proof.Proof.CaseB

@[expose] public section

set_option maxRecDepth 16384

noncomputable section

/-! The first six steps, on the whole state. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

variable (c : Dev nD) (I : Inp F) (S : Stg) (t : Fin grid0.N) (xp : Vec F S1x50000 .f32) (xh xc : Vec F S1x1024 .f32) (xa xv : Vec F S1x2048 .f32)

theorem doesA (ht : t.val = 0) : Does c I S t xp xp xh xc xh xc xa xv xa (covV I) := by
  intro K
  unfold Ops St Res
  iintro ⟨⟨Hx, Hh0, Hc0, Haw, Hcv, Hbg, Hwe, Hwd, Hbd, Hwi, Hbi, Hb1, Hb2⟩, ⟨HI, HH, HE, HP, HV, H0, H1, H2, H3, H4, H5, H6, H7⟩, How, ⟨Hp, Hh, Hc, Ha, Hv⟩, HK⟩
  ihave HE := RE_rest c I.en t.val (by omega) $$ HE
  ihave HP := RP_rest c I.pv t.val (by omega) $$ HP
  ihave HV := RV_rest c I.vo t.val (by omega) $$ HV
  ihave H1 := D1_rest c I (t := t.val) (by omega) $$ H1
  ihave H2 := D2_rest c I (t := t.val) (by omega) $$ H2
  ihave H3 := D3_rest c I (t := t.val) (by omega) $$ H3
  ihave H4 := D4_rest c I (t := t.val) (by omega) $$ H4
  ihave H5 := D5_rest c I (t := t.val) (by omega) $$ H5
  ihave H6 := D6_rest c I (t := t.val) (by omega) $$ H6
  ihave H7 := D7_rest c I (t := t.val) (by omega) $$ H7
  iapply (runA c t ht S I _)
  iframe Hx Hh0 Hbg Hcv Haw H0 HI HH How
  isplitl [Hv]; · iexists xv; iexact Hv
  iintro ⟨Hx, Hh0, Hbg, Hcv, Haw, Hv, H0, HI, HH, How⟩
  iapply HK
  iframe

theorem doesB (ht : 1 ≤ t.val ∧ t.val < 6) : Does c I S t xp xp xh xc xh xc xa xv xa xv := by
  intro K
  unfold Ops St Res
  iintro ⟨⟨Hx, Hh0, Hc0, Haw, Hcv, Hbg, Hwe, Hwd, Hbd, Hwi, Hbi, Hb1, Hb2⟩, ⟨HI, HH, HE, HP, HV, H0, H1, H2, H3, H4, H5, H6, H7⟩, How, ⟨Hp, Hh, Hc, Ha, Hv⟩, HK⟩
  ihave HE := RE_rest c I.en t.val (by omega) $$ HE
  ihave HP := RP_rest c I.pv t.val (by omega) $$ HP
  ihave HV := RV_rest c I.vo t.val (by omega) $$ HV
  ihave H1 := D1_rest c I (t := t.val) (by omega) $$ H1
  ihave H2 := D2_rest c I (t := t.val) (by omega) $$ H2
  ihave H3 := D3_rest c I (t := t.val) (by omega) $$ H3
  ihave H4 := D4_rest c I (t := t.val) (by omega) $$ H4
  ihave H5 := D5_rest c I (t := t.val) (by omega) $$ H5
  ihave H6 := D6_rest c I (t := t.val) (by omega) $$ H6
  ihave H7 := D7_rest c I (t := t.val) (by omega) $$ H7
  iapply (runB c t ht S I _)
  iframe Hx Hh0 Hbg H0 HI HH How
  iintro ⟨Hx, Hh0, Hbg, H0, HI, HH, How⟩
  iapply HK
  iframe

end Cert.KernelIdeal.Run
-- ==== Proof.CaseC6.lean ====
module

public import proofs.«01_k».proof.Proof.Chunks

@[expose] public section

set_option maxRecDepth 16384

noncomputable section

/-! Step 6: the last but one pair of blocks of the gate weights has arrived, and the first encoder block is sent for. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Ring (sl bk)

variable {F : FTy → Type} [FloatOps F]

local notation "𝕄" => MT nD τ sig Unit (Elt F) ℕ (Pipeline.UD sig nD τ) ℕ

set_option maxHeartbeats 2000000 in
theorem runC6 (c : Dev nD) (t : Fin grid0.N) (ht : t.val = 6) (S : Stg) (I : Inp F) (K : PUnit → sProp 𝕄) :
   iprop(owns (c : Thread nD τ) S.x fullShare I.x ∗ owns (c : Thread nD τ) S.h0 fullShare I.h0 ∗ owns (c : Thread nD τ) S.bg fullShare I.bg
      ∗ D0 c I t.val ∗ RI c I.ih t.val ∗ RH c I.hh t.val ∗ RE c I.en t.val ∗ ow c
      ∗ (iprop(owns (c : Thread nD τ) S.x fullShare I.x ∗ owns (c : Thread nD τ) S.h0 fullShare I.h0 ∗ owns (c : Thread nD τ) S.bg fullShare I.bg
        ∗ D0 c I (t.val + 1) ∗ RI c I.ih (t.val + 1) ∗ RH c I.hh (t.val + 1) ∗ RE c I.en (t.val + 1) ∗ ow c) -∗ K PUnit.unit))
   ⊢ wp frame (wpE (defs₀ (F := F)) Variants.none c none) Set.univ (bodyOf t S) K := by
  have h1 := (c1 t).2 (by omega)
  have h2 := nc (c2 t) (by omega)
  have h3 := nc (c3 t) (by omega)
  have h4 := (c4 t (by omega)).2 (by omega)
  have h5 := nc (c5 t) (by omega)
  have h6 := nc (c6 t) (by omega)
  have h7 := nc (c7 t) (by omega)
  have h10 := nc (c10 t) (by omega)
  have h11 := nc (c11 t) (by omega)
  have h18 := nc (c18 t) (by omega)
  rw [RI_eq (if_pos (by omega)) (if_pos (by omega)), RI_succ (if_pos (by omega)) (if_neg (by omega)),
    RH_eq (if_pos (by omega)) (if_pos (by omega)), RH_succ (if_pos (by omega)) (if_neg (by omega)),
    RE_eq (if_neg (by omega)) (if_neg (by omega)) (if_neg (by omega)), RE_succ (d := some (bk 8 (t.val - 6))) (if_neg (by omega)) (if_neg (by omega)) (if_pos (by omega))]
  simp only [bodyOf, cc0__body_eq_skeleton]; unfold cc0__body_skel
  simp only [dif_pos h1, dif_neg h5, dif_neg h6, dif_neg h7, dif_neg h10, dif_neg h11, dif_neg h18, k0_part2_eq_skeleton]
  unfold k0_part2_skel
  simp only [dif_neg h2, dif_neg h3, dif_pos h4, cel_at _ (o11 t (by omega)), enS_at (o12 t (by omega)), enB_at (o13 t (by omega) (by omega)),
    cel_at _ (o14 t), ihS_at (o15 t), ihB_at (o16 t (by omega)), hhS_at (o17 t), hhB_at (o18 t (by omega))]
  letI : ClosedOff (k0_off19 (grid0.coords t)) := ⟨_, o19 t⟩
  letI : ClosedOff (k0_off20 (grid0.coords t)) := ⟨_, o20 t⟩
  letI : ClosedOff (k0_off21 (grid0.coords t)) := ⟨_, o21 t (by omega)⟩
  unfold owns ow
  iintro ⟨⟨%f1, %hf1, H1⟩, ⟨%f2, %hf2, H2⟩, ⟨%f6, %hf6, H6⟩, HD0, ⟨⟨⟨%fi, Hfi⟩, Hri⟩, Hqi, Hpi⟩, ⟨⟨⟨%fh, Hfh⟩, Hrh⟩, Hqh, Hph⟩, ⟨⟨Hce, ⟨%ge, Hse⟩, Hwe⟩, Hqe, Hpe⟩, ⟨%Ws, HW⟩, Hk⟩
  ihave HD0 := D0_open $$ HD0
  icases HD0 with ⟨%g, %hg, Hg⟩
  ihave Hwe' := (en_split c (bk 8 (t.val - 6)) (third (sl 3 t.val)) I.en).1 $$ Hwe
  icases Hwe' with ⟨Hbe, Hre2⟩
  obtain rfl := S.xW.eq_unread hf1
  obtain rfl := S.h0W.eq_unread hf2
  obtain rfl := S.bgW.eq_unread hf6
  sl_exec
  sl_step
  iapply Hk
  isplitl [H1]; · iexists _; isplitr; · ipureintro; exact S.xW.read_unread _
                  iexact H1
  isplitl [H2]; · iexists _; isplitr; · ipureintro; exact S.h0W.read_unread _
                  iexact H2
  isplitl [H6]; · iexists _; isplitr; · ipureintro; exact S.bgW.read_unread _
                  iexact H6
  isplitl [Hg]
  · iapply (D0_close (gates_grow c I t.val (by omega) hg (o21 t (by omega)) _ (gch_of I (bk 8 t.val) (ld_all S.xW I.x _) (shows_ih I c (sl 3 t.val) (bk 8 t.val) _ (o19 t) _)
      (ld_all S.h0W I.h0 _) (shows_hh I c (sl 3 t.val) (bk 8 t.val) _ (o20 t) _) (ld_cols S.bgW I.bg (bk 8 t.val).val (o21 t (by omega)) _ _))))
    iexact Hg
  isplitl [Hqi Hfi Hfi_dst Hfi_src Hri Hpi]
  · isplitl [Hqi]; · iexact Hqi
    isplitl [Hpi]; · iexact Hpi
    isplitl [Hfi]; · iexact Hfi
    isplitl [Hfi_dst]; · iexists _; iexact Hfi_dst
    iapply (ih_split c (bk 8 t.val) (third (sl 3 t.val)) I.ih).2
    isplitl [Hfi_src]; · iexact Hfi_src
    iexact Hri
  isplitl [Hqh Hfh Hfh_dst Hfh_src Hrh Hph]
  · isplitl [Hqh]; · iexact Hqh
    isplitl [Hph]; · iexact Hph
    isplitl [Hfh]; · iexact Hfh
    isplitl [Hfh_dst]; · iexists _; iexact Hfh_dst
    iapply (hh_split c (bk 8 t.val) (third (sl 3 t.val)) I.hh).2
    isplitl [Hfh_src]; · iexact Hfh_src
    iexact Hrh
  isplitl [Hqe Hpe Hce Hre2]
  · isplitl [Hqe]; · iexact Hqe
    isplitl [Hpe]; · iexact Hpe
    isplitl [Hce]; · iexists _; iexact Hce
    iexact Hre2
  iexists _; iexact HW

end Cert.KernelIdeal.Run
-- ==== Proof.CaseC7.lean ====
module

public import proofs.«01_k».proof.Proof.Chunks

@[expose] public section

set_option maxRecDepth 16384

noncomputable section

/-! Step 7: the last pair of blocks of the gate weights has arrived and the second encoder block is sent for; the gates are
    whole, and the new hidden and cell states are stored. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Ring (sl bk)

variable {F : FTy → Type} [FloatOps F]

local notation "𝕄" => MT nD τ sig Unit (Elt F) ℕ (Pipeline.UD sig nD τ) ℕ

set_option maxHeartbeats 2000000 in
theorem runC7 (c : Dev nD) (t : Fin grid0.N) (ht : t.val = 7) (S : Stg) (I : Inp F) (K : PUnit → sProp 𝕄) :
   iprop(owns (c : Thread nD τ) S.x fullShare I.x ∗ owns (c : Thread nD τ) S.h0 fullShare I.h0 ∗ owns (c : Thread nD τ) S.bg fullShare I.bg ∗ owns (c : Thread nD τ) S.c0 fullShare I.c0
      ∗ (∃ d, owns (c : Thread nD τ) S.oh fullShare d) ∗ (∃ d, owns (c : Thread nD τ) S.oc fullShare d)
      ∗ D0 c I t.val ∗ D1 c I t.val ∗ RI c I.ih t.val ∗ RH c I.hh t.val ∗ RE c I.en t.val ∗ ow c
      ∗ (iprop(owns (c : Thread nD τ) S.x fullShare I.x ∗ owns (c : Thread nD τ) S.h0 fullShare I.h0 ∗ owns (c : Thread nD τ) S.bg fullShare I.bg ∗ owns (c : Thread nD τ) S.c0 fullShare I.c0
        ∗ owns (c : Thread nD τ) S.oh fullShare (hV I) ∗ owns (c : Thread nD τ) S.oc fullShare (cV I)
        ∗ D0 c I (t.val + 1) ∗ D1 c I (t.val + 1) ∗ RI c I.ih (t.val + 1) ∗ RH c I.hh (t.val + 1) ∗ RE c I.en (t.val + 1) ∗ ow c) -∗ K PUnit.unit))
   ⊢ wp frame (wpE (defs₀ (F := F)) Variants.none c none) Set.univ (bodyOf t S) K := by
  have h1 := (c1 t).2 (by omega)
  have h2 := nc (c2 t) (by omega)
  have h3 := nc (c3 t) (by omega)
  have h4 := (c4 t (by omega)).2 (by omega)
  have h5 := (c5 t).2 (by omega)
  have h6 := nc (c6 t) (by omega)
  have h7 := nc (c7 t) (by omega)
  have h10 := nc (c10 t) (by omega)
  have h11 := nc (c11 t) (by omega)
  have h18 := nc (c18 t) (by omega)
  rw [RI_eq (if_pos (by omega)) (if_neg (by omega)), RI_succ (if_neg (by omega)) (if_neg (by omega)),
    RH_eq (if_pos (by omega)) (if_neg (by omega)), RH_succ (if_neg (by omega)) (if_neg (by omega)),
    RE_eq (d := some (bk 8 (t.val - 7))) (if_neg (by omega)) (if_neg (by omega)) (if_pos (by omega)),
    RE_succ (b := some (bk 8 (t.val - 7))) (d := some (bk 8 (t.val - 6))) (if_neg (by omega)) (if_pos (by omega)) (if_pos (by omega))]
  simp only [bodyOf, cc0__body_eq_skeleton]; unfold cc0__body_skel
  simp only [dif_pos h1, dif_pos h5, dif_neg h6, dif_neg h7, dif_neg h10, dif_neg h11, dif_neg h18, k0_part2_eq_skeleton]
  unfold k0_part2_skel
  simp only [dif_neg h2, dif_neg h3, dif_pos h4, cel_at _ (o11 t (by omega)), enS_at (o12 t (by omega)), enB_at (o13 t (by omega) (by omega)),
    cel_at _ (o14 t), ihS_at (o15 t), ihB_at (o16 t (by omega)), hhS_at (o17 t), hhB_at (o18 t (by omega))]
  letI : ClosedOff (k0_off19 (grid0.coords t)) := ⟨_, o19 t⟩
  letI : ClosedOff (k0_off20 (grid0.coords t)) := ⟨_, o20 t⟩
  letI : ClosedOff (k0_off21 (grid0.coords t)) := ⟨_, o21 t (by omega)⟩
  unfold owns ow
  iintro ⟨⟨%f1, %hf1, H1⟩, ⟨%f2, %hf2, H2⟩, ⟨%f6, %hf6, H6⟩, ⟨%f3, %hf3, H3⟩, ⟨%dh, %fh14, %hfh14, H14⟩, ⟨%dc, %fh15, %hfh15, H15⟩, HD0, HD1,
    ⟨⟨⟨%fi, Hfi⟩, Hri⟩, Hqi, Hpi⟩, ⟨⟨⟨%fh, Hfh⟩, Hrh⟩, Hqh, Hph⟩, ⟨⟨Hce, ⟨%ge, Hse⟩, Hwe⟩, Hqe, Hpe⟩, ⟨%Ws, HW⟩, Hk⟩
  ihave HD0 := D0_open $$ HD0
  icases HD0 with ⟨%g, %hg, Hg⟩
  ihave HD1 := D1_open $$ HD1
  icases HD1 with ⟨%g1, -, Hg1⟩
  ihave Hwe' := (en_split c (bk 8 (t.val - 6)) (third (sl 3 t.val)) I.en).1 $$ Hwe
  icases Hwe' with ⟨Hbe, Hre2⟩
  obtain rfl := S.xW.eq_unread hf1
  obtain rfl := S.h0W.eq_unread hf2
  obtain rfl := S.bgW.eq_unread hf6
  obtain rfl := S.c0W.eq_unread hf3
  sl_exec
  sl_step
  iapply Hk
  isplitl [H1]; · iexists _; isplitr; · ipureintro; exact S.xW.read_unread _
                  iexact H1
  isplitl [H2]; · iexists _; isplitr; · ipureintro; exact S.h0W.read_unread _
                  iexact H2
  isplitl [H6]; · iexists _; isplitr; · ipureintro; exact S.bgW.read_unread _
                  iexact H6
  isplitl [H3]; · iexists _; isplitr; · ipureintro; exact S.c0W.read_unread _
                  iexact H3
  have e25 : runC7.sl.v25 c t S I h1 g = gV I := (gates_all c I t.val ht hg (o21 t (by omega)) (inb := k0_off21_inb (grid0.coords t) h1) (inb' := inb_S1x4096_S1x4096_0_0) (gch_of I (bk 8 t.val) (ld_all S.xW I.x _) (shows_ih I c (sl 3 t.val) (bk 8 t.val) _ (o19 t) _)
      (ld_all S.h0W I.h0 _) (shows_hh I c (sl 3 t.val) (bk 8 t.val) _ (o20 t) _) (ld_cols S.bgW I.bg (bk 8 t.val).val (o21 t (by omega)) _ _)))
  isplitl [H14]; · iexists _; isplitr; rotate_left
                   · iexact H14
                   ipureintro; exact st_all _ inb_S1x1024_S1x1024_0_0 (hV_of I e25 (ld_all S.c0W I.c0 _))
  isplitl [H15]; · iexists _; isplitr; rotate_left
                   · iexact H15
                   ipureintro; exact st_all _ inb_S1x1024_S1x1024_0_0 (cV_of I e25 (ld_all S.c0W I.c0 _))
  isplitl [Hg]
  · iapply (D0_close (gates_grow c I t.val (by omega) hg (o21 t (by omega)) _ (gch_of I (bk 8 t.val) (ld_all S.xW I.x _) (shows_ih I c (sl 3 t.val) (bk 8 t.val) _ (o19 t) _)
      (ld_all S.h0W I.h0 _) (shows_hh I c (sl 3 t.val) (bk 8 t.val) _ (o20 t) _) (ld_cols S.bgW I.bg (bk 8 t.val).val (o21 t (by omega)) _ _))))
    iexact Hg
  isplitl [Hg1]
  · iapply (D1_close (fun _ => st_all (M := Memref.whole cc0_scratch1) g1 inb_S1x1024_S1x1024_0_0 (hN_of I e25 (ld_all S.c0W I.c0 _))))
    iexact Hg1
  isplitl [Hqi Hfi Hfi_dst Hfi_src Hri Hpi]
  · isplitl [Hqi]; · iexact Hqi
    isplitl [Hpi]; · iexact Hpi
    isplitl [Hfi]; · iexact Hfi
    isplitl [Hfi_dst]; · iexists _; iexact Hfi_dst
    iapply (ih_split c (bk 8 t.val) (third (sl 3 t.val)) I.ih).2
    isplitl [Hfi_src]; · iexact Hfi_src
    iexact Hri
  isplitl [Hqh Hfh Hfh_dst Hfh_src Hrh Hph]
  · isplitl [Hqh]; · iexact Hqh
    isplitl [Hph]; · iexact Hph
    isplitl [Hfh]; · iexact Hfh
    isplitl [Hfh_dst]; · iexists _; iexact Hfh_dst
    iapply (hh_split c (bk 8 t.val) (third (sl 3 t.val)) I.hh).2
    isplitl [Hfh_src]; · iexact Hfh_src
    iexact Hrh
  isplitl [Hqe Hpe Hce Hre2]
  · isplitl [Hqe]; · iexact Hqe
    isplitl [Hpe]; · iexact Hpe
    isplitl [Hce]; · iexists _; iexact Hce
    iexact Hre2
  iexists _; iexact HW

end Cert.KernelIdeal.Run
-- ==== Proof.CaseD.lean ====
module

public import proofs.«01_k».proof.Proof.Chunks

@[expose] public section

set_option maxRecDepth 16384

noncomputable section

/-! Step 8: the third encoder block is sent for, the decoder's part of the scores is stored, and the running maximum, sum and
    context are started. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Ring (sl bk)

variable {F : FTy → Type} [FloatOps F]

local notation "𝕄" => MT nD τ sig Unit (Elt F) ℕ (Pipeline.UD sig nD τ) ℕ

set_option maxHeartbeats 2000000 in
theorem runD (c : Dev nD) (t : Fin grid0.N) (ht : t.val = 8) (S : Stg) (I : Inp F) (K : PUnit → sProp 𝕄) :
   iprop(owns (c : Thread nD τ) S.wd fullShare I.wd ∗ owns (c : Thread nD τ) S.bd fullShare I.bd ∗ D1 c I t.val ∗ D2 c I t.val ∗ D4 c I t.val ∗ D7 c I t.val ∗ RE c I.en t.val ∗ ow c
      ∗ (iprop(owns (c : Thread nD τ) S.wd fullShare I.wd ∗ owns (c : Thread nD τ) S.bd fullShare I.bd ∗ D1 c I (t.val + 1) ∗ D2 c I (t.val + 1) ∗ D4 c I (t.val + 1) ∗ D7 c I (t.val + 1) ∗ RE c I.en (t.val + 1) ∗ ow c) -∗ K PUnit.unit))
   ⊢ wp frame (wpE (defs₀ (F := F)) Variants.none c none) Set.univ (bodyOf t S) K := by
  have h1 := nc (c1 t) (by omega)
  have h5 := nc (c5 t) (by omega)
  have h6 := (c6 t).2 ht
  have h7 := nc (c7 t) (by omega)
  have h10 := nc (c10 t) (by omega)
  have h11 := nc (c11 t) (by omega)
  have h18 := nc (c18 t) (by omega)
  rw [RE_eq (b := some (bk 8 (t.val - 8))) (d := some (bk 8 (t.val - 7))) (if_neg (by omega)) (if_pos (by omega)) (if_pos (by omega)),
    RE_succ (a := some (bk 8 (t.val - 8))) (b := some (bk 8 (t.val - 7))) (d := some (bk 8 (t.val - 6))) (if_pos (by omega)) (if_pos (by omega)) (if_pos (by omega))]
  simp only [bodyOf, cc0__body_eq_skeleton]; unfold cc0__body_skel
  simp only [dif_neg h1, dif_neg h5, dif_pos h6, dif_neg h7, dif_neg h10, dif_neg h11, dif_neg h18, cel_at _ (o22 t ht), enS_at (o23 t ht), enB_at (o24 t ht)]
  unfold owns ow
  iintro ⟨⟨%f8, %hf8, H8⟩, ⟨%f9, %hf9, H9⟩, HD1, HD2, HD4, HD7, ⟨⟨Hce, ⟨%ge, Hse⟩, Hwe⟩, Hqe, Hpe⟩, ⟨%Ws, HW⟩, Hk⟩
  ihave HD1 := D1_open $$ HD1
  icases HD1 with ⟨%g1, %hg1, Hg1⟩
  ihave HD2 := D2_open $$ HD2
  icases HD2 with ⟨%g2, -, Hg2⟩
  ihave HD4 := D4_open $$ HD4
  icases HD4 with ⟨%g4, -, Hg4⟩
  ihave HD7 := D7_open $$ HD7
  icases HD7 with ⟨%g7, -, Hg7⟩
  ihave Hwe' := (en_split c (bk 8 (t.val - 6)) (third (sl 3 t.val)) I.en).1 $$ Hwe
  icases Hwe' with ⟨Hbe, Hre2⟩
  obtain rfl := S.wdW.eq_unread hf8
  obtain rfl := S.bdW.eq_unread hf9
  sl_exec
  sl_step
  iapply Hk
  isplitl [H8]
  · iexists _; isplitr; · ipureintro; exact S.wdW.read_unread _
    iexact H8
  isplitl [H9]
  · iexists _; isplitr; · ipureintro; exact S.bdW.read_unread _
    iexact H9
  isplitl [Hg1]
  · iapply (D1_close (fun _ => hg1 (by omega)))
    iexact Hg1
  isplitl [Hg2]
  · iapply (D2_close (fun _ => st_all (M := Memref.whole cc0_scratch2) g2 inb_S1x1024_S1x1024_0_0 (sT_of I (lds g1 inb_S1x1024_S1x1024_0_0 (hg1 (by omega))) (ld_all S.wdW I.wd inb_S1024x1024_S1024x1024_0_0) (ld_all S.bdW I.bd inb_S1x1024_S1x1024_0_0))))
    iexact Hg2
  isplitl [Hg4]
  · iapply (D4_close ⟨fun _ _ => st_all (M := Memref.whole cc0_scratch4) g4 inb_S1x2048_S1x2048_0_0 (p := k0_pay6) (by rw [show t.val + 1 - 9 = 0 by omega]; rfl), fun h => absurd h (by omega)⟩)
    iexact Hg4
  isplitl [Hg7]
  · iapply (D7_close (fun _ _ => two_cells' g7 inb_S2_S1_0 inb_S2_S1_1 (p := Scalar.ofBits .f32 0xFF800000#32) (q := Scalar.ofBits .f32 0x00000000#32) (by rw [show t.val + 1 - 9 = 0 by omega]; rfl) (by rw [show t.val + 1 - 9 = 0 by omega]; rfl)))
    iexact Hg7
  isplitl [Hqe Hpe Hce Hre2]
  · isplitl [Hqe]; · iexact Hqe
    isplitl [Hpe]; · iexact Hpe
    isplitl [Hce]; · iexists _; iexact Hce
    iexact Hre2
  iexists _; iexact HW

end Cert.KernelIdeal.Run
-- ==== Proof.Steps2.lean ====
module

public import proofs.«01_k».proof.Proof.State2
public import proofs.«01_k».proof.Proof.CaseC6
public import proofs.«01_k».proof.Proof.CaseC7
public import proofs.«01_k».proof.Proof.CaseD

@[expose] public section

set_option maxRecDepth 16384

noncomputable section

/-! Steps 6 to 8, on the whole state. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

variable (c : Dev nD) (I : Inp F) (S : Stg) (t : Fin grid0.N) (xp : Vec F S1x50000 .f32) (xh xc : Vec F S1x1024 .f32) (xa xv : Vec F S1x2048 .f32)

theorem doesC6 (ht : t.val = 6) : Does c I S t xp xp xh xc xh xc xa xv xa xv := by
  intro K
  unfold Ops St Res
  iintro ⟨⟨Hx, Hh0, Hc0, Haw, Hcv, Hbg, Hwe, Hwd, Hbd, Hwi, Hbi, Hb1, Hb2⟩, ⟨HI, HH, HE, HP, HV, H0, H1, H2, H3, H4, H5, H6, H7⟩, How, ⟨Hp, Hh, Hc, Ha, Hv⟩, HK⟩
  ihave HP := RP_rest c I.pv t.val (by omega) $$ HP
  ihave HV := RV_rest c I.vo t.val (by omega) $$ HV
  ihave H1 := D1_rest c I (t := t.val) (by omega) $$ H1
  ihave H2 := D2_rest c I (t := t.val) (by omega) $$ H2
  ihave H3 := D3_rest c I (t := t.val) (by omega) $$ H3
  ihave H4 := D4_rest c I (t := t.val) (by omega) $$ H4
  ihave H5 := D5_rest c I (t := t.val) (by omega) $$ H5
  ihave H6 := D6_rest c I (t := t.val) (by omega) $$ H6
  ihave H7 := D7_rest c I (t := t.val) (by omega) $$ H7
  iapply (runC6 c t ht S I _)
  iframe Hx Hh0 Hbg H0 HI HH HE How
  iintro ⟨Hx, Hh0, Hbg, H0, HI, HH, HE, How⟩
  iapply HK
  iframe

theorem doesC7 (ht : t.val = 7) : Does c I S t xp xp xh xc (hV I) (cV I) xa xv xa xv := by
  intro K
  unfold Ops St Res
  iintro ⟨⟨Hx, Hh0, Hc0, Haw, Hcv, Hbg, Hwe, Hwd, Hbd, Hwi, Hbi, Hb1, Hb2⟩, ⟨HI, HH, HE, HP, HV, H0, H1, H2, H3, H4, H5, H6, H7⟩, How, ⟨Hp, Hh, Hc, Ha, Hv⟩, HK⟩
  ihave HP := RP_rest c I.pv t.val (by omega) $$ HP
  ihave HV := RV_rest c I.vo t.val (by omega) $$ HV
  ihave H2 := D2_rest c I (t := t.val) (by omega) $$ H2
  ihave H3 := D3_rest c I (t := t.val) (by omega) $$ H3
  ihave H4 := D4_rest c I (t := t.val) (by omega) $$ H4
  ihave H5 := D5_rest c I (t := t.val) (by omega) $$ H5
  ihave H6 := D6_rest c I (t := t.val) (by omega) $$ H6
  ihave H7 := D7_rest c I (t := t.val) (by omega) $$ H7
  iapply (runC7 c t ht S I _)
  iframe Hx Hh0 Hbg Hc0 H0 H1 HI HH HE How
  isplitl [Hh]; · iexists xh; iexact Hh
  isplitl [Hc]; · iexists xc; iexact Hc
  iintro ⟨Hx, Hh0, Hbg, Hc0, Hh, Hc, H0, H1, HI, HH, HE, How⟩
  iapply HK
  iframe

theorem doesD (ht : t.val = 8) : Does c I S t xp xp xh xc xh xc xa xv xa xv := by
  intro K
  unfold Ops St Res
  iintro ⟨⟨Hx, Hh0, Hc0, Haw, Hcv, Hbg, Hwe, Hwd, Hbd, Hwi, Hbi, Hb1, Hb2⟩, ⟨HI, HH, HE, HP, HV, H0, H1, H2, H3, H4, H5, H6, H7⟩, How, ⟨Hp, Hh, Hc, Ha, Hv⟩, HK⟩
  ihave HI := RI_rest c I.ih t.val (by omega) $$ HI
  ihave HH := RH_rest c I.hh t.val (by omega) $$ HH
  ihave HP := RP_rest c I.pv t.val (by omega) $$ HP
  ihave HV := RV_rest c I.vo t.val (by omega) $$ HV
  ihave H0 := D0_rest c I (t := t.val) (by omega) $$ H0
  ihave H3 := D3_rest c I (t := t.val) (by omega) $$ H3
  ihave H5 := D5_rest c I (t := t.val) (by omega) $$ H5
  ihave H6 := D6_rest c I (t := t.val) (by omega) $$ H6
  iapply (runD c t ht S I _)
  iframe Hwd Hbd H1 H2 H4 H7 HE How
  iintro ⟨Hwd, Hbd, H1, H2, H4, H7, HE, How⟩
  iapply HK
  iframe

end Cert.KernelIdeal.Run
-- ==== Proof.CaseE.lean ====
module

public import proofs.«01_k».proof.Proof.Chunks

@[expose] public section

set_option maxRecDepth 16384

noncomputable section

/-! Steps 9 to 15: an encoder block has arrived; its chunk of the scores is stored, and the running maximum, sum and context
    take it in. Up to step 14 a further block is sent for, and from step 14 on a block of the first projection. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Ring (sl bk)

variable {F : FTy → Type} [FloatOps F]

local notation "𝕄" => MT nD τ sig Unit (Elt F) ℕ (Pipeline.UD sig nD τ) ℕ

theorem numel_pos1 : 0 < S1.numel := by decide

set_option maxHeartbeats 8000000 in
theorem runE (c : Dev nD) (t : Fin grid0.N) (ht : 9 ≤ t.val ∧ t.val < 16) (S : Stg) (I : Inp F) (K : PUnit → sProp 𝕄) :
   iprop(owns (c : Thread nD τ) S.we fullShare I.we ∗ owns (c : Thread nD τ) S.wi fullShare I.wi ∗ owns (c : Thread nD τ) S.bi fullShare I.bi ∗ D2 c I t.val ∗ D3 c I t.val ∗ D4 c I t.val ∗ D7 c I t.val ∗ RE c I.en t.val ∗ RP c I.pv t.val ∗ ow c
      ∗ (iprop(owns (c : Thread nD τ) S.we fullShare I.we ∗ owns (c : Thread nD τ) S.wi fullShare I.wi ∗ owns (c : Thread nD τ) S.bi fullShare I.bi ∗ D2 c I (t.val + 1) ∗ D3 c I (t.val + 1) ∗ D4 c I (t.val + 1) ∗ D7 c I (t.val + 1) ∗ RE c I.en (t.val + 1) ∗ RP c I.pv (t.val + 1) ∗ ow c) -∗ K PUnit.unit))
   ⊢ wp frame (wpE (defs₀ (F := F)) Variants.none c none) Set.univ (bodyOf t S) K := by
  have h1 := nc (c1 t) (by omega)
  have h5 := nc (c5 t) (by omega)
  have h6 := nc (c6 t) (by omega)
  have h7 := (c7 t).2 (by omega)
  have h10 := nc (c10 t) (by omega)
  have h11 := nc (c11 t) (by omega)
  have h18 := nc (c18 t) (by omega)
  simp only [bodyOf, cc0__body_eq_skeleton]; unfold cc0__body_skel
  simp only [dif_neg h1, dif_neg h5, dif_neg h6, dif_pos h7, dif_neg h10, dif_neg h11, dif_neg h18, k0_part3_eq_skeleton]
  unfold k0_part3_skel
  letI : ClosedOff (k0_off34 (grid0.coords t)) := ⟨_, o34 t (by omega)⟩
  letI : ClosedOff (k0_off35 (grid0.coords t)) := ⟨_, o35 t (by omega) (by omega)⟩
  rcases (by omega : t.val = 9 ∨ (10 ≤ t.val ∧ t.val < 14) ∨ t.val = 14 ∨ t.val = 15) with h | h | h | h
  on_goal 1 =>
    have h8 := nc (c8 t (by omega) (by omega)) (by omega)
    have h9 := nc (c9 t (by omega) (by omega)) (by omega)
    simp only [dif_neg h8, dif_neg h9, cel_at _ (o31 t (by omega)), enS_at (o32 t (by omega)), enB_at (o33 t (by omega) (by omega))]
    rw [RE_eq (a := some (bk 8 (t.val - 9))) (b := some (bk 8 (t.val - 8))) (d := some (bk 8 (t.val - 7))) (if_pos (by omega)) (if_pos (by omega)) (if_pos (by omega)),
      RE_succ (a := some (bk 8 (t.val - 8))) (b := some (bk 8 (t.val - 7))) (d := none) (if_pos (by omega)) (if_pos (by omega)) (if_neg (by omega))]
    unfold owns ow
    iintro ⟨⟨%f7, %hf7, H7⟩, ⟨%f10, %hf10, H10⟩, ⟨%f11, %hf11, H11⟩, HD2, HD3, HD4, HD7, ⟨⟨⟨%fe, Hfe⟩, Hre⟩, Hqe, Hpe⟩, HRP, ⟨%Ws, HW⟩, Hk⟩
  on_goal 2 =>
    have h8 := (c8 t (by omega) (by omega)).2 (by omega)
    have h9 := nc (c9 t (by omega) (by omega)) (by omega)
    simp only [dif_pos h8, dif_neg h9, cel_at _ (o25 t (by omega)), enS_at (o26 t (by omega)), enB_at (o27 t (by omega) (by omega)), cel_at _ (o31 t (by omega)), enS_at (o32 t (by omega)), enB_at (o33 t (by omega) (by omega))]
    rw [RE_eq (a := some (bk 8 (t.val - 9))) (b := some (bk 8 (t.val - 8))) (d := none) (if_pos (by omega)) (if_pos (by omega)) (if_neg (by omega)),
      RE_succ (a := some (bk 8 (t.val - 8))) (b := some (bk 8 (t.val - 7))) (d := none) (if_pos (by omega)) (if_pos (by omega)) (if_neg (by omega))]
    unfold owns ow
    iintro ⟨⟨%f7, %hf7, H7⟩, ⟨%f10, %hf10, H10⟩, ⟨%f11, %hf11, H11⟩, HD2, HD3, HD4, HD7, ⟨⟨⟨%fe, Hfe⟩, Hre⟩, Hqe, ⟨Hce, ⟨%ge, Hse⟩, Hwe⟩⟩, HRP, ⟨%Ws, HW⟩, Hk⟩
    ihave Hwe' := (en_split c (bk 8 (t.val - 7)) (third (sl 3 (t.val + 2))) I.en).1 $$ Hwe
    icases Hwe' with ⟨Hbe, Hre2⟩
  on_goal 3 =>
    have h8 := (c8 t (by omega) (by omega)).2 (by omega)
    have h9 := (c9 t (by omega) (by omega)).2 (by omega)
    simp only [dif_pos h8, dif_pos h9, cel_at _ (o25 t (by omega)), enS_at (o26 t (by omega)), enB_at (o27 t (by omega) (by omega)), cel_at _ (o28 t (by omega)), pvS_at (o29 t (by omega)), pvB_at (o30 t (by omega) (by omega)), cel_at _ (o31 t (by omega)), enS_at (o32 t (by omega)), enB_at (o33 t (by omega) (by omega))]
    rw [RE_eq (a := some (bk 8 (t.val - 9))) (b := some (bk 8 (t.val - 8))) (d := none) (if_pos (by omega)) (if_pos (by omega)) (if_neg (by omega)),
      RE_succ (a := some (bk 8 (t.val - 8))) (b := some (bk 8 (t.val - 7))) (d := none) (if_pos (by omega)) (if_pos (by omega)) (if_neg (by omega)),
      RP_eq (a := none) (b := none) (d := none) (if_neg (by omega)) (if_neg (by omega)) (if_neg (by omega)),
      RP_succ (a := none) (b := none) (d := some (bk 4 (t.val - 14))) (if_neg (by omega)) (if_neg (by omega)) (if_pos (by omega))]
    unfold owns ow
    iintro ⟨⟨%f7, %hf7, H7⟩, ⟨%f10, %hf10, H10⟩, ⟨%f11, %hf11, H11⟩, HD2, HD3, HD4, HD7, ⟨⟨⟨%fe, Hfe⟩, Hre⟩, Hqe, ⟨Hce, ⟨%ge, Hse⟩, Hwe⟩⟩, ⟨⟨Hcp, ⟨%gp, Hsp⟩, Hwp⟩, Hqp, Hpp⟩, ⟨%Ws, HW⟩, Hk⟩
    ihave Hwe' := (en_split c (bk 8 (t.val - 7)) (third (sl 3 (t.val + 2))) I.en).1 $$ Hwe
    icases Hwe' with ⟨Hbe, Hre2⟩
    ihave Hwp' := (pv_split c (bk 4 (t.val - 14)) (third (sl 3 (t.val + 1))) I.pv).1 $$ Hwp
    icases Hwp' with ⟨Hbp, Hrp2⟩
  on_goal 4 =>
    have h8 := nc (c8 t (by omega) (by omega)) (by omega)
    have h9 := (c9 t (by omega) (by omega)).2 (by omega)
    simp only [dif_neg h8, dif_pos h9, cel_at _ (o28 t (by omega)), pvS_at (o29 t (by omega)), pvB_at (o30 t (by omega) (by omega)), cel_at _ (o31 t (by omega)), enS_at (o32 t (by omega)), enB_at (o33 t (by omega) (by omega))]
    rw [RE_eq (a := some (bk 8 (t.val - 9))) (b := some (bk 8 (t.val - 8))) (d := none) (if_pos (by omega)) (if_pos (by omega)) (if_neg (by omega)),
      RE_succ (a := some (bk 8 (t.val - 8))) (b := none) (d := none) (if_pos (by omega)) (if_neg (by omega)) (if_neg (by omega)),
      RP_eq (a := none) (b := none) (d := some (bk 4 (t.val - 15))) (if_neg (by omega)) (if_neg (by omega)) (if_pos (by omega)),
      RP_succ (a := none) (b := some (bk 4 (t.val - 15))) (d := some (bk 4 (t.val - 14))) (if_neg (by omega)) (if_pos (by omega)) (if_pos (by omega))]
    unfold owns ow
    iintro ⟨⟨%f7, %hf7, H7⟩, ⟨%f10, %hf10, H10⟩, ⟨%f11, %hf11, H11⟩, HD2, HD3, HD4, HD7, ⟨⟨⟨%fe, Hfe⟩, Hre⟩, Hqe, Hpe⟩, ⟨⟨Hcp, ⟨%gp, Hsp⟩, Hwp⟩, Hqp, Hpp⟩, ⟨%Ws, HW⟩, Hk⟩
    ihave Hwp' := (pv_split c (bk 4 (t.val - 14)) (third (sl 3 (t.val + 1))) I.pv).1 $$ Hwp
    icases Hwp' with ⟨Hbp, Hrp2⟩
  all_goals
    ihave HD2 := D2_open $$ HD2
    icases HD2 with ⟨%g2, %hg2, Hg2⟩
    ihave HD3 := D3_open $$ HD3
    icases HD3 with ⟨%g3, %hg3, Hg3⟩
    ihave HD4 := D4_open $$ HD4
    icases HD4 with ⟨%g4, %hg4, Hg4⟩
    ihave HD7 := D7_open $$ HD7
    icases HD7 with ⟨%g7, %hg7, Hg7⟩
    obtain rfl := S.weW.eq_unread hf7
    obtain rfl := S.wiW.eq_unread hf10
    obtain rfl := S.biW.eq_unread hf11
    sl_exec
    sl_step
    iapply Hk
    have e44 : ∀ inb, (Memref.whole cc0_scratch10).view.readAt (Elt F) (Rect.unit (s := S3x256x2048) (k0_off34 (grid0.coords t)) S1x256x2048.size inb).toLoadRect
        (landed c (enS (sl 3 t.val)) (enB (bk 8 (t.val - 9))) I.en (enS (sl 3 t.val)).view.junk) = ldE I (bk 8 (t.val - 9)) :=
      fun inb => shows_en I c (sl 3 t.val) (bk 8 (t.val - 9)) (enS (sl 3 t.val)).view.junk (o34 t (by omega)) inb
    have e2 := ld_all S.weW I.we inb_S1024x2048_S1024x2048_0_0
    have e4 := ld_all S.wiW I.wi inb_S1x1024_S1x1024_0_0
    have e5 := ld_all S.biW I.bi inb_S1x1_S1x1_0_0
    isplitl [H7]
    · iexists _; isplitr; · ipureintro; exact S.weW.read_unread _
      iexact H7
    isplitl [H10]
    · iexists _; isplitr; · ipureintro; exact S.wiW.read_unread _
      iexact H10
    isplitl [H11]
    · iexists _; isplitr; · ipureintro; exact S.biW.read_unread _
      iexact H11
    isplitl [Hg2]
    · iapply (D2_close (fun _ => hg2 (by omega)))
      iexact Hg2
    isplitl [Hg3]
    · iapply (D3_close (scores_grow c I t.val (by omega) hg3 (o35 t (by omega) (by omega)) (k0_off35_inb (grid0.coords t) h7) (ech_of I (bk 8 (t.val - 9)) (e44 _) e2 (lds g2 inb_S1x1024_S1x1024_0_0 (hg2 (by omega))) e4 e5)))
      iexact Hg3
    isplitl [Hg4]
    · iapply (D4_close ⟨fun _ _ => st_all (M := Memref.whole cc0_scratch4) g4 inb_S1x2048_S1x2048_0_0 (acc_of I t.val (by omega) (e44 (k0_off34_inb (grid0.coords t) h7)) e2 (lds g2 inb_S1x1024_S1x1024_0_0 (hg2 (by omega))) e4 e5
        (ld_cell g7 0 (off := ![0]) rfl inb_S2_S1_0 (numel_pos1) (hg7 (by omega) (by omega)).1) (lds g4 inb_S1x2048_S1x2048_0_0 (hg4.1 (by omega) (by omega)))), fun h => absurd h (by omega)⟩)
      iexact Hg4
    isplitl [Hg7]
    · iapply (D7_close (fun _ _ => two_cells g7 inb_S2_S1_0 inb_S2_S1_1 (max_of I t.val (by omega) (e44 (k0_off34_inb (grid0.coords t) h7)) e2 (lds g2 inb_S1x1024_S1x1024_0_0 (hg2 (by omega))) e4 e5
        (ld_cell g7 0 (off := ![0]) rfl inb_S2_S1_0 (numel_pos1) (hg7 (by omega) (by omega)).1))
        (sum_of I t.val (by omega) (e44 (k0_off34_inb (grid0.coords t) h7)) e2 (lds g2 inb_S1x1024_S1x1024_0_0 (hg2 (by omega))) e4 e5
        (ld_cell g7 0 (off := ![0]) rfl inb_S2_S1_0 (numel_pos1) (hg7 (by omega) (by omega)).1) (ld_cell g7 1 (off := ![1]) rfl inb_S2_S1_1 (numel_pos1) (hg7 (by omega) (by omega)).2))))
      iexact Hg7
  · isplitl [Hfe Hfe_dst Hfe_src Hre Hqe Hpe]
    · isplitl [Hqe]; · iexact Hqe
      isplitl [Hpe]; · iexact Hpe
      isplitl [Hfe]; · iexact Hfe
      isplitl [Hfe_dst]; · iexists _; iexact Hfe_dst
      iapply (en_split c (bk 8 (t.val - 9)) (third (sl 3 t.val)) I.en).2
      isplitl [Hfe_src]; · iexact Hfe_src
      iexact Hre
    isplitl [HRP]; · iapply (RP_rest c I.pv t.val (Or.inl (by omega))); iexact HRP
    iexists _; iexact HW
  · isplitl [Hfe Hfe_dst Hfe_src Hre Hqe Hce Hre2]
    · isplitl [Hqe]; · iexact Hqe
      isplitl [Hce Hre2]
      · isplitl [Hce]; · iexists _; iexact Hce
        iexact Hre2
      isplitl [Hfe]; · iexact Hfe
      isplitl [Hfe_dst]; · iexists _; iexact Hfe_dst
      iapply (en_split c (bk 8 (t.val - 9)) (third (sl 3 t.val)) I.en).2
      isplitl [Hfe_src]; · iexact Hfe_src
      iexact Hre
    isplitl [HRP]; · iapply (RP_rest c I.pv t.val (Or.inl (by omega))); iexact HRP
    iexists _; iexact HW
  · isplitl [Hfe Hfe_dst Hfe_src Hre Hqe Hce Hre2]
    · isplitl [Hqe]; · iexact Hqe
      isplitl [Hce Hre2]
      · isplitl [Hce]; · iexists _; iexact Hce
        iexact Hre2
      isplitl [Hfe]; · iexact Hfe
      isplitl [Hfe_dst]; · iexists _; iexact Hfe_dst
      iapply (en_split c (bk 8 (t.val - 9)) (third (sl 3 t.val)) I.en).2
      isplitl [Hfe_src]; · iexact Hfe_src
      iexact Hre
    isplitl [Hqp Hpp Hcp Hrp2]
    · isplitl [Hqp]; · iexact Hqp
      isplitl [Hpp]; · iexact Hpp
      isplitl [Hcp]; · iexists _; iexact Hcp
      iexact Hrp2
    iexists _; iexact HW
  · isplitl [Hfe Hfe_dst Hfe_src Hre Hqe Hpe]
    · isplitl [Hqe]; · iexact Hqe
      isplitl [Hpe]; · iexact Hpe
      isplitl [Hfe]; · iexact Hfe
      isplitl [Hfe_dst]; · iexists _; iexact Hfe_dst
      iapply (en_split c (bk 8 (t.val - 9)) (third (sl 3 t.val)) I.en).2
      isplitl [Hfe_src]; · iexact Hfe_src
      iexact Hre
    isplitl [Hqp Hpp Hcp Hrp2]
    · isplitl [Hqp]; · iexact Hqp
      isplitl [Hpp]; · iexact Hpp
      isplitl [Hcp]; · iexists _; iexact Hcp
      iexact Hrp2
    iexists _; iexact HW

end Cert.KernelIdeal.Run
-- ==== Proof.CaseF.lean ====
module

public import proofs.«01_k».proof.Proof.CaseE

@[expose] public section

set_option maxRecDepth 16384

noncomputable section

/-! Step 16: the last encoder block is taken in, and the attention weights and the context are stored. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Ring (sl bk)

variable {F : FTy → Type} [FloatOps F]

local notation "𝕄" => MT nD τ sig Unit (Elt F) ℕ (Pipeline.UD sig nD τ) ℕ

set_option maxHeartbeats 8000000 in
theorem runF (c : Dev nD) (t : Fin grid0.N) (ht : t.val = 16) (S : Stg) (I : Inp F) (K : PUnit → sProp 𝕄) :
   iprop(owns (c : Thread nD τ) S.we fullShare I.we ∗ owns (c : Thread nD τ) S.wi fullShare I.wi ∗ owns (c : Thread nD τ) S.bi fullShare I.bi ∗ (∃ d, owns (c : Thread nD τ) S.oa fullShare d) ∗ D2 c I t.val ∗ D3 c I t.val ∗ D4 c I t.val ∗ D7 c I t.val ∗ RE c I.en t.val ∗ RP c I.pv t.val ∗ ow c
      ∗ (iprop(owns (c : Thread nD τ) S.we fullShare I.we ∗ owns (c : Thread nD τ) S.wi fullShare I.wi ∗ owns (c : Thread nD τ) S.bi fullShare I.bi ∗ owns (c : Thread nD τ) S.oa fullShare (aV I) ∗ D2 c I (t.val + 1) ∗ D3 c I (t.val + 1) ∗ D4 c I (t.val + 1) ∗ D7 c I (t.val + 1) ∗ RE c I.en (t.val + 1) ∗ RP c I.pv (t.val + 1) ∗ ow c) -∗ K PUnit.unit))
   ⊢ wp frame (wpE (defs₀ (F := F)) Variants.none c none) Set.univ (bodyOf t S) K := by
  have h1 := nc (c1 t) (by omega)
  have h5 := nc (c5 t) (by omega)
  have h6 := nc (c6 t) (by omega)
  have h7 := (c7 t).2 (by omega)
  have h10 := (c10 t).2 ht
  have h11 := nc (c11 t) (by omega)
  have h18 := nc (c18 t) (by omega)
  simp only [bodyOf, cc0__body_eq_skeleton]; unfold cc0__body_skel
  simp only [dif_neg h1, dif_neg h5, dif_neg h6, dif_pos h7, dif_pos h10, dif_neg h11, dif_neg h18, k0_part3_eq_skeleton]
  unfold k0_part3_skel
  letI : ClosedOff (k0_off34 (grid0.coords t)) := ⟨_, o34 t (by omega)⟩
  letI : ClosedOff (k0_off35 (grid0.coords t)) := ⟨_, o35 t (by omega) (by omega)⟩
  have h8 := nc (c8 t (by omega) (by omega)) (by omega)
  have h9 := (c9 t (by omega) (by omega)).2 (by omega)
  simp only [dif_neg h8, dif_pos h9, cel_at _ (o28 t (by omega)), pvS_at (o29 t (by omega)), pvB_at (o30 t (by omega) (by omega)), cel_at _ (o31 t (by omega)), enS_at (o32 t (by omega)), enB_at (o33 t (by omega) (by omega))]
  rw [RE_eq (a := some (bk 8 (t.val - 9))) (b := none) (d := none) (if_pos (by omega)) (if_neg (by omega)) (if_neg (by omega)),
    RE_succ (a := none) (b := none) (d := none) (if_neg (by omega)) (if_neg (by omega)) (if_neg (by omega)),
    RP_eq (a := none) (b := some (bk 4 (t.val - 16))) (d := some (bk 4 (t.val - 15))) (if_neg (by omega)) (if_pos (by omega)) (if_pos (by omega)),
    RP_succ (a := some (bk 4 (t.val - 16))) (b := some (bk 4 (t.val - 15))) (d := some (bk 4 (t.val - 14))) (if_pos (by omega)) (if_pos (by omega)) (if_pos (by omega))]
  unfold owns ow
  iintro ⟨⟨%f7, %hf7, H7⟩, ⟨%f10, %hf10, H10⟩, ⟨%f11, %hf11, H11⟩, ⟨%da, %fa, %hfa, H17⟩, HD2, HD3, HD4, HD7, ⟨⟨⟨%fe, Hfe⟩, Hre⟩, Hqe, Hpe⟩, ⟨⟨Hcp, ⟨%gp, Hsp⟩, Hwp⟩, Hqp, Hpp⟩, ⟨%Ws, HW⟩, Hk⟩
  ihave Hwp' := (pv_split c (bk 4 (t.val - 14)) (third (sl 3 (t.val + 1))) I.pv).1 $$ Hwp
  icases Hwp' with ⟨Hbp, Hrp2⟩
  ihave HD2 := D2_open $$ HD2
  icases HD2 with ⟨%g2, %hg2, Hg2⟩
  ihave HD3 := D3_open $$ HD3
  icases HD3 with ⟨%g3, %hg3, Hg3⟩
  ihave HD4 := D4_open $$ HD4
  icases HD4 with ⟨%g4, %hg4, Hg4⟩
  ihave HD7 := D7_open $$ HD7
  icases HD7 with ⟨%g7, %hg7, Hg7⟩
  obtain rfl := S.weW.eq_unread hf7
  obtain rfl := S.wiW.eq_unread hf10
  obtain rfl := S.biW.eq_unread hf11
  sl_exec
  sl_step
  iapply Hk
  have h89 : t.val + 1 - 9 = 8 := by omega
  have e44 := shows_en I c (sl 3 t.val) (bk 8 (t.val - 9)) (enS (sl 3 t.val)).view.junk (o34 t (by omega)) (k0_off34_inb (grid0.coords t) h7)
  have e2 := ld_all S.weW I.we inb_S1024x2048_S1024x2048_0_0
  have e3 := lds g2 inb_S1x1024_S1x1024_0_0 (hg2 (by omega))
  have e4 := ld_all S.wiW I.wi inb_S1x1024_S1x1024_0_0
  have e5 := ld_all S.biW I.bi inb_S1x1_S1x1_0_0
  have e6 := ld_cell g7 0 (off := ![0]) rfl inb_S2_S1_0 numel_pos1 (hg7 (by omega) (by omega)).1
  have e7 := ld_cell g7 1 (off := ![1]) rfl inb_S2_S1_1 numel_pos1 (hg7 (by omega) (by omega)).2
  have m7 := two_cells g7 inb_S2_S1_0 inb_S2_S1_1 ((max_of I t.val (by omega) e44 e2 e3 e4 e5 e6).trans (by rw [h89])) ((sum_of I t.val (by omega) e44 e2 e3 e4 e5 e6 e7).trans (by rw [h89]))
  have e8 := acc_of I t.val (by omega) e44 e2 e3 e4 e5 e6 (lds (b := cc0_scratch4) (off := ![0, 0]) g4 inb_S1x2048_S1x2048_0_0 (hg4.1 (by omega) (by omega)))
  rw [h89] at e8
  have es : runF.sl.r_3 c t S I h7 g2 g7 = (stt I 8).2.1 := ld_cell _ 1 (off := ![1]) rfl inb_S2_S1_1 numel_pos1 m7.2
  have em : runF.sl.r_4 c t S I h7 g2 g7 = (stt I 8).1 := ld_cell _ 0 (off := ![0]) rfl inb_S2_S1_0 numel_pos1 m7.1
  have ev : runF.sl.v27 c t S I h7 g2 g3 = eV I := scores_all c I t.val ht hg3 (o35 t (by omega) (by omega)) (inb := k0_off35_inb (grid0.coords t) h7) (inb' := inb_S1x2048_S1x2048_0_0) (ech_of I (bk 8 (t.val - 9)) e44 e2 e3 e4 e5)
  have ea : runF.sl.v35 c t S I h7 g2 g4 g7 = (stt I 8).2.2 :=
    (View.readCov_full (Memref.whole cc0_scratch4).view inb_S1x2048_S1x2048_0_0 inb_S1x2048_S1x2048_0_0 _ []).trans e8
  isplitl [H7]
  · iexists _; isplitr; · ipureintro; exact S.weW.read_unread _
    iexact H7
  isplitl [H10]
  · iexists _; isplitr; · ipureintro; exact S.wiW.read_unread _
    iexact H10
  isplitl [H11]
  · iexists _; isplitr; · ipureintro; exact S.biW.read_unread _
    iexact H11
  isplitl [H17]
  · iexists _; isplitr; rotate_left
    · iexact H17
    ipureintro; exact st_all _ inb_S1x2048_S1x2048_0_0 (aV_of I es ev em)
  isplitl [Hg2]
  · iapply (D2_close (fun _ => hg2 (by omega)))
    iexact Hg2
  isplitl [Hg3]
  · iapply (D3_close (scores_grow c I t.val (by omega) hg3 (o35 t (by omega) (by omega)) (k0_off35_inb (grid0.coords t) h7) (ech_of I (bk 8 (t.val - 9)) e44 e2 e3 e4 e5)))
    iexact Hg3
  isplitl [Hg4]
  · iapply (D4_close ⟨fun _ h => absurd h (by omega), fun _ => st_top (M := Memref.whole cc0_scratch4) g4 _ inb_S1x2048_S1x2048_0_0 (ctx_of I es ea)⟩)
    iexact Hg4
  isplitl [Hg7]
  · iapply (D7_close (fun _ h => absurd h (by omega)))
    iexact Hg7
  isplitl [Hfe Hfe_dst Hfe_src Hre Hqe Hpe]
  · isplitl [Hqe]; · iexact Hqe
    isplitl [Hpe]; · iexact Hpe
    isplitl [Hfe]; · iexact Hfe
    isplitl [Hfe_dst]; · iexists _; iexact Hfe_dst
    iapply (en_split c (bk 8 (t.val - 9)) (third (sl 3 t.val)) I.en).2
    isplitl [Hfe_src]; · iexact Hfe_src
    iexact Hre
  isplitl [Hqp Hpp Hcp Hrp2]
  · isplitl [Hqp]; · iexact Hqp
    isplitl [Hpp]; · iexact Hpp
    isplitl [Hcp]; · iexists _; iexact Hcp
    iexact Hrp2
  iexists _; iexact HW

end Cert.KernelIdeal.Run
-- ==== Proof.Steps3.lean ====
module

public import proofs.«01_k».proof.Proof.State2
public import proofs.«01_k».proof.Proof.CaseE
public import proofs.«01_k».proof.Proof.CaseF

@[expose] public section

set_option maxRecDepth 16384

noncomputable section

/-! The steps of the attention, on the whole state. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

variable (c : Dev nD) (I : Inp F) (S : Stg) (t : Fin grid0.N) (xp : Vec F S1x50000 .f32) (xh xc : Vec F S1x1024 .f32) (xa xv : Vec F S1x2048 .f32)

theorem doesE (ht : 9 ≤ t.val ∧ t.val < 16) : Does c I S t xp xp xh xc xh xc xa xv xa xv := by
  intro K
  unfold Ops St Res
  iintro ⟨⟨Hx, Hh0, Hc0, Haw, Hcv, Hbg, Hwe, Hwd, Hbd, Hwi, Hbi, Hb1, Hb2⟩, ⟨HI, HH, HE, HP, HV, H0, H1, H2, H3, H4, H5, H6, H7⟩, How, ⟨Hp, Hh, Hc, Ha, Hv⟩, HK⟩
  ihave HI := RI_rest c I.ih t.val (by omega) $$ HI
  ihave HH := RH_rest c I.hh t.val (by omega) $$ HH
  ihave HV := RV_rest c I.vo t.val (by omega) $$ HV
  ihave H0 := D0_rest c I (t := t.val) (by omega) $$ H0
  ihave H1 := D1_rest c I (t := t.val) (by omega) $$ H1
  ihave H5 := D5_rest c I (t := t.val) (by omega) $$ H5
  ihave H6 := D6_rest c I (t := t.val) (by omega) $$ H6
  iapply (runE c t ht S I _)
  iframe Hwe Hwi Hbi H2 H3 H4 H7 HE HP How
  iintro ⟨Hwe, Hwi, Hbi, H2, H3, H4, H7, HE, HP, How⟩
  iapply HK
  iframe

theorem doesF (ht : t.val = 16) : Does c I S t xp xp xh xc xh xc xa xv (aV I) xv := by
  intro K
  unfold Ops St Res
  iintro ⟨⟨Hx, Hh0, Hc0, Haw, Hcv, Hbg, Hwe, Hwd, Hbd, Hwi, Hbi, Hb1, Hb2⟩, ⟨HI, HH, HE, HP, HV, H0, H1, H2, H3, H4, H5, H6, H7⟩, How, ⟨Hp, Hh, Hc, Ha, Hv⟩, HK⟩
  ihave HI := RI_rest c I.ih t.val (by omega) $$ HI
  ihave HH := RH_rest c I.hh t.val (by omega) $$ HH
  ihave HV := RV_rest c I.vo t.val (by omega) $$ HV
  ihave H0 := D0_rest c I (t := t.val) (by omega) $$ H0
  ihave H1 := D1_rest c I (t := t.val) (by omega) $$ H1
  ihave H5 := D5_rest c I (t := t.val) (by omega) $$ H5
  ihave H6 := D6_rest c I (t := t.val) (by omega) $$ H6
  iapply (runF c t ht S I _)
  iframe Hwe Hwi Hbi H2 H3 H4 H7 HE HP How
  isplitl [Ha]; · iexists xa; iexact Ha
  iintro ⟨Hwe, Hwi, Hbi, Ha, H2, H3, H4, H7, HE, HP, How⟩
  iapply HK
  iframe

end Cert.KernelIdeal.Run
-- ==== Proof.CaseP.lean ====
module

public import proofs.«01_k».proof.Proof.Chunks

@[expose] public section

set_option maxRecDepth 16384

noncomputable section

/-! Steps 17 to 20: a block of the first projection has arrived, and its chunk is stored. Step 17 and step 18 also send for the first
    two blocks of the second projection. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Ring (sl bk)

variable {F : FTy → Type} [FloatOps F]

local notation "𝕄" => MT nD τ sig Unit (Elt F) ℕ (Pipeline.UD sig nD τ) ℕ

set_option maxHeartbeats 8000000 in
theorem runP (c : Dev nD) (t : Fin grid0.N) (ht : 17 ≤ t.val ∧ t.val < 21) (S : Stg) (I : Inp F) (K : PUnit → sProp 𝕄) :
   iprop(owns (c : Thread nD τ) S.b1 fullShare I.b1 ∗ D1 c I t.val ∗ D4 c I t.val ∗ D5 c I t.val ∗ RP c I.pv t.val ∗ RV c I.vo t.val ∗ ow c
      ∗ (iprop(owns (c : Thread nD τ) S.b1 fullShare I.b1 ∗ D1 c I (t.val + 1) ∗ D4 c I (t.val + 1) ∗ D5 c I (t.val + 1) ∗ RP c I.pv (t.val + 1) ∗ RV c I.vo (t.val + 1) ∗ ow c) -∗ K PUnit.unit))
   ⊢ wp frame (wpE (defs₀ (F := F)) Variants.none c none) Set.univ (bodyOf t S) K := by
  have h1 := nc (c1 t) (by omega)
  have h5 := nc (c5 t) (by omega)
  have h6 := nc (c6 t) (by omega)
  have h7 := nc (c7 t) (by omega)
  have h10 := nc (c10 t) (by omega)
  have h11 := (c11 t).2 (by omega)
  have h18 := nc (c18 t) (by omega)
  simp only [bodyOf, cc0__body_eq_skeleton]; unfold cc0__body_skel
  simp only [dif_neg h1, dif_neg h5, dif_neg h6, dif_neg h7, dif_neg h10, dif_pos h11, dif_neg h18, k0_part4_eq_skeleton]
  unfold k0_part4_skel
  have h13 := c13
  have h14 : ¬ k0_cond14 = 1#1 := by rw [c14]; decide
  have h16 := c16
  have h17 : ¬ k0_cond17 = 1#1 := by rw [c17]; decide
  letI : ClosedOff (k0_off54 (grid0.coords t)) := ⟨_, o54 t (by omega)⟩
  letI : ClosedOff (k0_off55 (grid0.coords t)) := ⟨_, o55 t (by omega) (by omega)⟩
  rcases (by omega : t.val = 17 ∨ t.val = 18 ∨ 19 ≤ t.val) with h | h | h
  on_goal 1 =>
    have h12 := (c12 t (by omega) (by omega)).2 (by omega)
    have h15 := nc (c15 t (by omega) (by omega)) (by omega)
    simp only [dif_pos h12, dif_neg h15, dif_pos h13, dif_neg h14, cel_at _ (o36 t (by omega)), voS_at (o37 t (by omega)), voB_at (o38 t (by omega)),
      cel_at _ (o51 t (by omega)), pvS_at (o52 t (by omega)), pvB_at (o53 t (by omega) (by omega))]
    rw [RP_eq (a := some (bk 4 (t.val - 17))) (b := some (bk 4 (t.val - 16))) (d := some (bk 4 (t.val - 15))) (if_pos (by omega)) (if_pos (by omega)) (if_pos (by omega)),
      RP_succ (a := some (bk 4 (t.val - 16))) (b := some (bk 4 (t.val - 15))) (d := none) (if_pos (by omega)) (if_pos (by omega)) (if_neg (by omega)),
      RV_eq (a := .free) (b := .free) (d := .free) (v0_free (by omega)) (v1_free (by omega)) (v2_free (by omega)),
      RV_succ (a := .flies (bk 32 (t.val - 17))) (b := .free) (d := .free) (v0_early (by omega)) (v1_free (by omega)) (v2_free (by omega))]
    unfold owns ow
    iintro ⟨⟨%f12, %hf12, H12⟩, HD1, HD4, HD5, ⟨⟨⟨%fp, Hfp⟩, Hrp⟩, Hqp, Hpp⟩, ⟨Hv0, ⟨Hcv, ⟨%gv, Hsv⟩, Hwv⟩, Hv2⟩, ⟨%Ws, HW⟩, Hk⟩
    ihave Hwv' := (vo_split c (bk 32 (t.val - 17)) (third (sl 3 (t.val + 1))) I.vo).1 $$ Hwv
    icases Hwv' with ⟨Hbv, Hrv⟩
  on_goal 2 =>
    have h12 := nc (c12 t (by omega) (by omega)) (by omega)
    have h15 := (c15 t (by omega) (by omega)).2 (by omega)
    simp only [dif_neg h12, dif_pos h15, dif_pos h16, dif_neg h17, cel_at _ (o42 t (by omega)), pvS_at (o43 t (by omega)), pvB_at (o44 t (by omega)),
      cel_at _ (o45 t (by omega)), voS_at (o46 t (by omega)), voB_at (o47 t (by omega)),
      cel_at _ (o51 t (by omega)), pvS_at (o52 t (by omega)), pvB_at (o53 t (by omega) (by omega))]
    rw [RP_eq (a := some (bk 4 (t.val - 17))) (b := some (bk 4 (t.val - 16))) (d := none) (if_pos (by omega)) (if_pos (by omega)) (if_neg (by omega)),
      RP_succ (a := some (bk 4 (t.val - 16))) (b := some (bk 4 (t.val - 15))) (d := none) (if_pos (by omega)) (if_pos (by omega)) (if_neg (by omega)),
      RV_eq (a := .flies (bk 32 (t.val - 18))) (b := .free) (d := .free) (v0_early (by omega)) (v1_free (by omega)) (v2_free (by omega)),
      RV_succ (a := .flies (bk 32 (t.val - 17))) (b := .free) (d := .flies (bk 32 (t.val - 18))) (v0_early (by omega)) (v1_free (by omega)) (v2_flies (by omega))]
    unfold owns ow
    iintro ⟨⟨%f12, %hf12, H12⟩, HD1, HD4, HD5, ⟨⟨⟨%fp, Hfp⟩, Hrp⟩, Hqp, ⟨Hcp, ⟨%gp, Hsp⟩, Hwp⟩⟩, ⟨Hv0, ⟨Hcv, ⟨%gv, Hsv⟩, Hwv⟩, Hv2⟩, ⟨%Ws, HW⟩, Hk⟩
    ihave Hwp' := (pv_split c (bk 4 (t.val - 15)) (third (sl 3 (t.val + 3))) I.pv).1 $$ Hwp
    icases Hwp' with ⟨Hbp, Hrp2⟩
    ihave Hwv' := (vo_split c (bk 32 (t.val - 17)) (third (sl 3 (t.val + 1))) I.vo).1 $$ Hwv
    icases Hwv' with ⟨Hbv, Hrv⟩
  on_goal 3 =>
    have h12 := nc (c12 t (by omega) (by omega)) (by omega)
    have h15 := nc (c15 t (by omega) (by omega)) (by omega)
    simp only [dif_neg h12, dif_neg h15, cel_at _ (o51 t (by omega)), pvS_at (o52 t (by omega)), pvB_at (o53 t (by omega) (by omega))]
    obtain ⟨ob, hb, hb'⟩ : ∃ ob : Option (Fin 4), (if 16 ≤ t.val ∧ t.val < 20 then some (bk 4 (t.val - 16)) else none) = ob ∧ (if 17 ≤ t.val + 1 ∧ t.val + 1 < 21 then some (bk 4 (t.val + 1 - 17)) else none) = ob :=
      ⟨_, rfl, by rw [show t.val + 1 - 17 = t.val - 16 by omega]; exact if_congr (by omega) rfl rfl⟩
    rw [RP_eq (a := some (bk 4 (t.val - 17))) (b := ob) (d := none) (if_pos (by omega)) hb (if_neg (by omega)),
      RP_succ (a := ob) (b := none) (d := none) hb' (if_neg (by omega)) (if_neg (by omega))]
    unfold owns ow
    iintro ⟨⟨%f12, %hf12, H12⟩, HD1, HD4, HD5, ⟨⟨⟨%fp, Hfp⟩, Hrp⟩, Hqp, Hpp⟩, HRV, ⟨%Ws, HW⟩, Hk⟩
  all_goals
    ihave HD1 := D1_open $$ HD1
    icases HD1 with ⟨%g1, %hg1, Hg1⟩
    ihave HD4 := D4_open $$ HD4
    icases HD4 with ⟨%g4, %hg4, Hg4⟩
    ihave HD5 := D5_open $$ HD5
    icases HD5 with ⟨%g5, %hg5, Hg5⟩
    obtain rfl := S.b1W.eq_unread hf12
    sl_exec
    sl_step
    iapply Hk
    isplitl [H12]
    · iexists _; isplitr; · ipureintro; exact S.b1W.read_unread _
      iexact H12
    isplitl [Hg1]
    · iapply (D1_close (fun _ => hg1 (by omega)))
      iexact Hg1
    isplitl [Hg4]
    · iapply (D4_close ⟨fun _ h => absurd h (by omega), fun _ => hg4.2 (by omega)⟩)
      iexact Hg4
    isplitl [Hg5]
    · iapply (D5_close (proj_grow c I t.val (by omega) hg5 (o55 t (by omega) (by omega)) (k0_off55_inb (grid0.coords t) h11) (pch_of I (bk 4 (t.val - 17))
        (shows_pv I c (sl 3 (t.val + 1)) (bk 4 (t.val - 17)) (pvS (sl 3 (t.val + 1))).view.junk (o54 t (by omega)) (k0_off54_inb (grid0.coords t) h11))
        (lds g1 inb_S1x1024_S1x1024_0_0 (hg1 (by omega))) (lds g4 inb_S1x2048_S1x2048_0_0 (hg4.2 (by omega)))
        (ld_cols S.b1W I.b1 (bk 4 (t.val - 17)).val (o55 t (by omega) (by omega)) _ _))))
      iexact Hg5
  · isplitl [Hfp Hfp_dst Hfp_src Hrp Hqp Hpp]
    · isplitl [Hqp]; · iexact Hqp
      isplitl [Hpp]; · iexact Hpp
      isplitl [Hfp]; · iexact Hfp
      isplitl [Hfp_dst]; · iexists _; iexact Hfp_dst
      iapply (pv_split c (bk 4 (t.val - 17)) (third (sl 3 (t.val + 1))) I.pv).2
      isplitl [Hfp_src]; · iexact Hfp_src
      iexact Hrp
    isplitl [Hv0 Hcv Hrv Hv2]
    · isplitl [Hcv Hrv]
      · isplitl [Hcv]; · iexists _; iexact Hcv
        iexact Hrv
      isplitl [Hv2]; · iexact Hv2
      iexact Hv0
    iexists _; iexact HW
  · isplitl [Hfp Hfp_dst Hfp_src Hrp Hqp Hcp Hrp2]
    · isplitl [Hqp]; · iexact Hqp
      isplitl [Hcp Hrp2]
      · isplitl [Hcp]; · iexists _; iexact Hcp
        iexact Hrp2
      isplitl [Hfp]; · iexact Hfp
      isplitl [Hfp_dst]; · iexists _; iexact Hfp_dst
      iapply (pv_split c (bk 4 (t.val - 17)) (third (sl 3 (t.val + 1))) I.pv).2
      isplitl [Hfp_src]; · iexact Hfp_src
      iexact Hrp
    isplitl [Hv0 Hcv Hrv Hv2]
    · isplitl [Hcv Hrv]
      · isplitl [Hcv]; · iexists _; iexact Hcv
        iexact Hrv
      isplitl [Hv2]; · iexact Hv2
      iexact Hv0
    iexists _; iexact HW
  · isplitl [Hfp Hfp_dst Hfp_src Hrp Hqp Hpp]
    · isplitl [Hqp]; · iexact Hqp
      isplitl [Hpp]; · iexact Hpp
      isplitl [Hfp]; · iexact Hfp
      isplitl [Hfp_dst]; · iexists _; iexact Hfp_dst
      iapply (pv_split c (bk 4 (t.val - 17)) (third (sl 3 (t.val + 1))) I.pv).2
      isplitl [Hfp_src]; · iexact Hfp_src
      iexact Hrp
    isplitl [HRV]
    · rcases (by omega : t.val = 19 ∨ t.val = 20) with h | h
      · iapply (RV_rest19 c I.vo t.val h); iexact HRV
      · iapply (RV_rest20 c I.vo t.val h); iexact HRV
    iexists _; iexact HW

end Cert.KernelIdeal.Run
-- ==== Proof.VL.lean ====
module

public import proofs.«01_k».proof.Proof.Chunks

@[expose] public section

set_option maxRecDepth 16384

noncomputable section

/-! The short last block of the vocabulary lands in the leading rows of a slot whose other rows still hold block 29. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Ring (sl bk)
open Idealize.ShloMosaic.ValueIdx (ix2 ix3)

variable {F : FTy → Type} [FloatOps F]

local notation "𝕄" => MT nD τ sig Unit (Elt F) ℕ (Pipeline.UD sig nD τ) ℕ

/-- Where row `i` of a slot lies. -/
theorem vo_emb (s : Fin 3) (j : S1536x1024.Idx) (a : Fin 3) : ((voS s).view.emb j a).val = (![s.val, (j 0).val, (j 1).val] : Fin 3 → ℕ) a := by
  have h : (voS s).view.emb j = (Rect.unit (s := S3x1536x1024) ![s.val, 0, 0] S1x1536x1024.size (by fin_cases s <;> decide)).emb (Shape.reshapeEquiv squeezes_S1x1536x1024_S1536x1024.numel_eq j) := rfl
  have h' : Shape.reshapeEquiv squeezes_S1x1536x1024_S1536x1024.numel_eq j = ix3 (0 : Fin 1) (j 0) (j 1) := by
    rw [Shape.reshapeEquiv_cons_one]
    funext a; fin_cases a <;> rfl
  rw [h, h']
  fin_cases a
  · show s.val + 1 * 0 = s.val; omega
  · show 0 + 1 * (j 0).val = (j 0).val; omega
  · show 0 + 1 * (j 1).val = (j 1).val; omega
theorem vt_emb (s : Fin 3) (j : S848x1024.Idx) (a : Fin 3) : ((vtS s).view.emb j a).val = (![s.val, (j 0).val, (j 1).val] : Fin 3 → ℕ) a := by
  have h : (vtS s).view.emb j = (Rect.unit (s := S3x1536x1024) ![s.val, 0, 0] S1x848x1024.size (by fin_cases s <;> decide)).emb (Shape.reshapeEquiv squeezes_S1x848x1024_S848x1024.numel_eq j) := rfl
  have h' : Shape.reshapeEquiv squeezes_S1x848x1024_S848x1024.numel_eq j = ix3 (0 : Fin 1) (j 0) (j 1) := by
    rw [Shape.reshapeEquiv_cons_one]
    funext a; fin_cases a <;> rfl
  rw [h, h']
  fin_cases a
  · show s.val + 1 * 0 = s.val; omega
  · show 0 + 1 * (j 0).val = (j 0).val; omega
  · show 0 + 1 * (j 1).val = (j 1).val; omega

/-- The leading rows are rows of the slot. -/
theorem vt_emb_eq (s : Fin 3) (j : S1536x1024.Idx) (h : (j 0).val < 848) : (vtS s).view.emb (ix2 ⟨(j 0).val, h⟩ (j 1)) = (voS s).view.emb j := by
  exact funext fun a => Fin.ext ((vt_emb s (ix2 ⟨(j 0).val, h⟩ (j 1)) a).trans (vo_emb s j a).symm)
theorem vt_subset (s : Fin 3) : (vtS s).view.set ⊆ (voS s).view.set := by
  intro i hi
  obtain ⟨x, -, rfl⟩ := Finset.mem_map.mp hi
  refine Finset.mem_map.mpr ⟨ix2 ⟨(x 0).val, lt_trans (x 0).isLt (by decide)⟩ (x 1), Finset.mem_univ _, ?_⟩
  exact funext fun a => Fin.ext ((vo_emb s (ix2 ⟨(x 0).val, lt_trans (x 0).isLt (by decide)⟩ (x 1)) a).trans (vt_emb s x a).symm)
theorem vt_not_mem (s : Fin 3) (j : S1536x1024.Idx) (h : ¬ (j 0).val < 848) : (voS s).view.emb j ∉ (vtS s).view.set := by
  intro hi
  obtain ⟨x, -, hx⟩ := Finset.mem_map.mp hi
  have h1 := congrArg Fin.val (congrFun hx (1 : Fin 3))
  have h2 : (x 0).val = (j 0).val := (vt_emb s x 1).symm.trans (h1.trans (vo_emb s j 1))
  exact h (by rw [← h2]; exact (x 0).isLt)

theorem vt_mem (s : Fin 3) (j : S1536x1024.Idx) (h : (j 0).val < 848) : (voS s).view.emb j ∈ (vtS s).view.set :=
  vt_emb_eq s j h ▸ Finset.mem_map_of_mem _ (Finset.mem_univ _)
/-- The slot read where its leading rows hold one thing and its other rows another. -/
theorem reads_parts (c : Dev nD) (s : Fin 3) (f : BufOf F c (voS s)) (g : BufOf F c (vtS s)) (j : S1536x1024.Idx) :
    (voS s).view.read (Elt F) ((vtS s).view.set.piecewise g f : BufOf F c (voS s)) j
      = if h : (j 0).val < 848 then (vtS s).view.read (Elt F) g (ix2 ⟨(j 0).val, h⟩ (j 1)) else (voS s).view.read (Elt F) f j := by
  by_cases h : (j 0).val < 848
  · rw [dif_pos h]
    exact (Finset.piecewise_eq_of_mem _ g f (vt_mem s j h)).trans (congrArg g (vt_emb_eq s j h).symm)
  · rw [dif_neg h]
    exact Finset.piecewise_eq_of_notMem _ g f (vt_not_mem s j h)
/-- The slot with the last block in its leading rows, over block 29. -/
theorem reads_last (I : Inp F) (c : Dev nD) (s : Fin 3) {f : BufOf F c (voS s)} {g : BufOf F c (vtS s)} (hf : Keeps c I.vo s 29 f)
    (hg : (vtS s).view.read (Elt F) g = vtB.view.read (Elt F) I.vo) :
    (voS s).view.read (Elt F) ((vtS s).view.set.piecewise g f : BufOf F c (voS s)) = vRaw I 32 := by
  unfold Keeps at hf
  funext j
  rw [reads_parts, hf, hg]
  unfold vRaw
  rw [dif_neg (show ¬ ((32 : Fin 33).val < 32) by decide)]
/-- A block that has landed is what its slot reads. -/
theorem lands (c : Dev nD) {sp sp' : Space} {S : Shape} {e : EltTy} (D : Memref sig .tc sp S e) (M : Memref sig .tc sp' S e) (W : BufOf F c M) (f : BufOf F c D) :
    D.view.read (Elt F) (landed c D M W f) = M.view.read (Elt F) W :=
  View.read_writes_whole (Val := Elt F) D.view f (ReadAs.same.apply (M.view.read (Elt F) W))
theorem vRaw_full (I : Inp F) (b : Fin 33) (k : Fin 32) (h : b.val = k.val) : vRaw I b = (voB k).view.read (Elt F) I.vo := by
  unfold vRaw
  rw [dif_pos (h ▸ k.isLt)]
  congr 2
  exact congrArg _ (Fin.ext h)

/-- A full block that has landed shows its chunk. -/
theorem shows_full (I : Inp F) (c : Dev nD) (s : Fin 3) (b : Fin 33) (k : Fin 32) (hk : b.val = k.val) (f : BufOf F c (voS s)) {o : Fin 3 → Nat} (h : o = ![s.val, 0, 0]) (inb) :
    (Memref.whole cc0_scratch12).view.readAt (Elt F) (Rect.unit (s := S3x1536x1024) o S1x1536x1024.size inb).toLoadRect (landed c (voS s) (voB k) I.vo f) = ldV I b := by
  have hv := (lands c (voS s) (voB k) I.vo f).trans (vRaw_full I b k hk).symm
  generalize landed c (voS s) (voB k) I.vo f = g at hv ⊢
  exact shows_vo I c s b g hv h inb

theorem lands_keeps (c : Dev nD) (W : BufOf F c (Memref.whole main_arg19)) (s : Fin 3) (b : Fin 32) (f : BufOf F c (voS s)) : Keeps c W s b (landed c (voS s) (voB b) W f) := by
  unfold Keeps
  exact lands c (voS s) (voB b) W f
/-- The rows the last block takes, and the others. -/
theorem vo_parts (c : Dev nD) (s : Fin 3) (f : BufOf F c (voS s)) :
    held c (voS s) f ⊢ iprop(held c (vtS s) f ∗ (voS s).view.loc (c : Thread nD τ) ↦[(voS s).view.set \ (vtS s).view.set]{fullShare} f) :=
  (pointsTo_split_subset (vt_subset s)).1
theorem vo_last (I : Inp F) (c : Dev nD) (s : Fin 3) (f : BufOf F c (voS s)) (f' : BufOf F c (vtS s)) (hf : Keeps c I.vo s 29 f) :
    iprop(held c (vtS s) (landed c (vtS s) vtB I.vo f') ∗ (voS s).view.loc (c : Thread nD τ) ↦[(voS s).view.set \ (vtS s).view.set]{fullShare} f)
      ⊢ iprop(∃ g : BufOf F c (voS s), ⌜(voS s).view.read (Elt F) g = vRaw I 32⌝ ∗ held c (voS s) g) := by
  have hg := lands c (vtS s) vtB I.vo f'
  generalize landed c (vtS s) vtB I.vo f' = g at hg ⊢
  have hr := reads_last I c s hf hg
  refine (pointsTo_join_subset (vt_subset s)).trans ?_
  iintro H
  iexists ((vtS s).view.set.piecewise g f : BufOf F c (voS s))
  isplitr; · ipureintro; exact hr
  iexact H

end Cert.KernelIdeal.Run
-- ==== Proof.CaseV.lean ====
module

public import proofs.«01_k».proof.Proof.VL

@[expose] public section

set_option maxRecDepth 16384

noncomputable section

/-! Steps 21 to 52: a block of the vocabulary has arrived and its chunk of the logits is stored. Up to step 50 a further full
    block is sent for, and step 51 sends for the short last one. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Ring (sl bk)

variable {F : FTy → Type} [FloatOps F]

local notation "𝕄" => MT nD τ sig Unit (Elt F) ℕ (Pipeline.UD sig nD τ) ℕ

/-- A slot that is free, or keeps a block, is free. -/
theorem v2_weak (c : Dev nD) (W : BufOf F c (Memref.whole main_arg19)) (s : Fin 3) {t : ℕ} (h : 21 ≤ t ∧ t < 52) : cellV c W s (v2 t) ⊢ cellV c W s .free := by
  rcases (by omega : t = 21 ∨ 22 ≤ t) with h' | h'
  · rw [v2_free (by omega)]
  · rw [v2_keeps (by omega)]; exact keeps_free c W s _
theorem v1_last {t : ℕ} (h : t = 52) : v1 t = .last := by unfold v1; rw [if_neg (by omega), if_pos h]
theorem v0_last {t : ℕ} (h : t = 53) : v0 t = .last := by unfold v0; rw [if_neg (by omega), if_pos h]

set_option maxHeartbeats 8000000 in
theorem runV (c : Dev nD) (t : Fin grid0.N) (ht : 21 ≤ t.val ∧ t.val < 53) (S : Stg) (I : Inp F) (K : PUnit → sProp 𝕄) :
   iprop(D5 c I t.val ∗ D6 c I t.val ∗ RV c I.vo t.val ∗ ow c
      ∗ (iprop(D5 c I (t.val + 1) ∗ D6 c I (t.val + 1) ∗ RV c I.vo (t.val + 1) ∗ ow c) -∗ K PUnit.unit))
   ⊢ wp frame (wpE (defs₀ (F := F)) Variants.none c none) Set.univ (bodyOf t S) K := by
  have h1 := nc (c1 t) (by omega)
  have h5 := nc (c5 t) (by omega)
  have h6 := nc (c6 t) (by omega)
  have h7 := nc (c7 t) (by omega)
  have h10 := nc (c10 t) (by omega)
  have h11 := nc (c11 t) (by omega)
  have h18 := (c18 t).2 (by omega)
  simp only [bodyOf, cc0__body_eq_skeleton]; unfold cc0__body_skel
  simp only [dif_neg h1, dif_neg h5, dif_neg h6, dif_neg h7, dif_neg h10, dif_neg h11, dif_pos h18]
  letI : ClosedOff (k0_off62 (grid0.coords t)) := ⟨_, o62 t (by omega)⟩
  letI : ClosedOff (k0_off63 (grid0.coords t)) := ⟨_, o63 t (by omega)⟩
  have h19 := (c19 t (by omega)).2 (by omega)
  have h20 := nc (c20 t (by omega)) (by omega)
  have h23 := nc (c23 t (by omega)) (by omega)
  rcases (by omega : t.val < 51 ∨ t.val = 51 ∨ t.val = 52) with h | h | h
  on_goal 1 =>
    have h21 := (c21 t (by omega)).2 (by omega)
    have h22 := nc (c22 t (by omega)) (by omega)
    simp only [dif_pos h19, dif_neg h20, dif_pos h21, dif_neg h22, dif_neg h23, cel_at _ (o56 t (by omega)), voS_at (o57 t (by omega)), voB_at (o58 t (by omega) (by omega)),
      cel_at _ (o64 t (by omega)), voS_at (o65 t (by omega)), voB_at (o66 t (by omega) (by omega))]
    rw [RV_eq (a := .flies (bk 32 (t.val - 21))) (b := .flies (bk 32 (t.val - 20))) (d := v2 t.val) (v0_flies (by omega)) (v1_flies (by omega)) rfl,
      RV_succ (a := .flies (bk 32 (t.val - 20))) (b := .flies (bk 32 (t.val - 19))) (d := .keeps (bk 32 (t.val - 21)))
        ((v0_flies (by omega)).trans (by rw [show t.val + 1 - 21 = t.val - 20 by omega])) ((v1_flies (by omega)).trans (by rw [show t.val + 1 - 20 = t.val - 19 by omega]))
        ((v2_keeps (by omega)).trans (by rw [show t.val + 1 - 22 = t.val - 21 by omega]))]
    unfold ow
    iintro ⟨HD5, HD6, ⟨⟨⟨%fv, Hfv⟩, Hrv⟩, Hqv, Hw⟩, ⟨%Ws, HW⟩, Hk⟩
    ihave Hw' := (v2_weak c I.vo (sl 3 (t.val + 2)) (t := t.val) (by omega)) $$ Hw
    icases Hw' with ⟨Hcv, ⟨%gv, Hsv⟩, Hwv⟩
    ihave Hwv' := (vo_split c (bk 32 (t.val - 19)) (third (sl 3 (t.val + 2))) I.vo).1 $$ Hwv
    icases Hwv' with ⟨Hbv, Hrv2⟩
  on_goal 2 =>
    have h21 := nc (c21 t (by omega)) (by omega)
    have h22 := (c22 t (by omega)).2 (by omega)
    simp only [dif_pos h19, dif_neg h20, dif_neg h21, dif_pos h22, dif_neg h23, cel_at _ (o56 t (by omega)), voS_at (o57 t (by omega)), voB_at (o58 t (by omega) (by omega)),
      cel_at _ (o67 t (by omega)), vtS_at (o68 t (by omega)), vtB_at (o69 t (by omega))]
    rw [RV_eq (a := .flies (bk 32 (t.val - 21))) (b := .flies (bk 32 (t.val - 20))) (d := .keeps 29) (v0_flies (by omega)) (v1_flies (by omega)) ((v2_keeps (by omega)).trans (by rw [h]; rfl)),
      RV_succ (a := .flies (bk 32 (t.val - 20))) (b := .last) (d := .free)
        ((v0_flies (by omega)).trans (by rw [show t.val + 1 - 21 = t.val - 20 by omega])) (v1_last (by omega)) (v2_free (by omega))]
    unfold ow
    iintro ⟨HD5, HD6, ⟨⟨⟨%fv, Hfv⟩, Hrv⟩, Hqv, ⟨Hcv, ⟨%gv, %hgv, Hsv0⟩, Hwv⟩⟩, ⟨%Ws, HW⟩, Hk⟩
    ihave Hsv' := (vo_parts c (sl 3 (t.val + 2)) gv) $$ Hsv0
    icases Hsv' with ⟨Hsv, Hsr⟩
    ihave Hwv' := (vt_split c (third (sl 3 (t.val + 2))) I.vo).1 $$ Hwv
    icases Hwv' with ⟨Hbv, Hrv2⟩
  on_goal 3 =>
    have h21 := nc (c21 t (by omega)) (by omega)
    have h22 := nc (c22 t (by omega)) (by omega)
    simp only [dif_pos h19, dif_neg h20, dif_neg h21, dif_neg h22, dif_neg h23, cel_at _ (o56 t (by omega)), voS_at (o57 t (by omega)), voB_at (o58 t (by omega) (by omega))]
    rw [RV_eq (a := .flies (bk 32 (t.val - 21))) (b := .last) (d := .free) (v0_flies (by omega)) (v1_last (by omega)) (v2_free (by omega)),
      RV_succ (a := .last) (b := .free) (d := .free) (v0_last (by omega)) (v1_free (by omega)) (v2_free (by omega))]
    unfold ow
    iintro ⟨HD5, HD6, ⟨⟨⟨%fv, Hfv⟩, Hrv⟩, Hqv, Hpv⟩, ⟨%Ws, HW⟩, Hk⟩
  all_goals
    ihave HD5 := D5_open $$ HD5
    icases HD5 with ⟨%g5, %hg5, Hg5⟩
    ihave HD6 := D6_open $$ HD6
    icases HD6 with ⟨%g6, %hg6, Hg6⟩
    sl_exec
    sl_step
    iapply Hk
    have hk : (bk 33 (t.val - 21)).val = (bk 32 (t.val - 21)).val := (bk_val (by omega)).trans (bk_val (by omega)).symm
    have e62 := shows_full I c (sl 3 t.val) (bk 33 (t.val - 21)) (bk 32 (t.val - 21)) hk (voS (sl 3 t.val)).view.junk (o62 t (by omega)) (k0_off62_inb (grid0.coords t) h18)
    have e5 := lds (b := cc0_scratch5) (off := ![0, 0]) g5 inb_S1x1024_S1x1024_0_0 (proj_done I t.val (by omega) hg5)
    isplitl [Hg5]
    · iapply (D5_close (by rw [show min (t.val + 1 - 17) 4 = min (t.val - 17) 4 by omega]; exact hg5))
      iexact Hg5
    isplitl [Hg6]
    · iapply (D6_close (vocab_grow c I t.val (by omega) hg6 (o63 t (by omega)) (k0_off63_inb (grid0.coords t) h18) (vch_of I (bk 33 (t.val - 21)) e5 e62)))
      iexact Hg6
  · isplitl [Hqv Hcv Hrv2 Hfv Hfv_dst Hfv_src Hrv]
    · isplitl [Hqv]; · iexact Hqv
      isplitl [Hcv Hrv2]
      · isplitl [Hcv]; · iexists _; iexact Hcv
        iexact Hrv2
      isplitl [Hfv]; · iexact Hfv
      isplitl [Hfv_dst]
      · iexists (landed c (voS (sl 3 t.val)) (voB (bk 32 (t.val - 21))) I.vo (voS (sl 3 t.val)).view.junk)
        isplitr; · ipureintro; exact lands_keeps c I.vo _ _ _
        iexact Hfv_dst
      iapply (vo_split c (bk 32 (t.val - 21)) (third (sl 3 t.val)) I.vo).2
      isplitl [Hfv_src]; · iexact Hfv_src
      iexact Hrv
    iexists _; iexact HW
  · isplitl [Hqv Hcv Hsr Hrv2 Hfv Hfv_dst Hfv_src Hrv]
    · isplitl [Hqv]; · iexact Hqv
      isplitl [Hcv Hsr Hrv2]
      · isplitl [Hcv Hsr]
        · iexists gv
          isplitr; · ipureintro; exact hgv
          isplitl [Hcv]; · iexact Hcv
          iexact Hsr
        iexact Hrv2
      isplitl [Hfv]; · iexact Hfv
      isplitl [Hfv_dst]; · iexists _; iexact Hfv_dst
      iapply (vo_split c (bk 32 (t.val - 21)) (third (sl 3 t.val)) I.vo).2
      isplitl [Hfv_src]; · iexact Hfv_src
      iexact Hrv
    iexists _; iexact HW
  · isplitl [Hqv Hpv Hfv Hfv_dst Hfv_src Hrv]
    · isplitl [Hqv]; · iexact Hqv
      isplitl [Hpv]; · iexact Hpv
      isplitl [Hfv]; · iexact Hfv
      isplitl [Hfv_dst]; · iexists _; iexact Hfv_dst
      iapply (vo_split c (bk 32 (t.val - 21)) (third (sl 3 t.val)) I.vo).2
      isplitl [Hfv_src]; · iexact Hfv_src
      iexact Hrv
    iexists _; iexact HW

end Cert.KernelIdeal.Run
-- ==== Proof.CaseW.lean ====
module

public import proofs.«01_k».proof.Proof.CaseV

@[expose] public section

set_option maxRecDepth 16384

noncomputable section

/-! Step 53: the short last block has arrived; its chunk of the logits is stored, and the probabilities are. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Ring (sl bk)

variable {F : FTy → Type} [FloatOps F]

local notation "𝕄" => MT nD τ sig Unit (Elt F) ℕ (Pipeline.UD sig nD τ) ℕ

set_option maxHeartbeats 8000000 in
theorem runW (c : Dev nD) (t : Fin grid0.N) (ht : t.val = 53) (S : Stg) (I : Inp F) (K : PUnit → sProp 𝕄) :
   iprop(owns (c : Thread nD τ) S.b2 fullShare I.b2 ∗ (∃ d, owns (c : Thread nD τ) S.op fullShare d) ∗ D5 c I t.val ∗ D6 c I t.val ∗ RV c I.vo t.val ∗ ow c
      ∗ (iprop(owns (c : Thread nD τ) S.b2 fullShare I.b2 ∗ owns (c : Thread nD τ) S.op fullShare (oV I) ∗ D5 c I (t.val + 1) ∗ D6 c I (t.val + 1) ∗ RV c I.vo (t.val + 1) ∗ ow c) -∗ K PUnit.unit))
   ⊢ wp frame (wpE (defs₀ (F := F)) Variants.none c none) Set.univ (bodyOf t S) K := by
  have h1 := nc (c1 t) (by omega)
  have h5 := nc (c5 t) (by omega)
  have h6 := nc (c6 t) (by omega)
  have h7 := nc (c7 t) (by omega)
  have h10 := nc (c10 t) (by omega)
  have h11 := nc (c11 t) (by omega)
  have h18 := (c18 t).2 (by omega)
  simp only [bodyOf, cc0__body_eq_skeleton]; unfold cc0__body_skel
  simp only [dif_neg h1, dif_neg h5, dif_neg h6, dif_neg h7, dif_neg h10, dif_neg h11, dif_pos h18]
  letI : ClosedOff (k0_off62 (grid0.coords t)) := ⟨_, o62 t (by omega)⟩
  letI : ClosedOff (k0_off63 (grid0.coords t)) := ⟨_, o63 t (by omega)⟩
  have h19 := nc (c19 t (by omega)) (by omega)
  have h20 := (c20 t (by omega)).2 (by omega)
  have h21 := nc (c21 t (by omega)) (by omega)
  have h22 := nc (c22 t (by omega)) (by omega)
  have h23 := (c23 t (by omega)).2 (by omega)
  simp only [dif_neg h19, dif_pos h20, dif_neg h21, dif_neg h22, dif_pos h23, cel_at _ (o59 t (by omega)), vtS_at (o60 t (by omega)), vtB_at (o61 t (by omega))]
  rw [RV_eq (a := .last) (b := .free) (d := .free) (v0_last (by omega)) (v1_free (by omega)) (v2_free (by omega)),
    RV_succ (a := .free) (b := .free) (d := .free) (v0_free (by omega)) (v1_free (by omega)) (v2_free (by omega))]
  unfold owns ow
  iintro ⟨⟨%f13, %hf13, H13⟩, ⟨%da, %fa, %hfa, H14⟩, HD5, HD6, ⟨⟨⟨%fv, %hfv, Hfv, Hsr⟩, Hrv⟩, Hqv, Hpv⟩, ⟨%Ws, HW⟩, Hk⟩
  ihave HD5 := D5_open $$ HD5
  icases HD5 with ⟨%g5, %hg5, Hg5⟩
  ihave HD6 := D6_open $$ HD6
  icases HD6 with ⟨%g6, %hg6, Hg6⟩
  obtain rfl := S.b2W.eq_unread hf13
  sl_exec
  ihave Hj := (vo_last I c (sl 3 t.val) fv fv hfv) $$ [Hfv_dst Hsr]
  · isplitl [Hfv_dst]; · iexact Hfv_dst
    iexact Hsr
  icases Hj with ⟨%gj, %hgj, Hj⟩
  sl_exec
  sl_step
  iapply Hk
  have hb : bk 33 (t.val - 21) = 32 := by rw [ht]; rfl
  have e62 := shows_vo I c (sl 3 t.val) (bk 33 (t.val - 21)) gj (hb ▸ hgj) (o62 t (by omega)) (k0_off62_inb (grid0.coords t) h18)
  have e5 := lds (b := cc0_scratch5) (off := ![0, 0]) g5 inb_S1x1024_S1x1024_0_0 (proj_done I t.val (by omega) hg5)
  isplitl [H13]
  · iexists _; isplitr; · ipureintro; exact S.b2W.read_unread _
    iexact H13
  isplitl [H14]
  · iexists _; isplitr; rotate_left
    · iexact H14
    ipureintro; exact st_all _ inb_S1x50000_S1x50000_0_0 (oV_of I (vocab_all c I t.val ht hg6 (o63 t (by omega)) (inb := k0_off63_inb (grid0.coords t) h18) (inb' := inb_S1x50688_S1x50688_0_0) (vch_of I (bk 33 (t.val - 21)) e5 e62)) (ld_all S.b2W I.b2 inb_S1x50688_S1x50688_0_0))
  isplitl [Hg5]
  · iapply (D5_close (by rw [show min (t.val + 1 - 17) 4 = min (t.val - 17) 4 by omega]; exact hg5))
    iexact Hg5
  isplitl [Hg6]
  · iapply (D6_close (vocab_grow c I t.val (by omega) hg6 (o63 t (by omega)) (k0_off63_inb (grid0.coords t) h18) (vch_of I (bk 33 (t.val - 21)) e5 e62)))
    iexact Hg6
  isplitl [Hqv Hpv Hfv Hj Hfv_src Hrv]
  · isplitl [Hqv]; · iexact Hqv
    isplitl [Hpv]; · iexact Hpv
    isplitl [Hfv]; · iexact Hfv
    isplitl [Hj]; · iexists _; iexact Hj
    iapply (vt_split c (third (sl 3 t.val)) I.vo).2
    isplitl [Hfv_src]; · iexact Hfv_src
    iexact Hrv
  iexists _; iexact HW

end Cert.KernelIdeal.Run
-- ==== Proof.Steps4.lean ====
module

public import proofs.«01_k».proof.Proof.State2
public import proofs.«01_k».proof.Proof.CaseP
public import proofs.«01_k».proof.Proof.CaseV
public import proofs.«01_k».proof.Proof.CaseW

@[expose] public section

set_option maxRecDepth 16384

noncomputable section

/-! The steps of the projections, on the whole state. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

variable (c : Dev nD) (I : Inp F) (S : Stg) (t : Fin grid0.N) (xp : Vec F S1x50000 .f32) (xh xc : Vec F S1x1024 .f32) (xa xv : Vec F S1x2048 .f32)

theorem doesP (ht : 17 ≤ t.val ∧ t.val < 21) : Does c I S t xp xp xh xc xh xc xa xv xa xv := by
  intro K
  unfold Ops St Res
  iintro ⟨⟨Hx, Hh0, Hc0, Haw, Hcv, Hbg, Hwe, Hwd, Hbd, Hwi, Hbi, Hb1, Hb2⟩, ⟨HI, HH, HE, HP, HV, H0, H1, H2, H3, H4, H5, H6, H7⟩, How, ⟨Hp, Hh, Hc, Ha, Hv⟩, HK⟩
  ihave HI := RI_rest c I.ih t.val (by omega) $$ HI
  ihave HH := RH_rest c I.hh t.val (by omega) $$ HH
  ihave HE := RE_rest c I.en t.val (by omega) $$ HE
  ihave H0 := D0_rest c I (t := t.val) (by omega) $$ H0
  ihave H2 := D2_rest c I (t := t.val) (by omega) $$ H2
  ihave H3 := D3_rest c I (t := t.val) (by omega) $$ H3
  ihave H6 := D6_rest c I (t := t.val) (by omega) $$ H6
  ihave H7 := D7_rest c I (t := t.val) (by omega) $$ H7
  iapply (runP c t ht S I _)
  iframe Hb1 H1 H4 H5 HP HV How
  iintro ⟨Hb1, H1, H4, H5, HP, HV, How⟩
  iapply HK
  iframe

theorem doesV (ht : 21 ≤ t.val ∧ t.val < 53) : Does c I S t xp xp xh xc xh xc xa xv xa xv := by
  intro K
  unfold Ops St Res
  iintro ⟨⟨Hx, Hh0, Hc0, Haw, Hcv, Hbg, Hwe, Hwd, Hbd, Hwi, Hbi, Hb1, Hb2⟩, ⟨HI, HH, HE, HP, HV, H0, H1, H2, H3, H4, H5, H6, H7⟩, How, ⟨Hp, Hh, Hc, Ha, Hv⟩, HK⟩
  ihave HI := RI_rest c I.ih t.val (by omega) $$ HI
  ihave HH := RH_rest c I.hh t.val (by omega) $$ HH
  ihave HE := RE_rest c I.en t.val (by omega) $$ HE
  ihave HP := RP_rest c I.pv t.val (by omega) $$ HP
  ihave H0 := D0_rest c I (t := t.val) (by omega) $$ H0
  ihave H1 := D1_rest c I (t := t.val) (by omega) $$ H1
  ihave H2 := D2_rest c I (t := t.val) (by omega) $$ H2
  ihave H3 := D3_rest c I (t := t.val) (by omega) $$ H3
  ihave H4 := D4_rest c I (t := t.val) (by omega) $$ H4
  ihave H7 := D7_rest c I (t := t.val) (by omega) $$ H7
  iapply (runV c t ht S I _)
  iframe H5 H6 HV How
  iintro ⟨H5, H6, HV, How⟩
  iapply HK
  iframe

theorem doesW (ht : t.val = 53) : Does c I S t xp (oV I) xh xc xh xc xa xv xa xv := by
  intro K
  unfold Ops St Res
  iintro ⟨⟨Hx, Hh0, Hc0, Haw, Hcv, Hbg, Hwe, Hwd, Hbd, Hwi, Hbi, Hb1, Hb2⟩, ⟨HI, HH, HE, HP, HV, H0, H1, H2, H3, H4, H5, H6, H7⟩, How, ⟨Hp, Hh, Hc, Ha, Hv⟩, HK⟩
  ihave HI := RI_rest c I.ih t.val (by omega) $$ HI
  ihave HH := RH_rest c I.hh t.val (by omega) $$ HH
  ihave HE := RE_rest c I.en t.val (by omega) $$ HE
  ihave HP := RP_rest c I.pv t.val (by omega) $$ HP
  ihave H0 := D0_rest c I (t := t.val) (by omega) $$ H0
  ihave H1 := D1_rest c I (t := t.val) (by omega) $$ H1
  ihave H2 := D2_rest c I (t := t.val) (by omega) $$ H2
  ihave H3 := D3_rest c I (t := t.val) (by omega) $$ H3
  ihave H4 := D4_rest c I (t := t.val) (by omega) $$ H4
  ihave H7 := D7_rest c I (t := t.val) (by omega) $$ H7
  iapply (runW c t ht S I _)
  iframe Hb2 H5 H6 HV How
  isplitl [Hp]; · iexists xp; iexact Hp
  iintro ⟨Hb2, Hp, H5, H6, HV, How⟩
  iapply HK
  iframe

end Cert.KernelIdeal.Run
-- ==== Proof.Data.lean ====
module

public import proofs.«01_k».proof.Proof.Steps1
public import proofs.«01_k».proof.Proof.Steps2
public import proofs.«01_k».proof.Proof.Steps3
public import proofs.«01_k».proof.Proof.Steps4

@[expose] public section

set_option maxRecDepth 16384

noncomputable section

/-! The contents a step is handed and leaves, window by window, and the state as the loop's invariant. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (c : Dev nD)

/-- The first point. -/
abbrev p0 : Fin cfg0.N := ⟨0, by decide⟩

/-- What the region is entered with. -/
def inp : Inp F where
  x := iblk m c 0 p0
  h0 := iblk m c 1 p0
  c0 := iblk m c 2 p0
  aw := iblk m c 3 p0
  cv := iblk m c 4 p0
  bg := iblk m c 5 p0
  we := iblk m c 6 p0
  wd := iblk m c 7 p0
  bd := iblk m c 8 p0
  wi := iblk m c 9 p0
  bi := iblk m c 10 p0
  b1 := iblk m c 11 p0
  b2 := iblk m c 12 p0
  ih := V m c main_arg7
  hh := V m c main_arg8
  en := V m c main_arg4
  pv := V m c main_arg17
  vo := V m c main_arg19

/-- The loop's invariant: the state, and the generator's register. -/
def Phi (k : ℕ) : sProp 𝕄 := iprop(St c (inp m c) k ∗ ∃ r, prngReg c r)

/-- The loop's data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => oV (inp m c)
    | ⟨14, _⟩ => hV (inp m c)
    | ⟨15, _⟩ => cV (inp m c)
    | ⟨16, _⟩ => aV (inp m c)
    | ⟨17, _⟩ => covV (inp m c)
    | ⟨_ + 18, h⟩ => absurd h (Nat.not_lt.2 (Nat.le_add_left _ _))
  Φ t := Phi m c t.val
  q _ := fullShare
  owed _ := 0

theorem A_eq (w : Fin cfg0.W) : (dats m 0 c).A w = V m c (Pipeline.arrRef spec0 w) := by dsimp only [dats]
theorem Phi_castSucc (t : Fin cfg0.N) : (dats m 0 c).Φ t.castSucc = Phi m c t.val := by
  dsimp only [dats]; simp only [Fin.val_castSucc]
theorem Phi_succ (t : Fin cfg0.N) : (dats m 0 c).Φ t.succ = Phi m c (t.val + 1) := by
  dsimp only [dats]; simp only [Fin.val_succ]

/-! Each operand's buffer holds its block at every point. -/

theorem after_0 (t : Fin cfg0.N) : (dats m 0 c).after 0 t = iblk m c 0 t := by dsimp only [dats]
theorem before_0 (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem after_1 (t : Fin cfg0.N) : (dats m 0 c).after 1 t = iblk m c 1 t := by dsimp only [dats]
theorem before_1 (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem after_2 (t : Fin cfg0.N) : (dats m 0 c).after 2 t = iblk m c 2 t := by dsimp only [dats]
theorem before_2 (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
theorem after_3 (t : Fin cfg0.N) : (dats m 0 c).after 3 t = iblk m c 3 t := by dsimp only [dats]
theorem before_3 (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]) t d).trans
    (by unfold Dat.fetched Dat.blockOf iblk; rw [A_eq]; try rfl)
theorem after_4 (t : Fin cfg0.N) : (dats m 0 c).after 4 t = iblk m c 4 t := by dsimp only [dats]
theorem before_4 (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]) t d).trans
    (by unfold Dat.fetched Dat.blockOf iblk; rw [A_eq]; try rfl)
theorem after_5 (t : Fin cfg0.N) : (dats m 0 c).after 5 t = iblk m c 5 t := by dsimp only [dats]
theorem before_5 (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]) t d).trans
    (by unfold Dat.fetched Dat.blockOf iblk; rw [A_eq]; try rfl)
theorem after_6 (t : Fin cfg0.N) : (dats m 0 c).after 6 t = iblk m c 6 t := by dsimp only [dats]
theorem before_6 (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]) t d).trans
    (by unfold Dat.fetched Dat.blockOf iblk; rw [A_eq]; try rfl)
theorem after_7 (t : Fin cfg0.N) : (dats m 0 c).after 7 t = iblk m c 7 t := by dsimp only [dats]
theorem before_7 (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]) t d).trans
    (by unfold Dat.fetched Dat.blockOf iblk; rw [A_eq]; try rfl)
theorem after_8 (t : Fin cfg0.N) : (dats m 0 c).after 8 t = iblk m c 8 t := by dsimp only [dats]
theorem before_8 (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]) t d).trans
    (by unfold Dat.fetched Dat.blockOf iblk; rw [A_eq]; try rfl)
theorem after_9 (t : Fin cfg0.N) : (dats m 0 c).after 9 t = iblk m c 9 t := by dsimp only [dats]
theorem before_9 (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]) t d).trans
    (by unfold Dat.fetched Dat.blockOf iblk; rw [A_eq]; try rfl)
theorem after_10 (t : Fin cfg0.N) : (dats m 0 c).after 10 t = iblk m c 10 t := by dsimp only [dats]
theorem before_10 (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]) t d).trans
    (by unfold Dat.fetched Dat.blockOf iblk; rw [A_eq]; try rfl)
theorem after_11 (t : Fin cfg0.N) : (dats m 0 c).after 11 t = iblk m c 11 t := by dsimp only [dats]
theorem before_11 (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]) t d).trans
    (by unfold Dat.fetched Dat.blockOf iblk; rw [A_eq]; try rfl)
theorem after_12 (t : Fin cfg0.N) : (dats m 0 c).after 12 t = iblk m c 12 t := by dsimp only [dats]
theorem before_12 (t : Fin cfg0.N) (d) : (dats m 0 c).before 12 t d = iblk m c 12 t :=
  ((dats m 0 c).before_in_eq_fetched 12 rfl (fun _ => rfl) (fun _ _ _ => rfl) (fun t => by rw [after_12]; unfold Dat.blockOf iblk; rw [A_eq]) t d).trans
    (by unfold Dat.fetched Dat.blockOf iblk; rw [A_eq]; try rfl)

end Cert.KernelIdeal.Run
-- ==== Proof.Ends.lean ====
module

public import proofs.«01_k».proof.Proof.Data

@[expose] public section

set_option maxRecDepth 16384

noncomputable section

/-! What the launch hands the loop is its state before the first step, and the state after the last is what it takes back. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)
open Idealize.ShloMosaic.Pipeline (Dat Cfg Window BodyObligation)
open Cert.KernelIdeal Cert.KernelIdeal.Gen

variable {F : FTy → Type} [FloatOps F]

local notation "𝕄" => MT nD τ sig Unit (Elt F) ℕ (Pipeline.UD sig nD τ) ℕ

section Thirds
variable (c : Dev nD) {sp : Space} {S : Shape} {e : EltTy} (M : Memref sig .tc sp S e) (W : BufOf F c M)

omit [FloatOps F] in
/-- An array held outright is three thirds of it. -/
theorem thirds : (M.view.loc (c : Thread nD τ) ↦{fullShare} W : sProp 𝕄) ⊣⊢ iprop(entire c M (third 0) W ∗ entire c M (third 1) W ∗ entire c M (third 2) W) := by
  unfold entire
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2

omit [FloatOps F] in
/-- Three idle slots from their parts, and back. -/
theorem idles {sp' : Space} {S' : Shape} {e' : EltTy} (D : Fin 3 → Memref sig .tc sp' S' e') (A : Fin 3 → DmaSems sig S_) :
    iprop(idle c (D 0) (A 0) (entire c M (third 0) W) ∗ idle c (D 1) (A 1) (entire c M (third 1) W) ∗ idle c (D 2) (A 2) (entire c M (third 2) W))
      ⊣⊢ (iprop((semVal ((c : Thread nD τ), SemLoc.dma (A 0).sem) 0 ∗ semVal ((c : Thread nD τ), SemLoc.dma (A 1).sem) 0 ∗ semVal ((c : Thread nD τ), SemLoc.dma (A 2).sem) 0)
        ∗ ((∃ f, held c (D 0) f) ∗ (∃ f, held c (D 1) f) ∗ ∃ f, held c (D 2) f) ∗ M.view.loc (c : Thread nD τ) ↦{fullShare} W) : sProp 𝕄) := by
  refine ⟨?_, ?_⟩
  · iintro ⟨⟨A0, B0, C0⟩, ⟨A1, B1, C1⟩, ⟨A2, B2, C2⟩⟩
    isplitl [A0 A1 A2]
    · isplitl [A0]; · iexact A0
      isplitl [A1]; · iexact A1
      iexact A2
    isplitl [B0 B1 B2]
    · isplitl [B0]; · iexact B0
      isplitl [B1]; · iexact B1
      iexact B2
    iapply (thirds c M W).2
    isplitl [C0]; · iexact C0
    isplitl [C1]; · iexact C1
    iexact C2
  · iintro ⟨⟨A0, A1, A2⟩, ⟨B0, B1, B2⟩, C⟩
    ihave C := (thirds c M W).1 $$ C
    icases C with ⟨C0, C1, C2⟩
    isplitl [A0 B0 C0]
    · isplitl [A0]; · iexact A0
      isplitl [B0]; · iexact B0
      iexact C0
    isplitl [A1 B1 C1]
    · isplitl [A1]; · iexact A1
      isplitl [B1]; · iexact B1
      iexact C1
    isplitl [A2]; · iexact A2
    isplitl [B2]; · iexact B2
    iexact C2
end Thirds

/-! ### Each ring's scratch array is its three slots -/

section Slots
variable (c : Dev nD)

abbrev ihJ (s : Fin 3) : Finset S3x512x512.Idx := (Rect.unit (s := S3x512x512) ![s.val, 0, 0] S1x512x512.size (inbIhS s)).set
theorem ihJ_disjoint (s s' : Fin 3) (h : s ≠ s') : Disjoint (ihJ s) (ihJ s') :=
  Ring.lead_disjoint (s := S3x512x512) (0 : Fin 3) 1 (fun s : Fin 3 => (![s.val, 0, 0] : Fin 3 → Nat)) S1x512x512.size inbIhS (fun s => by simp) rfl s s' h
theorem ihJ_cover : Finset.univ.biUnion ihJ = Finset.univ :=
  Ring.lead_cover (s := S3x512x512) (0 : Fin 3) 1 (fun s : Fin 3 => (![s.val, 0, 0] : Fin 3 → Nat)) S1x512x512.size inbIhS (fun s => by simp)
    (fun s a ha => by fin_cases a <;> first | exact absurd rfl ha | rfl) rfl (fun a ha => by fin_cases a <;> first | exact absurd rfl ha | rfl) rfl
omit [FloatOps F] in
theorem ihJ_held (s : Fin 3) (f : BufOf F c (ihS s)) : (held c (ihS s) f : sProp 𝕄) = (((c : Thread nD τ).loc cc0_scratch8) ↦[ihJ s]{fullShare} f : sProp 𝕄) := by
  have e : (ihS s).view.set = ihJ s := by
    simp only [ihS, Memref.view_squeeze, View.set_reshape]; exact View.set_slice_whole _ _
  unfold held; rw [e]; rfl
omit [FloatOps F] in
theorem ih_slots : iprop(∃ f : Buf (Elt F) ((c : Thread nD τ).loc cc0_scratch8), ((c : Thread nD τ).loc cc0_scratch8) ↦{fullShare} f)
    ⊣⊢ (iprop((∃ f, held c (ihS 0) f) ∗ (∃ f, held c (ihS 1) f) ∗ ∃ f, held c (ihS 2) f) : sProp 𝕄) :=
  ⟨Ring.slots3_split (U := Pipeline.UD sig nD τ) (ℓ := (c : Thread nD τ).loc cc0_scratch8) (q := fullShare) ihJ ihJ_disjoint ihJ_cover
    (held c (ihS 0)) (held c (ihS 1)) (held c (ihS 2)) (ihJ_held c 0) (ihJ_held c 1) (ihJ_held c 2),
   Ring.slots3_join (U := Pipeline.UD sig nD τ) (ℓ := (c : Thread nD τ).loc cc0_scratch8) (q := fullShare) ihJ ihJ_disjoint ihJ_cover
    (held c (ihS 0)) (held c (ihS 1)) (held c (ihS 2)) (ihJ_held c 0) (ihJ_held c 1) (ihJ_held c 2)⟩

abbrev hhJ (s : Fin 3) : Finset S3x512x1024.Idx := (Rect.unit (s := S3x512x1024) ![s.val, 0, 0] S1x512x1024.size (inbHhS s)).set
theorem hhJ_disjoint (s s' : Fin 3) (h : s ≠ s') : Disjoint (hhJ s) (hhJ s') :=
  Ring.lead_disjoint (s := S3x512x1024) (0 : Fin 3) 1 (fun s : Fin 3 => (![s.val, 0, 0] : Fin 3 → Nat)) S1x512x1024.size inbHhS (fun s => by simp) rfl s s' h
theorem hhJ_cover : Finset.univ.biUnion hhJ = Finset.univ :=
  Ring.lead_cover (s := S3x512x1024) (0 : Fin 3) 1 (fun s : Fin 3 => (![s.val, 0, 0] : Fin 3 → Nat)) S1x512x1024.size inbHhS (fun s => by simp)
    (fun s a ha => by fin_cases a <;> first | exact absurd rfl ha | rfl) rfl (fun a ha => by fin_cases a <;> first | exact absurd rfl ha | rfl) rfl
omit [FloatOps F] in
theorem hhJ_held (s : Fin 3) (f : BufOf F c (hhS s)) : (held c (hhS s) f : sProp 𝕄) = (((c : Thread nD τ).loc cc0_scratch9) ↦[hhJ s]{fullShare} f : sProp 𝕄) := by
  have e : (hhS s).view.set = hhJ s := by
    simp only [hhS, Memref.view_squeeze, View.set_reshape]; exact View.set_slice_whole _ _
  unfold held; rw [e]; rfl
omit [FloatOps F] in
theorem hh_slots : iprop(∃ f : Buf (Elt F) ((c : Thread nD τ).loc cc0_scratch9), ((c : Thread nD τ).loc cc0_scratch9) ↦{fullShare} f)
    ⊣⊢ (iprop((∃ f, held c (hhS 0) f) ∗ (∃ f, held c (hhS 1) f) ∗ ∃ f, held c (hhS 2) f) : sProp 𝕄) :=
  ⟨Ring.slots3_split (U := Pipeline.UD sig nD τ) (ℓ := (c : Thread nD τ).loc cc0_scratch9) (q := fullShare) hhJ hhJ_disjoint hhJ_cover
    (held c (hhS 0)) (held c (hhS 1)) (held c (hhS 2)) (hhJ_held c 0) (hhJ_held c 1) (hhJ_held c 2),
   Ring.slots3_join (U := Pipeline.UD sig nD τ) (ℓ := (c : Thread nD τ).loc cc0_scratch9) (q := fullShare) hhJ hhJ_disjoint hhJ_cover
    (held c (hhS 0)) (held c (hhS 1)) (held c (hhS 2)) (hhJ_held c 0) (hhJ_held c 1) (hhJ_held c 2)⟩

abbrev enJ (s : Fin 3) : Finset S3x256x2048.Idx := (Rect.unit (s := S3x256x2048) ![s.val, 0, 0] S1x256x2048.size (inbEnS s)).set
theorem enJ_disjoint (s s' : Fin 3) (h : s ≠ s') : Disjoint (enJ s) (enJ s') :=
  Ring.lead_disjoint (s := S3x256x2048) (0 : Fin 3) 1 (fun s : Fin 3 => (![s.val, 0, 0] : Fin 3 → Nat)) S1x256x2048.size inbEnS (fun s => by simp) rfl s s' h
theorem enJ_cover : Finset.univ.biUnion enJ = Finset.univ :=
  Ring.lead_cover (s := S3x256x2048) (0 : Fin 3) 1 (fun s : Fin 3 => (![s.val, 0, 0] : Fin 3 → Nat)) S1x256x2048.size inbEnS (fun s => by simp)
    (fun s a ha => by fin_cases a <;> first | exact absurd rfl ha | rfl) rfl (fun a ha => by fin_cases a <;> first | exact absurd rfl ha | rfl) rfl
omit [FloatOps F] in
theorem enJ_held (s : Fin 3) (f : BufOf F c (enS s)) : (held c (enS s) f : sProp 𝕄) = (((c : Thread nD τ).loc cc0_scratch10) ↦[enJ s]{fullShare} f : sProp 𝕄) := by
  have e : (enS s).view.set = enJ s := by
    simp only [enS, Memref.view_squeeze, View.set_reshape]; exact View.set_slice_whole _ _
  unfold held; rw [e]; rfl
omit [FloatOps F] in
theorem en_slots : iprop(∃ f : Buf (Elt F) ((c : Thread nD τ).loc cc0_scratch10), ((c : Thread nD τ).loc cc0_scratch10) ↦{fullShare} f)
    ⊣⊢ (iprop((∃ f, held c (enS 0) f) ∗ (∃ f, held c (enS 1) f) ∗ ∃ f, held c (enS 2) f) : sProp 𝕄) :=
  ⟨Ring.slots3_split (U := Pipeline.UD sig nD τ) (ℓ := (c : Thread nD τ).loc cc0_scratch10) (q := fullShare) enJ enJ_disjoint enJ_cover
    (held c (enS 0)) (held c (enS 1)) (held c (enS 2)) (enJ_held c 0) (enJ_held c 1) (enJ_held c 2),
   Ring.slots3_join (U := Pipeline.UD sig nD τ) (ℓ := (c : Thread nD τ).loc cc0_scratch10) (q := fullShare) enJ enJ_disjoint enJ_cover
    (held c (enS 0)) (held c (enS 1)) (held c (enS 2)) (enJ_held c 0) (enJ_held c 1) (enJ_held c 2)⟩

abbrev pvJ (s : Fin 3) : Finset S3x256x3072.Idx := (Rect.unit (s := S3x256x3072) ![s.val, 0, 0] S1x256x3072.size (inbPvS s)).set
theorem pvJ_disjoint (s s' : Fin 3) (h : s ≠ s') : Disjoint (pvJ s) (pvJ s') :=
  Ring.lead_disjoint (s := S3x256x3072) (0 : Fin 3) 1 (fun s : Fin 3 => (![s.val, 0, 0] : Fin 3 → Nat)) S1x256x3072.size inbPvS (fun s => by simp) rfl s s' h
theorem pvJ_cover : Finset.univ.biUnion pvJ = Finset.univ :=
  Ring.lead_cover (s := S3x256x3072) (0 : Fin 3) 1 (fun s : Fin 3 => (![s.val, 0, 0] : Fin 3 → Nat)) S1x256x3072.size inbPvS (fun s => by simp)
    (fun s a ha => by fin_cases a <;> first | exact absurd rfl ha | rfl) rfl (fun a ha => by fin_cases a <;> first | exact absurd rfl ha | rfl) rfl
omit [FloatOps F] in
theorem pvJ_held (s : Fin 3) (f : BufOf F c (pvS s)) : (held c (pvS s) f : sProp 𝕄) = (((c : Thread nD τ).loc cc0_scratch11) ↦[pvJ s]{fullShare} f : sProp 𝕄) := by
  have e : (pvS s).view.set = pvJ s := by
    simp only [pvS, Memref.view_squeeze, View.set_reshape]; exact View.set_slice_whole _ _
  unfold held; rw [e]; rfl
omit [FloatOps F] in
theorem pv_slots : iprop(∃ f : Buf (Elt F) ((c : Thread nD τ).loc cc0_scratch11), ((c : Thread nD τ).loc cc0_scratch11) ↦{fullShare} f)
    ⊣⊢ (iprop((∃ f, held c (pvS 0) f) ∗ (∃ f, held c (pvS 1) f) ∗ ∃ f, held c (pvS 2) f) : sProp 𝕄) :=
  ⟨Ring.slots3_split (U := Pipeline.UD sig nD τ) (ℓ := (c : Thread nD τ).loc cc0_scratch11) (q := fullShare) pvJ pvJ_disjoint pvJ_cover
    (held c (pvS 0)) (held c (pvS 1)) (held c (pvS 2)) (pvJ_held c 0) (pvJ_held c 1) (pvJ_held c 2),
   Ring.slots3_join (U := Pipeline.UD sig nD τ) (ℓ := (c : Thread nD τ).loc cc0_scratch11) (q := fullShare) pvJ pvJ_disjoint pvJ_cover
    (held c (pvS 0)) (held c (pvS 1)) (held c (pvS 2)) (pvJ_held c 0) (pvJ_held c 1) (pvJ_held c 2)⟩

abbrev voJ (s : Fin 3) : Finset S3x1536x1024.Idx := (Rect.unit (s := S3x1536x1024) ![s.val, 0, 0] S1x1536x1024.size (inbVoS s)).set
theorem voJ_disjoint (s s' : Fin 3) (h : s ≠ s') : Disjoint (voJ s) (voJ s') :=
  Ring.lead_disjoint (s := S3x1536x1024) (0 : Fin 3) 1 (fun s : Fin 3 => (![s.val, 0, 0] : Fin 3 → Nat)) S1x1536x1024.size inbVoS (fun s => by simp) rfl s s' h
theorem voJ_cover : Finset.univ.biUnion voJ = Finset.univ :=
  Ring.lead_cover (s := S3x1536x1024) (0 : Fin 3) 1 (fun s : Fin 3 => (![s.val, 0, 0] : Fin 3 → Nat)) S1x1536x1024.size inbVoS (fun s => by simp)
    (fun s a ha => by fin_cases a <;> first | exact absurd rfl ha | rfl) rfl (fun a ha => by fin_cases a <;> first | exact absurd rfl ha | rfl) rfl
omit [FloatOps F] in
theorem voJ_held (s : Fin 3) (f : BufOf F c (voS s)) : (held c (voS s) f : sProp 𝕄) = (((c : Thread nD τ).loc cc0_scratch12) ↦[voJ s]{fullShare} f : sProp 𝕄) := by
  have e : (voS s).view.set = voJ s := by
    simp only [voS, Memref.view_squeeze, View.set_reshape]; exact View.set_slice_whole _ _
  unfold held; rw [e]; rfl
omit [FloatOps F] in
theorem vo_slots : iprop(∃ f : Buf (Elt F) ((c : Thread nD τ).loc cc0_scratch12), ((c : Thread nD τ).loc cc0_scratch12) ↦{fullShare} f)
    ⊣⊢ (iprop((∃ f, held c (voS 0) f) ∗ (∃ f, held c (voS 1) f) ∗ ∃ f, held c (voS 2) f) : sProp 𝕄) :=
  ⟨Ring.slots3_split (U := Pipeline.UD sig nD τ) (ℓ := (c : Thread nD τ).loc cc0_scratch12) (q := fullShare) voJ voJ_disjoint voJ_cover
    (held c (voS 0)) (held c (voS 1)) (held c (voS 2)) (voJ_held c 0) (voJ_held c 1) (voJ_held c 2),
   Ring.slots3_join (U := Pipeline.UD sig nD τ) (ℓ := (c : Thread nD τ).loc cc0_scratch12) (q := fullShare) voJ voJ_disjoint voJ_cover
    (held c (voS 0)) (held c (voS 1)) (held c (voS 2)) (voJ_held c 0) (voJ_held c 1) (voJ_held c 2)⟩
end Slots

end Cert.KernelIdeal.Run
-- ==== Proof.Oblig.lean ====
module

public import proofs.«01_k».proof.Proof.Data

@[expose] public section

set_option maxRecDepth 16384

noncomputable section

/-! The loop's obligation at every point, from the steps. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (c : Dev nD)

/-- Window `w` is a result stored at step `s` alone, where it takes the contents `V`. -/
structure Stored (w : Fin cfg0.W) (s : ℕ) (V : (cfg0.win w).block.Idx → Elt F (cfg0.win w).elt) : Prop where
  fetch : ∀ t, (cfg0.win w).fetch t = false
  flush : ∀ t : Fin cfg0.N, (cfg0.win w).flush t = true ↔ t.val % 54 = 53
  live : ∀ t : Fin cfg0.N, cfg0.idle w (cfg0.grid.coords t) = false ↔ t.val = s
  kept : ∀ t d, (dats m 0 c).kept w t d = V
  after : ∀ t, (dats m 0 c).after w t = V
  le : s ≤ 53

variable {m c}

/-- From then on the buffer holds them. -/
theorem Stored.later {w : Fin cfg0.W} {s : ℕ} {V} (h : Stored m c w s V) (d) : ∀ n (hn : n < cfg0.N), s < n → (dats m 0 c).before w ⟨n, hn⟩ d = V := by
  intro n
  induction n with
  | zero => intro _ h0; omega
  | succ n ih =>
    intro hn hs
    have hN : n + 1 < 54 := lt_of_lt_of_eq hn N_0
    have hn' : n < cfg0.N := Nat.lt_of_succ_lt hn
    refine (Dat.before_of_pos _ w ⟨n + 1, hn⟩ (Nat.succ_ne_zero n) (h.fetch _) d).trans ?_
    show (if (cfg0.win w).flush ⟨n, hn'⟩ = true then d else (dats m 0 c).left w ⟨n, hn'⟩ d) = V
    have hf : ¬(cfg0.win w).flush ⟨n, hn'⟩ = true := fun hh => by
      have := (h.flush ⟨n, hn'⟩).1 hh
      have e : n % 54 = 53 := this
      omega
    rw [if_neg hf]
    unfold Dat.left
    by_cases hns : n = s
    · rw [(h.live ⟨n, hn'⟩).2 hns]; exact h.kept _ _
    · have : cfg0.idle w (cfg0.grid.coords ⟨n, hn'⟩) = true := by
        rw [← Bool.not_eq_false]; exact fun hh => hns ((h.live ⟨n, hn'⟩).1 hh)
      rw [this]
      exact ih hn' (by omega)

/-- What the obligation asks of such a window after step `t`. -/
theorem Stored.leaves {w : Fin cfg0.W} {s : ℕ} {V} (h : Stored m c w s V) (t : Fin cfg0.N) (d) {X : (cfg0.win w).block.Idx → Elt F (cfg0.win w).elt}
    (hX : X = if t.val = s then V else (dats m 0 c).before w t d) :
    (owns (c : Thread nD τ) ((cfg0.win w).stage (cfg0.slots t w)) fullShare X : sProp 𝕄)
      ⊢ (match cfg0.idle w (cfg0.grid.coords t) with
        | true => match (cfg0.win w).flush t with
          | false => iprop(∃ d, owns (c : Thread nD τ) ((cfg0.win w).stage (cfg0.slots t w)) fullShare ((dats m 0 c).before w t d))
          | true => owns (c : Thread nD τ) ((cfg0.win w).stage (cfg0.slots t w)) fullShare ((dats m 0 c).after w t)
        | false => owns (c : Thread nD τ) ((cfg0.win w).stage (cfg0.slots t w)) fullShare ((dats m 0 c).after w t) : sProp 𝕄) := by
  subst hX
  by_cases hs : t.val = s
  · rw [if_pos hs, (h.live t).2 hs, h.after]
  · have hi : cfg0.idle w (cfg0.grid.coords t) = true := by
      rw [← Bool.not_eq_false]; exact fun hh => hs ((h.live t).1 hh)
    rw [if_neg hs, hi]
    by_cases hf : (cfg0.win w).flush t = true
    · have hN : t.val < 54 := lt_of_lt_of_eq t.isLt N_0
      have h53 := (h.flush t).1 hf
      rw [hf, h.after, h.later d t.val t.isLt (by have := h.le; omega)]
    · rw [Bool.not_eq_true] at hf
      rw [hf]
      iintro H; iexists d; iexact H

variable (m c)

theorem stored_op : Stored m c 13 53 (oV (inp m c)) :=
  ⟨fun _ => rfl, flush0_13, by decide +kernel, fun _ _ => rfl, fun _ => by dsimp only [dats], by omega⟩
theorem stored_oh : Stored m c 14 7 (hV (inp m c)) :=
  ⟨fun _ => rfl, flush0_14, by decide +kernel, fun _ _ => rfl, fun _ => by dsimp only [dats], by omega⟩
theorem stored_oc : Stored m c 15 7 (cV (inp m c)) :=
  ⟨fun _ => rfl, flush0_15, by decide +kernel, fun _ _ => rfl, fun _ => by dsimp only [dats], by omega⟩
theorem stored_oa : Stored m c 16 16 (aV (inp m c)) :=
  ⟨fun _ => rfl, flush0_16, by decide +kernel, fun _ _ => rfl, fun _ => by dsimp only [dats], by omega⟩
theorem stored_ov : Stored m c 17 0 (covV (inp m c)) :=
  ⟨fun _ => rfl, flush0_17, by decide +kernel, fun _ _ => rfl, fun _ => by dsimp only [dats], by omega⟩

/-- Every step, whichever it is. -/
theorem does (I : Inp F) (S : Stg) (t : Fin grid0.N) (xp : Vec F S1x50000 .f32) (xh xc : Vec F S1x1024 .f32) (xa xv : Vec F S1x2048 .f32) :
    Does c I S t xp (if t.val = 53 then oV I else xp) xh xc (if t.val = 7 then hV I else xh) (if t.val = 7 then cV I else xc)
      xa xv (if t.val = 16 then aV I else xa) (if t.val = 0 then covV I else xv) := by
  have hN : t.val < 54 := lt_of_lt_of_eq t.isLt N_0
  rcases (by omega : t.val = 0 ∨ (1 ≤ t.val ∧ t.val < 6) ∨ t.val = 6 ∨ t.val = 7 ∨ t.val = 8 ∨ (9 ≤ t.val ∧ t.val < 16) ∨ t.val = 16
    ∨ (17 ≤ t.val ∧ t.val < 21) ∨ (21 ≤ t.val ∧ t.val < 53) ∨ t.val = 53) with h | h | h | h | h | h | h | h | h | h
  · rw [if_neg (by omega), if_neg (by omega), if_neg (by omega), if_neg (by omega), if_pos (by omega)]; exact doesA c I S t xp xh xc xa xv h
  · rw [if_neg (by omega), if_neg (by omega), if_neg (by omega), if_neg (by omega), if_neg (by omega)]; exact doesB c I S t xp xh xc xa xv h
  · rw [if_neg (by omega), if_neg (by omega), if_neg (by omega), if_neg (by omega), if_neg (by omega)]; exact doesC6 c I S t xp xh xc xa xv h
  · rw [if_neg (by omega), if_pos (by omega), if_pos (by omega), if_neg (by omega), if_neg (by omega)]; exact doesC7 c I S t xp xh xc xa xv h
  · rw [if_neg (by omega), if_neg (by omega), if_neg (by omega), if_neg (by omega), if_neg (by omega)]; exact doesD c I S t xp xh xc xa xv h
  · rw [if_neg (by omega), if_neg (by omega), if_neg (by omega), if_neg (by omega), if_neg (by omega)]; exact doesE c I S t xp xh xc xa xv h
  · rw [if_neg (by omega), if_neg (by omega), if_neg (by omega), if_pos (by omega), if_neg (by omega)]; exact doesF c I S t xp xh xc xa xv h
  · rw [if_neg (by omega), if_neg (by omega), if_neg (by omega), if_neg (by omega), if_neg (by omega)]; exact doesP c I S t xp xh xc xa xv h
  · rw [if_neg (by omega), if_neg (by omega), if_neg (by omega), if_neg (by omega), if_neg (by omega)]; exact doesV c I S t xp xh xc xa xv h
  · rw [if_pos (by omega), if_neg (by omega), if_neg (by omega), if_neg (by omega), if_neg (by omega)]; exact doesW c I S t xp xh xc xa xv h

/-- The body table's row at point `t` is the body on that point's buffers. -/
theorem defs₀_row (t : Fin cfg0.N) : defs₀ (F := F) .tc cfg0.body (cfg0.bodyArgs t (cfg0.slots t)) = bodyOf t (stgAt t) := by
  unfold defs₀; rw [Defs.onTc_tc]; rfl

/-- What the thread owes, as the loop states it and as the steps do. -/
theorem owes_in (t : Fin (cfg0.N + 1)) : (dats m 0 c).owesAt () t ⊢ (ow c : sProp 𝕄) := by
  unfold Dat.owesAt Pipeline.owesWithin
  rw [show (dats m 0 c).owed t = 0 from rfl]
  iintro ⟨%W, -, HW⟩
  unfold ow
  iexists W; iexact HW
theorem owes_out (t : Fin (cfg0.N + 1)) : (ow c : sProp 𝕄) ⊢ (dats m 0 c).owesAt () t := by
  unfold Dat.owesAt Pipeline.owesWithin
  rw [show (dats m 0 c).owed t = 0 from rfl]
  unfold ow
  iintro ⟨%W, HW⟩
  iexists W; isplitr; · ipureintro; exact fun _ _ => Or.inl trivial
  iexact HW

/-- The loop's obligation. -/
theorem obligation : BodyObligation (dats (F := F) m 0 c) (defs₀ (F := F)) Variants.none () Set.univ := fun t => by
  rw [bigSep_W0, bigSep_W0, defs₀_row, Phi_castSucc, Phi_succ]
  unfold Phi
  simp only [before_0, before_1, before_2, before_3, before_4, before_5, before_6, before_7, before_8, before_9, before_10, before_11, before_12]
  iintro ⟨⟨HS, Hg⟩, How, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩⟩
  ihave How := owes_in m c t.castSucc $$ How
  iapply (does c (inp m c) (stgAt t) t ((dats m 0 c).before 13 t d13) ((dats m 0 c).before 14 t d14) ((dats m 0 c).before 15 t d15)
    ((dats m 0 c).before 16 t d16) ((dats m 0 c).before 17 t d17) _)
  isplitl [H0 H1 H2 H3 H4 H5 H6 H7 H8 H9 H10 H11 H12]
  · unfold Ops
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [HS]; · iexact HS
  isplitl [How]; · iexact How
  isplitl [H13 H14 H15 H16 H17]
  · unfold Res
    isplitl [H13]; · iexact H13
    isplitl [H14]; · iexact H14
    isplitl [H15]; · iexact H15
    isplitl [H16]; · iexact H16
    iexact H17
  unfold Ops Res
  iintro ⟨⟨H0, H1, H2, H3, H4, H5, H6, H7, H8, H9, H10, H11, H12⟩, HS, How, ⟨H13, H14, H15, H16, H17⟩⟩
  isplitl [HS Hg]
  · isplitl [HS]; · iexact HS
    iexact Hg
  isplitl [How]; · iapply (owes_out m c t.succ); iexact How
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iapply ((stored_op m c).leaves t d13 rfl); iexact H13
  isplitl [H14]; · iapply ((stored_oh m c).leaves t d14 rfl); iexact H14
  isplitl [H15]; · iapply ((stored_oc m c).leaves t d15 rfl); iexact H15
  isplitl [H16]; · iapply ((stored_oa m c).leaves t d16 rfl); iexact H16
  iapply ((stored_ov m c).leaves t d17 rfl); iexact H17

end Cert.KernelIdeal.Run
-- ==== Proof.Start.lean ====
module

public import proofs.«01_k».proof.Proof.Ends
public import proofs.«01_k».proof.Proof.Oblig

@[expose] public section

set_option maxRecDepth 16384

noncomputable section

/-! The launch: what it hands the loop is the state before the first step, and it takes back the state after the last. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)
open Idealize.ShloMosaic.Pipeline (Dat Cfg Window BodyObligation)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (c : Dev nD)

/-- The copies' counters, and the arrays they stream. -/
abbrev osem : Fin 15 → SemLoc sig := fun j => (![SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32] : Fin 15 → SemLoc sig) j
theorem osem_own : Pipeline.OwnSemFacts spec0 osem := by decide
theorem osem_list :
    (Pipeline.ownSems0 (Ix := Unit) (Name := ℕ) (U := Pipeline.UD sig nD τ) (Lvl := ℕ) (Val := Elt F) (τ := τ) osem c : sProp 𝕄)
      = iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) := by
  rw [Pipeline.ownSems0_eq_of_list c osem [0, 1, 2, 3, 4, 5, 6, 7, 8, 9, 10, 11, 12, 13, 14] (by decide) (by decide)]; rfl
def streamed : Finset (Ref sig .tc) := {main_arg4, main_arg7, main_arg8, main_arg17, main_arg19}
theorem streamed_sub : streamed ⊆ Pipeline.restRefs sig spec0 := by decide
theorem streamed_list :
    (bigSep streamed (fun b => ((c : Thread nD τ).loc b) ↦{fullShare} V m c b) : sProp 𝕄)
      = iprop((((c : Thread nD τ).loc main_arg4) ↦{fullShare} V m c main_arg4) ∗ (((c : Thread nD τ).loc main_arg7) ↦{fullShare} V m c main_arg7) ∗ (((c : Thread nD τ).loc main_arg8) ↦{fullShare} V m c main_arg8) ∗ (((c : Thread nD τ).loc main_arg17) ↦{fullShare} V m c main_arg17) ∗ (((c : Thread nD τ).loc main_arg19) ↦{fullShare} V m c main_arg19)) := by
  rw [BI.bigSep_eq_bigSepL_of_eq [main_arg4, main_arg7, main_arg8, main_arg17, main_arg19] (by decide) (by decide)]; rfl

omit [FloatOps F] in
theorem ih_cells : (iprop(semVal ((c : Thread nD τ), SemLoc.dma (cel cc0_scratch13 0).sem) 0 ∗ semVal ((c : Thread nD τ), SemLoc.dma (cel cc0_scratch13 1).sem) 0 ∗ semVal ((c : Thread nD τ), SemLoc.dma (cel cc0_scratch13 2).sem) 0) : sProp 𝕄)
    = iprop(semVal ((c : Thread nD τ), SemLoc.dma 18) 0 ∗ semVal ((c : Thread nD τ), SemLoc.dma 19) 0 ∗ semVal ((c : Thread nD τ), SemLoc.dma 20) 0) := by
  rw [show (SemLoc.dma (cel cc0_scratch13 0).sem : SemLoc sig) = SemLoc.dma 18 from by decide, show (SemLoc.dma (cel cc0_scratch13 1).sem : SemLoc sig) = SemLoc.dma 19 from by decide,
    show (SemLoc.dma (cel cc0_scratch13 2).sem : SemLoc sig) = SemLoc.dma 20 from by decide]
/-- The ring's parts at the launch. -/
theorem ih_ring (W : BufOf F c (Memref.whole main_arg7)) :
    iprop(cellI c W 0 none ∗ cellI c W 1 none ∗ cellI c W 2 none)
      ⊣⊢ (iprop((semVal ((c : Thread nD τ), SemLoc.dma 18) 0 ∗ semVal ((c : Thread nD τ), SemLoc.dma 19) 0 ∗ semVal ((c : Thread nD τ), SemLoc.dma 20) 0) ∗ (∃ f : Buf (Elt F) ((c : Thread nD τ).loc cc0_scratch8), ((c : Thread nD τ).loc cc0_scratch8) ↦{fullShare} f)
        ∗ (((c : Thread nD τ).loc main_arg7) ↦{fullShare} W)) : sProp 𝕄) := by
  rw [← ih_cells]
  refine ⟨(idles c (Memref.whole main_arg7) W ihS (cel cc0_scratch13)).1.trans ?_, (show _ ⊢ _ from ?_).trans (idles c (Memref.whole main_arg7) W ihS (cel cc0_scratch13)).2⟩
  · exact sep_mono .rfl (sep_mono (ih_slots c).2 .rfl)
  · exact sep_mono .rfl (sep_mono (ih_slots c).1 .rfl)

omit [FloatOps F] in
theorem hh_cells : (iprop(semVal ((c : Thread nD τ), SemLoc.dma (cel cc0_scratch14 0).sem) 0 ∗ semVal ((c : Thread nD τ), SemLoc.dma (cel cc0_scratch14 1).sem) 0 ∗ semVal ((c : Thread nD τ), SemLoc.dma (cel cc0_scratch14 2).sem) 0) : sProp 𝕄)
    = iprop(semVal ((c : Thread nD τ), SemLoc.dma 21) 0 ∗ semVal ((c : Thread nD τ), SemLoc.dma 22) 0 ∗ semVal ((c : Thread nD τ), SemLoc.dma 23) 0) := by
  rw [show (SemLoc.dma (cel cc0_scratch14 0).sem : SemLoc sig) = SemLoc.dma 21 from by decide, show (SemLoc.dma (cel cc0_scratch14 1).sem : SemLoc sig) = SemLoc.dma 22 from by decide,
    show (SemLoc.dma (cel cc0_scratch14 2).sem : SemLoc sig) = SemLoc.dma 23 from by decide]
/-- The ring's parts at the launch. -/
theorem hh_ring (W : BufOf F c (Memref.whole main_arg8)) :
    iprop(cellH c W 0 none ∗ cellH c W 1 none ∗ cellH c W 2 none)
      ⊣⊢ (iprop((semVal ((c : Thread nD τ), SemLoc.dma 21) 0 ∗ semVal ((c : Thread nD τ), SemLoc.dma 22) 0 ∗ semVal ((c : Thread nD τ), SemLoc.dma 23) 0) ∗ (∃ f : Buf (Elt F) ((c : Thread nD τ).loc cc0_scratch9), ((c : Thread nD τ).loc cc0_scratch9) ↦{fullShare} f)
        ∗ (((c : Thread nD τ).loc main_arg8) ↦{fullShare} W)) : sProp 𝕄) := by
  rw [← hh_cells]
  refine ⟨(idles c (Memref.whole main_arg8) W hhS (cel cc0_scratch14)).1.trans ?_, (show _ ⊢ _ from ?_).trans (idles c (Memref.whole main_arg8) W hhS (cel cc0_scratch14)).2⟩
  · exact sep_mono .rfl (sep_mono (hh_slots c).2 .rfl)
  · exact sep_mono .rfl (sep_mono (hh_slots c).1 .rfl)

omit [FloatOps F] in
theorem en_cells : (iprop(semVal ((c : Thread nD τ), SemLoc.dma (cel cc0_scratch15 0).sem) 0 ∗ semVal ((c : Thread nD τ), SemLoc.dma (cel cc0_scratch15 1).sem) 0 ∗ semVal ((c : Thread nD τ), SemLoc.dma (cel cc0_scratch15 2).sem) 0) : sProp 𝕄)
    = iprop(semVal ((c : Thread nD τ), SemLoc.dma 24) 0 ∗ semVal ((c : Thread nD τ), SemLoc.dma 25) 0 ∗ semVal ((c : Thread nD τ), SemLoc.dma 26) 0) := by
  rw [show (SemLoc.dma (cel cc0_scratch15 0).sem : SemLoc sig) = SemLoc.dma 24 from by decide, show (SemLoc.dma (cel cc0_scratch15 1).sem : SemLoc sig) = SemLoc.dma 25 from by decide,
    show (SemLoc.dma (cel cc0_scratch15 2).sem : SemLoc sig) = SemLoc.dma 26 from by decide]
/-- The ring's parts at the launch. -/
theorem en_ring (W : BufOf F c (Memref.whole main_arg4)) :
    iprop(cellE c W 0 none ∗ cellE c W 1 none ∗ cellE c W 2 none)
      ⊣⊢ (iprop((semVal ((c : Thread nD τ), SemLoc.dma 24) 0 ∗ semVal ((c : Thread nD τ), SemLoc.dma 25) 0 ∗ semVal ((c : Thread nD τ), SemLoc.dma 26) 0) ∗ (∃ f : Buf (Elt F) ((c : Thread nD τ).loc cc0_scratch10), ((c : Thread nD τ).loc cc0_scratch10) ↦{fullShare} f)
        ∗ (((c : Thread nD τ).loc main_arg4) ↦{fullShare} W)) : sProp 𝕄) := by
  rw [← en_cells]
  refine ⟨(idles c (Memref.whole main_arg4) W enS (cel cc0_scratch15)).1.trans ?_, (show _ ⊢ _ from ?_).trans (idles c (Memref.whole main_arg4) W enS (cel cc0_scratch15)).2⟩
  · exact sep_mono .rfl (sep_mono (en_slots c).2 .rfl)
  · exact sep_mono .rfl (sep_mono (en_slots c).1 .rfl)

omit [FloatOps F] in
theorem pv_cells : (iprop(semVal ((c : Thread nD τ), SemLoc.dma (cel cc0_scratch16 0).sem) 0 ∗ semVal ((c : Thread nD τ), SemLoc.dma (cel cc0_scratch16 1).sem) 0 ∗ semVal ((c : Thread nD τ), SemLoc.dma (cel cc0_scratch16 2).sem) 0) : sProp 𝕄)
    = iprop(semVal ((c : Thread nD τ), SemLoc.dma 27) 0 ∗ semVal ((c : Thread nD τ), SemLoc.dma 28) 0 ∗ semVal ((c : Thread nD τ), SemLoc.dma 29) 0) := by
  rw [show (SemLoc.dma (cel cc0_scratch16 0).sem : SemLoc sig) = SemLoc.dma 27 from by decide, show (SemLoc.dma (cel cc0_scratch16 1).sem : SemLoc sig) = SemLoc.dma 28 from by decide,
    show (SemLoc.dma (cel cc0_scratch16 2).sem : SemLoc sig) = SemLoc.dma 29 from by decide]
/-- The ring's parts at the launch. -/
theorem pv_ring (W : BufOf F c (Memref.whole main_arg17)) :
    iprop(cellP c W 0 none ∗ cellP c W 1 none ∗ cellP c W 2 none)
      ⊣⊢ (iprop((semVal ((c : Thread nD τ), SemLoc.dma 27) 0 ∗ semVal ((c : Thread nD τ), SemLoc.dma 28) 0 ∗ semVal ((c : Thread nD τ), SemLoc.dma 29) 0) ∗ (∃ f : Buf (Elt F) ((c : Thread nD τ).loc cc0_scratch11), ((c : Thread nD τ).loc cc0_scratch11) ↦{fullShare} f)
        ∗ (((c : Thread nD τ).loc main_arg17) ↦{fullShare} W)) : sProp 𝕄) := by
  rw [← pv_cells]
  refine ⟨(idles c (Memref.whole main_arg17) W pvS (cel cc0_scratch16)).1.trans ?_, (show _ ⊢ _ from ?_).trans (idles c (Memref.whole main_arg17) W pvS (cel cc0_scratch16)).2⟩
  · exact sep_mono .rfl (sep_mono (pv_slots c).2 .rfl)
  · exact sep_mono .rfl (sep_mono (pv_slots c).1 .rfl)

omit [FloatOps F] in
theorem vo_cells : (iprop(semVal ((c : Thread nD τ), SemLoc.dma (cel cc0_scratch17 0).sem) 0 ∗ semVal ((c : Thread nD τ), SemLoc.dma (cel cc0_scratch17 1).sem) 0 ∗ semVal ((c : Thread nD τ), SemLoc.dma (cel cc0_scratch17 2).sem) 0) : sProp 𝕄)
    = iprop(semVal ((c : Thread nD τ), SemLoc.dma 30) 0 ∗ semVal ((c : Thread nD τ), SemLoc.dma 31) 0 ∗ semVal ((c : Thread nD τ), SemLoc.dma 32) 0) := by
  rw [show (SemLoc.dma (cel cc0_scratch17 0).sem : SemLoc sig) = SemLoc.dma 30 from by decide, show (SemLoc.dma (cel cc0_scratch17 1).sem : SemLoc sig) = SemLoc.dma 31 from by decide,
    show (SemLoc.dma (cel cc0_scratch17 2).sem : SemLoc sig) = SemLoc.dma 32 from by decide]
/-- The ring's parts at the launch. -/
theorem vo_ring (W : BufOf F c (Memref.whole main_arg19)) :
    iprop(cellV c W 0 .free ∗ cellV c W 1 .free ∗ cellV c W 2 .free)
      ⊣⊢ (iprop((semVal ((c : Thread nD τ), SemLoc.dma 30) 0 ∗ semVal ((c : Thread nD τ), SemLoc.dma 31) 0 ∗ semVal ((c : Thread nD τ), SemLoc.dma 32) 0) ∗ (∃ f : Buf (Elt F) ((c : Thread nD τ).loc cc0_scratch12), ((c : Thread nD τ).loc cc0_scratch12) ↦{fullShare} f)
        ∗ (((c : Thread nD τ).loc main_arg19) ↦{fullShare} W)) : sProp 𝕄) := by
  rw [← vo_cells]
  refine ⟨(idles c (Memref.whole main_arg19) W voS (cel cc0_scratch17)).1.trans ?_, (show _ ⊢ _ from ?_).trans (idles c (Memref.whole main_arg19) W voS (cel cc0_scratch17)).2⟩
  · exact sep_mono .rfl (sep_mono (vo_slots c).2 .rfl)
  · exact sep_mono .rfl (sep_mono (vo_slots c).1 .rfl)

theorem RI_first (W : BufOf F c (Memref.whole main_arg7)) : RI c W 0 = iprop(cellI c W 0 none ∗ cellI c W 1 none ∗ cellI c W 2 none) := rfl
theorem RI_last (W : BufOf F c (Memref.whole main_arg7)) : RI c W 54 = iprop(cellI c W 0 none ∗ cellI c W 1 none ∗ cellI c W 2 none) := rfl
theorem RH_first (W : BufOf F c (Memref.whole main_arg8)) : RH c W 0 = iprop(cellH c W 0 none ∗ cellH c W 1 none ∗ cellH c W 2 none) := rfl
theorem RH_last (W : BufOf F c (Memref.whole main_arg8)) : RH c W 54 = iprop(cellH c W 0 none ∗ cellH c W 1 none ∗ cellH c W 2 none) := rfl
theorem RE_first (W : BufOf F c (Memref.whole main_arg4)) : RE c W 0 = iprop(cellE c W 0 none ∗ cellE c W 1 none ∗ cellE c W 2 none) := rfl
theorem RE_last (W : BufOf F c (Memref.whole main_arg4)) : RE c W 54 = iprop(cellE c W 0 none ∗ cellE c W 1 none ∗ cellE c W 2 none) := rfl
theorem RP_first (W : BufOf F c (Memref.whole main_arg17)) : RP c W 0 = iprop(cellP c W 1 none ∗ cellP c W 2 none ∗ cellP c W 0 none) := rfl
theorem RP_last (W : BufOf F c (Memref.whole main_arg17)) : RP c W 54 = iprop(cellP c W 1 none ∗ cellP c W 2 none ∗ cellP c W 0 none) := rfl
theorem RV_first (W : BufOf F c (Memref.whole main_arg19)) : RV c W 0 = iprop(cellV c W 0 .free ∗ cellV c W 1 .free ∗ cellV c W 2 .free) := rfl
theorem RV_last (W : BufOf F c (Memref.whole main_arg19)) : RV c W 54 = iprop(cellV c W 0 .free ∗ cellV c W 1 .free ∗ cellV c W 2 .free) := rfl

theorem eqv {P Q : sProp 𝕄} (e : P = Q) : P ⊢ Q := e ▸ .rfl

/-- Into the loop. -/
theorem begins : Pipeline.ΦD osem spec0 streamed (V m) c ⊢ (dats m 0 c).Φ 0 := by
  rw [Pipeline.ΦD_eq, scopedRest0_eq, osem_list, streamed_list, show (dats m 0 c).Φ 0 = Phi m c 0 from rfl]
  unfold Phi St
  iintro ⟨⟨S0, S1, S2, S3, S4, S5, S6, S8, S9, S10, S11, S12, S7⟩, Hg, ⟨Q18, Q19, Q20, Q21, Q22, Q23, Q24, Q25, Q26, Q27, Q28, Q29, Q30, Q31, Q32⟩, ⟨Aarg4, Aarg7, Aarg8, Aarg17, Aarg19⟩⟩
  ihave RI := (ih_ring c (V m c main_arg7)).2 $$ [Q18 Q19 Q20 S8 Aarg7]
  · isplitl [Q18 Q19 Q20]
    · isplitl [Q18]; · iexact Q18
      isplitl [Q19]; · iexact Q19
      iexact Q20
    isplitl [S8]; · iexact S8
    iexact Aarg7
  ihave RH := (hh_ring c (V m c main_arg8)).2 $$ [Q21 Q22 Q23 S9 Aarg8]
  · isplitl [Q21 Q22 Q23]
    · isplitl [Q21]; · iexact Q21
      isplitl [Q22]; · iexact Q22
      iexact Q23
    isplitl [S9]; · iexact S9
    iexact Aarg8
  ihave RE := (en_ring c (V m c main_arg4)).2 $$ [Q24 Q25 Q26 S10 Aarg4]
  · isplitl [Q24 Q25 Q26]
    · isplitl [Q24]; · iexact Q24
      isplitl [Q25]; · iexact Q25
      iexact Q26
    isplitl [S10]; · iexact S10
    iexact Aarg4
  ihave RP := (pv_ring c (V m c main_arg17)).2 $$ [Q27 Q28 Q29 S11 Aarg17]
  · isplitl [Q27 Q28 Q29]
    · isplitl [Q27]; · iexact Q27
      isplitl [Q28]; · iexact Q28
      iexact Q29
    isplitl [S11]; · iexact S11
    iexact Aarg17
  ihave RV := (vo_ring c (V m c main_arg19)).2 $$ [Q30 Q31 Q32 S12 Aarg19]
  · isplitl [Q30 Q31 Q32]
    · isplitl [Q30]; · iexact Q30
      isplitl [Q31]; · iexact Q31
      iexact Q32
    isplitl [S12]; · iexact S12
    iexact Aarg19
  isplitr [Hg]
  · skip
    isplitl [RI]; · rw [RI_first]; iexact RI
    isplitl [RH]; · rw [RH_first]; iexact RH
    isplitl [RE]; · rw [RE_first]; iexact RE
    isplitl [RP]; · rw [RP_first]; iapply (turn (P := cellP c (inp m c).pv 0 none)); iexact RP
    isplitl [RV]; · rw [RV_first]; iexact RV
    isplitl [S0]; · icases S0 with ⟨%f0, S0⟩; iapply (D0_close (c := c) (I := inp m c) (t := 0) (g := f0) (fun i hi => absurd hi (by omega))); iexact S0
    isplitl [S1]; · icases S1 with ⟨%f1, S1⟩; iapply (D1_close (c := c) (I := inp m c) (t := 0) (g := f1) (fun h => absurd h (by decide))); iexact S1
    isplitl [S2]; · icases S2 with ⟨%f2, S2⟩; iapply (D2_close (c := c) (I := inp m c) (t := 0) (g := f2) (fun h => absurd h (by decide))); iexact S2
    isplitl [S3]; · icases S3 with ⟨%f3, S3⟩; iapply (D3_close (c := c) (I := inp m c) (t := 0) (g := f3) (fun i hi => absurd hi (by omega))); iexact S3
    isplitl [S4]; · icases S4 with ⟨%f4, S4⟩; iapply (D4_close (c := c) (I := inp m c) (t := 0) (g := f4) (⟨fun h => absurd h (by decide), fun h => absurd h (by decide)⟩)); iexact S4
    isplitl [S5]; · icases S5 with ⟨%f5, S5⟩; iapply (D5_close (c := c) (I := inp m c) (t := 0) (g := f5) (fun i hi => absurd hi (by omega))); iexact S5
    isplitl [S6]; · icases S6 with ⟨%f6, S6⟩; iapply (D6_close (c := c) (I := inp m c) (t := 0) (g := f6) (fun i hi => absurd hi (by omega))); iexact S6
    icases S7 with ⟨%f7, S7⟩; iapply (D7_close (c := c) (I := inp m c) (t := 0) (g := f7) (fun h => absurd h (by decide))); iexact S7
  iexact Hg

/-- Out of it. -/
theorem ends : (dats m 0 c).Φ (Fin.last cfg0.N) ⊢ Pipeline.ΦD osem spec0 streamed (V m) c := by
  rw [Pipeline.ΦD_eq, scopedRest0_eq, osem_list, streamed_list, show (dats m 0 c).Φ (Fin.last cfg0.N) = Phi m c 54 from congrArg (Phi m c) N_0]
  unfold Phi St
  iintro ⟨⟨RI, RH, RE, RP, RV, S0, S1, S2, S3, S4, S5, S6, S7⟩, Hg⟩
  ihave RI := (show RI c (inp m c).ih 54 ⊢ _ from eqv (RI_last c (V m c main_arg7))) $$ RI
  ihave RI := (ih_ring c (V m c main_arg7)).1 $$ RI
  icases RI with ⟨⟨Q18, Q19, Q20⟩, S8, Aarg7⟩
  ihave RH := (show RH c (inp m c).hh 54 ⊢ _ from eqv (RH_last c (V m c main_arg8))) $$ RH
  ihave RH := (hh_ring c (V m c main_arg8)).1 $$ RH
  icases RH with ⟨⟨Q21, Q22, Q23⟩, S9, Aarg8⟩
  ihave RE := (show RE c (inp m c).en 54 ⊢ _ from eqv (RE_last c (V m c main_arg4))) $$ RE
  ihave RE := (en_ring c (V m c main_arg4)).1 $$ RE
  icases RE with ⟨⟨Q24, Q25, Q26⟩, S10, Aarg4⟩
  ihave RP := (show RP c (inp m c).pv 54 ⊢ _ from (eqv (RP_last c (V m c main_arg17))).trans (turn.trans turn)) $$ RP
  ihave RP := (pv_ring c (V m c main_arg17)).1 $$ RP
  icases RP with ⟨⟨Q27, Q28, Q29⟩, S11, Aarg17⟩
  ihave RV := (show RV c (inp m c).vo 54 ⊢ _ from eqv (RV_last c (V m c main_arg19))) $$ RV
  ihave RV := (vo_ring c (V m c main_arg19)).1 $$ RV
  icases RV with ⟨⟨Q30, Q31, Q32⟩, S12, Aarg19⟩
  ihave S0 := D0_open $$ S0
  icases S0 with ⟨%f0, -, S0⟩
  ihave S1 := D1_open $$ S1
  icases S1 with ⟨%f1, -, S1⟩
  ihave S2 := D2_open $$ S2
  icases S2 with ⟨%f2, -, S2⟩
  ihave S3 := D3_open $$ S3
  icases S3 with ⟨%f3, -, S3⟩
  ihave S4 := D4_open $$ S4
  icases S4 with ⟨%f4, -, S4⟩
  ihave S5 := D5_open $$ S5
  icases S5 with ⟨%f5, -, S5⟩
  ihave S6 := D6_open $$ S6
  icases S6 with ⟨%f6, -, S6⟩
  ihave S7 := D7_open $$ S7
  icases S7 with ⟨%f7, -, S7⟩
  isplitl [S0 S1 S2 S3 S4 S5 S6 S8 S9 S10 S11 S12 S7]
  · isplitl [S0]; · iexists f0; iexact S0
    isplitl [S1]; · iexists f1; iexact S1
    isplitl [S2]; · iexists f2; iexact S2
    isplitl [S3]; · iexists f3; iexact S3
    isplitl [S4]; · iexists f4; iexact S4
    isplitl [S5]; · iexists f5; iexact S5
    isplitl [S6]; · iexists f6; iexact S6
    isplitl [S8]; · iexact S8
    isplitl [S9]; · iexact S9
    isplitl [S10]; · iexact S10
    isplitl [S11]; · iexact S11
    isplitl [S12]; · iexact S12
    iexists f7; iexact S7
  isplitl [Hg]; · iexact Hg
  isplitl [Q18 Q19 Q20 Q21 Q22 Q23 Q24 Q25 Q26 Q27 Q28 Q29 Q30 Q31 Q32]
  · isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    iexact Q32
  isplitl [Aarg4]; · iexact Aarg4
  isplitl [Aarg7]; · iexact Aarg7
  isplitl [Aarg8]; · iexact Aarg8
  isplitl [Aarg17]; · iexact Aarg17
  iexact Aarg19

end Cert.KernelIdeal.Run
-- ==== Proof.Launch.lean ====
module

public import proofs.«01_k».proof.Proof.Start
public import Idealize.ShloMosaic.Lib.Claim

@[expose] public section

set_option maxRecDepth 16384

noncomputable section

/-! The run of the whole program, and what every final state holds. -/

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)
open Idealize.ShloMosaic.Pipeline (Dat Cfg Window BodyObligation)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The host operations after the loop touch none of the streamed arrays. -/
theorem after_sub : ∀ ops ∈ ([hostOps1] : List (List (HloOp τ sig (Elt F)))), ∀ op ∈ ops,
    op.bufs ⊆ Pipeline.tailRefsBut sig Pipeline.Prefetch.none spec0 streamed := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  simp only [hostOps1, List.mem_cons, List.mem_nil_iff, or_false] at hop
  have far : ∀ b ∈ streamed, b ≠ main_v12_1 ∧ b ≠ main_v12_2 ∧ b ≠ main_v13 ∧ b ≠ main_v14 := by decide
  rcases hop with rfl | rfl
  all_goals
    intro b hb hmem
    obtain ⟨h1, h2, h3, h4⟩ := far b hb
    simp only [StableHlo.reshape_bufs, Finset.mem_insert, Finset.mem_singleton] at hmem
    rcases hmem with h | h
    all_goals first | exact StableHlo.devRef_ne_of_ne h1 h | exact StableHlo.devRef_ne_of_ne h2 h | exact StableHlo.devRef_ne_of_ne h3 h | exact StableHlo.devRef_ne_of_ne h4 h

set_option maxHeartbeats 800000 in
/-- The program around its loop. -/
theorem main_around : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

-- the library's theorem is met with this one by unfolding plain definitions in a type
set_option backward.isDefEq.respectTransparency.types false in
/-- Every fair run ends, with the arrays as the loop's data say, the rest as the host left it, and every counter at zero. -/
theorem run_all : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) (0 : Fin 1) launch0 osem defs₀ Variants.none osem_own streamed streamed_sub m ρ main
    (fun c => (obligation m c).loose) (fun c => (dats m 0 c).share_full fun _ => rfl) (fun _ _ => rfl) (V0 m) [hostOps1]
    after_sub sfx_fresh sfx_keeps (main_around m) (A_eq m) (begins m) (ends m) _ (fun _ h => h)

end Cert.KernelIdeal.Run
-- ==== Proof.Post.lean ====
module

public import proofs.«01_k».proof.Proof.Launch

@[expose] public section

set_option maxRecDepth 16384

noncomputable section

/-! What a finished run holds: the arguments as they were, and the five results. -/

namespace Cert.KernelIdeal.Run

open Idealize.ShloMosaic Idealize.ShloMosaic.TcCoe Idealize.ShloMosaic.Tactic
open Idealize.SL Idealize.SL.RA Idealize.SL.BI Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- The arguments of the program. -/
def params : List (Ref sig .tc) :=
  [main_arg0, main_arg1, main_arg2, main_arg3, main_arg4, main_arg5, main_arg6, main_arg7, main_arg8, main_arg9, main_arg10,
    main_arg11, main_arg12, main_arg13, main_arg14, main_arg15, main_arg16, main_arg17, main_arg18, main_arg19, main_arg20]

/-- What the host operations before the loop write. -/
def written : List (Ref sig .tc) :=
  [main_v0, main_v1, main_v2, main_v3, main_c, main_call0_v0, main_v4, main_v5, main_v6, main_v7, main_v8, main_v9, main_v10, main_v11]

/-- An array the host writes nowhere reaches the loop as it was. -/
theorem reaches (c : Dev nD) (b : Ref sig .tc) (h : b ∉ written) : V m c b = m ((c : Thread nD τ).loc b) := by
  refine StableHlo.after_of_forall_not_mem (b := Proc.devRef .tc b) _ _ (List.forall_iff_forall_mem.mp ?_)
  simp only [written, List.mem_cons, List.mem_nil_iff, or_false, not_or] at h
  simp only [hostOps0, hostOps0_1, hostOps0_2, List.flatten_cons, List.flatten_nil, List.append_nil, List.cons_append, List.nil_append,
    List.Forall, StableHlo.nullary_writes, StableHlo.unary_writes, StableHlo.binary_writes, StableHlo.reshape_writes, Finset.mem_singleton]
  obtain ⟨h0, h1, h2, h3, h4, h5, h6, h7, h8, h9, h10, h11, h12, h13⟩ := h
  refine ⟨?_, ?_, ?_, ?_, ?_, ?_, ?_, ?_, ?_, ?_, ?_, ?_, ?_, ?_⟩ <;> exact StableHlo.devRef_ne_of_ne (by assumption)

/-- One the loop streams through no window, and nothing after it writes, leaves the program the same too. -/
theorem outlives (c : Dev nD) (b : Ref sig .tc) (h13 : b ≠ main_v13) (h14 : b ≠ main_v14) (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
    simp only [hostOps1, List.flatten_cons, List.flatten_nil, List.append_nil, List.Forall, StableHlo.reshape_writes, Finset.mem_singleton]
    exact ⟨StableHlo.devRef_ne_of_ne h13, StableHlo.devRef_ne_of_ne h14⟩))]
  exact Pipeline.withArrays_of_ne _ c (V0 m c) _ b hw

/-- Every argument ends as it was. -/
theorem arg_kept {r} (h : Pipeline.FramePost cfgs (dats m) 0 (Pipeline.afterTail₀ cfgs (dats m) 0 (V0 m) [hostOps1]) r) (c : Dev nD)
    (b : Ref sig .tc) (hb : b ∈ params) : r.2.mem ((c.tc : Thread nD τ).loc b) = m ((c.tc : Thread nD τ).loc b) := by
  have hn : ∀ b ∈ params, b ∉ written := by decide
  by_cases hs : ∃ w, Pipeline.arrRef spec0 w = b
  · obtain ⟨w, rfl⟩ := hs
    have hin : ∀ w, Pipeline.arrRef spec0 w ∈ params → w.val < 13 := by decide
    have hin' : ∀ w : Fin cfg0.W, w.val < 13 → (cfg0.win w).isOut = false := by decide
    exact ((h c).1 w).trans (((dats m 0 c).arrAt_in w (hin' w (hin w hb)) _).trans ((A_eq m c w).trans (reaches m c _ (hn _ hb))))
  · have hf : ∀ b ∈ params, b ≠ main_v13 ∧ b ≠ main_v14 ∧ b.isScoped = false := by decide
    obtain ⟨h13, h14, hu⟩ := hf b hb
    exact ((h c).2 b (Pipeline.mem_restRefs_of b hu fun w e => hs ⟨w, e⟩)).trans
      ((outlives m c b h13 h14 fun w e => hs ⟨w, e⟩).trans (reaches m c b (hn b hb)))

end Cert.KernelIdeal.Run
-- ==== Proof.Same.lean ====
module

public import proofs.«01_k».proof.Proof.Gen.Kernel
public import proofs.«01_k».proof.Proof.Gen.KernelIdeal

@[expose] public section

set_option maxRecDepth 65536
set_option maxHeartbeats 80000000

/-! The kernel and its ideal form are one text: nothing was rewritten. -/

namespace Cert.Frames

open Idealize.ShloMosaic

variable {F : FTy → Type} [FloatOps F]

theorem same_main : @Cert.Kernel.main F _ Cert.Kernel.Gen.facts = @Cert.KernelIdeal.main F _ Cert.KernelIdeal.Gen.facts := rfl

theorem same_body : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun x => funext fun a => ?_)
  obtain rfl : x = (0 : Fin 1) := Subsingleton.elim (α := Fin 1) x 0
  obtain ⟨t, s⟩ := a
  rfl

theorem same_defs : @Cert.Kernel.defs F _ Cert.Kernel.Gen.facts = @Cert.KernelIdeal.defs F _ Cert.KernelIdeal.Gen.facts :=
  congrArg (Pipeline.defs Cert.KernelIdeal.pcfgs) same_body

end Cert.Frames
-- ==== Proof.Frames.lean ====
module

public import proofs.«01_k».proof.Defs
public import proofs.«01_k».proof.Proof.Post
public import proofs.«01_k».proof.Proof.Same
public import proofs.«01_k».proof.Proof.Gen.ReferenceIdeal
public import proofs.«01_k».proof.Proof.Gen.ReferenceIdeal.Run

@[expose] public section

set_option maxRecDepth 16384

noncomputable section

/-! The three programs run, leave their arguments alone and end with every counter at zero. -/

namespace Cert.Frames

open Idealize.ShloMosaic Idealize.ShloMosaic.TcCoe Idealize.SL.Sem

section Ours

open Cert.KernelIdeal Cert.KernelIdeal.Gen Cert.KernelIdeal.Run

variable {F : FTy → Type} [FloatOps F]

/-- What the claims ask of a final memory, for any meaning of the floats. -/
theorem kernel_frame (m : (ℓ : Loc nD τ sig) → Buf (Elt F) ℓ) (ρ : Dev nD → PrngReg) :
    θ_run defs (onTc (τ := τ) (main (F := F))) ⟨m, fun _ => 0, ρ⟩
      (fun r => (∀ c : Dev nD, ∀ b ∈ params, r.2.mem ((c.tc : Thread nD τ).loc b) = m ((c.tc : Thread nD τ).loc b)) ∧ r.2.sem = fun _ => 0) :=
  (θ_run defs _ _).mono (fun _ h => ⟨fun c b hb => arg_kept m h.1 c b hb, h.2⟩) (run_all m ρ)

/-- The arguments one by one. -/
theorem spelt {P : Ref sig .tc → Prop} (h : ∀ b ∈ params, P b) :
    P main_arg0 ∧ P main_arg1 ∧ P main_arg2 ∧ P main_arg3 ∧ P main_arg4 ∧ P main_arg5 ∧ P main_arg6 ∧ P main_arg7 ∧ P main_arg8 ∧ P main_arg9
      ∧ P main_arg10 ∧ P main_arg11 ∧ P main_arg12 ∧ P main_arg13 ∧ P main_arg14 ∧ P main_arg15 ∧ P main_arg16 ∧ P main_arg17 ∧ P main_arg18
      ∧ P main_arg19 ∧ P main_arg20 := by
  simpa only [params, List.forall_mem_cons, List.not_mem_nil, false_imp_iff, implies_true, and_true] using h

end Ours

/-- The kernel with real arithmetic. -/
theorem ideal : Cert.quiescent_KernelIdeal (hKernelIdeal := Cert.KernelIdeal.Gen.facts) := fun m g _ =>
  (θ_run _ _ _).mono (fun r h => ⟨fun c => spelt (P := fun b =>
    r.2.mem ((c.tc : Thread Cert.KernelIdeal.nD Cert.KernelIdeal.τ).loc b) = m ((c.tc : Thread Cert.KernelIdeal.nD Cert.KernelIdeal.τ).loc b))
    (h.1 c), h.2⟩) (kernel_frame m g)

/-- The kernel with its own floats. -/
theorem kernel : Cert.quiescent_Kernel (hKernel := Cert.Kernel.Gen.facts) := fun m g _ => by
  rw [same_main, same_defs]
  exact (θ_run _ _ _).mono (fun r h => ⟨fun c => spelt (P := fun b =>
    r.2.mem ((c.tc : Thread Cert.KernelIdeal.nD Cert.KernelIdeal.τ).loc b) = m ((c.tc : Thread Cert.KernelIdeal.nD Cert.KernelIdeal.τ).loc b))
    (h.1 c), h.2⟩) (kernel_frame (F := Bits) m g)

/-- The reference. -/
theorem reference : Cert.quiescent_ReferenceIdeal (hReferenceIdeal := Cert.ReferenceIdeal.Gen.facts) := fun m g _ =>
  (θ_run _ _ _).mono (fun r h => ⟨fun c => (h c).2.2.2.2.2, sem_eq_zero_of_no_sems (by decide) r.2⟩)
    (Cert.ReferenceIdeal.Value.run m g)

end Cert.Frames
-- ==== Proof.Outputs.lean ====
module

public import proofs.«01_k».proof.Proof.Post
public import Idealize.ShloMosaic.Lib.Pipeline.ValueKit.Point
public import Idealize.ShloMosaic.Lib.Claim
public import Idealize.ShloMosaic.Lib.Tactic.CleanTypes

@[expose] public section

set_option maxRecDepth 16384

noncomputable section

/-! What a finished run holds in the five results. -/

namespace Cert.KernelIdeal.Run

open Idealize.ShloMosaic Idealize.ShloMosaic.TcCoe Idealize.ShloMosaic.Tactic
open Idealize.ShloMosaic.Pipeline (Dat Cfg Window)
open Cert.KernelIdeal Cert.KernelIdeal.Gen

variable {F : FTy → Type} [FloatOps F]
variable (m : (ℓ : Loc nD τ sig) → Buf (Elt F) ℓ) (c : Dev nD)

/-! A result's block is its whole array at every point, so the array ends as the last point leaves the block. -/

theorem idx_13 : ∀ t : Fin cfg0.N, win0_13.index t (0 : Fin 2) = 0 ∧ win0_13.index t (1 : Fin 2) = 0 :=
  (by decide +kernel : ∀ t : Fin grid0.N, _)
theorem emb_13 (t : Fin cfg0.N) (j : S1x50000.Idx) : ((cfg0.win 13).blk t).view.emb j = j := by
  obtain ⟨e0, e1⟩ := idx_13 t
  funext a; apply Fin.ext
  match a with
  | ⟨0, _⟩ => show win0_13.index t (0 : Fin 2) * 1 + 1 * (j 0).val = (j 0).val; omega
  | ⟨1, _⟩ => show win0_13.index t (1 : Fin 2) * 50000 + 1 * (j 1).val = (j 1).val; omega
theorem out_13 : (dats m 0 c).arrAt 13 cfg0.N = oV (inp m c) := by
  refine (dats m 0 c).arrAt_eq_of_cover 13 (oV (inp m c)) (fun t _ => ?_) fun i => ⟨(⟨53, by decide⟩ : Fin cfg0.N), by decide, ?_⟩
  · funext j
    show oV (inp m c) j = oV (inp m c) (((cfg0.win 13).blk t).view.emb j)
    rw [emb_13]
  · have h := ((cfg0.win 13).blk (⟨53, by decide⟩ : Fin cfg0.N)).view.emb_mem_set i
    rwa [emb_13] at h

theorem idx_14 : ∀ t : Fin cfg0.N, win0_14.index t (0 : Fin 2) = 0 ∧ win0_14.index t (1 : Fin 2) = 0 :=
  (by decide +kernel : ∀ t : Fin grid0.N, _)
theorem emb_14 (t : Fin cfg0.N) (j : S1x1024.Idx) : ((cfg0.win 14).blk t).view.emb j = j := by
  obtain ⟨e0, e1⟩ := idx_14 t
  funext a; apply Fin.ext
  match a with
  | ⟨0, _⟩ => show win0_14.index t (0 : Fin 2) * 1 + 1 * (j 0).val = (j 0).val; omega
  | ⟨1, _⟩ => show win0_14.index t (1 : Fin 2) * 1024 + 1 * (j 1).val = (j 1).val; omega
theorem out_14 : (dats m 0 c).arrAt 14 cfg0.N = hV (inp m c) := by
  refine (dats m 0 c).arrAt_eq_of_cover 14 (hV (inp m c)) (fun t _ => ?_) fun i => ⟨(⟨53, by decide⟩ : Fin cfg0.N), by decide, ?_⟩
  · funext j
    show hV (inp m c) j = hV (inp m c) (((cfg0.win 14).blk t).view.emb j)
    rw [emb_14]
  · have h := ((cfg0.win 14).blk (⟨53, by decide⟩ : Fin cfg0.N)).view.emb_mem_set i
    rwa [emb_14] at h

theorem idx_15 : ∀ t : Fin cfg0.N, win0_15.index t (0 : Fin 2) = 0 ∧ win0_15.index t (1 : Fin 2) = 0 :=
  (by decide +kernel : ∀ t : Fin grid0.N, _)
theorem emb_15 (t : Fin cfg0.N) (j : S1x1024.Idx) : ((cfg0.win 15).blk t).view.emb j = j := by
  obtain ⟨e0, e1⟩ := idx_15 t
  funext a; apply Fin.ext
  match a with
  | ⟨0, _⟩ => show win0_15.index t (0 : Fin 2) * 1 + 1 * (j 0).val = (j 0).val; omega
  | ⟨1, _⟩ => show win0_15.index t (1 : Fin 2) * 1024 + 1 * (j 1).val = (j 1).val; omega
theorem out_15 : (dats m 0 c).arrAt 15 cfg0.N = cV (inp m c) := by
  refine (dats m 0 c).arrAt_eq_of_cover 15 (cV (inp m c)) (fun t _ => ?_) fun i => ⟨(⟨53, by decide⟩ : Fin cfg0.N), by decide, ?_⟩
  · funext j
    show cV (inp m c) j = cV (inp m c) (((cfg0.win 15).blk t).view.emb j)
    rw [emb_15]
  · have h := ((cfg0.win 15).blk (⟨53, by decide⟩ : Fin cfg0.N)).view.emb_mem_set i
    rwa [emb_15] at h

theorem idx_16 : ∀ t : Fin cfg0.N, win0_16.index t (0 : Fin 2) = 0 ∧ win0_16.index t (1 : Fin 2) = 0 :=
  (by decide +kernel : ∀ t : Fin grid0.N, _)
theorem emb_16 (t : Fin cfg0.N) (j : S1x2048.Idx) : ((cfg0.win 16).blk t).view.emb j = j := by
  obtain ⟨e0, e1⟩ := idx_16 t
  funext a; apply Fin.ext
  match a with
  | ⟨0, _⟩ => show win0_16.index t (0 : Fin 2) * 1 + 1 * (j 0).val = (j 0).val; omega
  | ⟨1, _⟩ => show win0_16.index t (1 : Fin 2) * 2048 + 1 * (j 1).val = (j 1).val; omega
theorem out_16 : (dats m 0 c).arrAt 16 cfg0.N = aV (inp m c) := by
  refine (dats m 0 c).arrAt_eq_of_cover 16 (aV (inp m c)) (fun t _ => ?_) fun i => ⟨(⟨53, by decide⟩ : Fin cfg0.N), by decide, ?_⟩
  · funext j
    show aV (inp m c) j = aV (inp m c) (((cfg0.win 16).blk t).view.emb j)
    rw [emb_16]
  · have h := ((cfg0.win 16).blk (⟨53, by decide⟩ : Fin cfg0.N)).view.emb_mem_set i
    rwa [emb_16] at h

theorem idx_17 : ∀ t : Fin cfg0.N, win0_17.index t (0 : Fin 2) = 0 ∧ win0_17.index t (1 : Fin 2) = 0 :=
  (by decide +kernel : ∀ t : Fin grid0.N, _)
theorem emb_17 (t : Fin cfg0.N) (j : S1x2048.Idx) : ((cfg0.win 17).blk t).view.emb j = j := by
  obtain ⟨e0, e1⟩ := idx_17 t
  funext a; apply Fin.ext
  match a with
  | ⟨0, _⟩ => show win0_17.index t (0 : Fin 2) * 1 + 1 * (j 0).val = (j 0).val; omega
  | ⟨1, _⟩ => show win0_17.index t (1 : Fin 2) * 2048 + 1 * (j 1).val = (j 1).val; omega
theorem out_17 : (dats m 0 c).arrAt 17 cfg0.N = covV (inp m c) := by
  refine (dats m 0 c).arrAt_eq_of_cover 17 (covV (inp m c)) (fun t _ => ?_) fun i => ⟨(⟨53, by decide⟩ : Fin cfg0.N), by decide, ?_⟩
  · funext j
    show covV (inp m c) j = covV (inp m c) (((cfg0.win 17).blk t).view.emb j)
    rw [emb_17]
  · have h := ((cfg0.win 17).blk (⟨53, by decide⟩ : Fin cfg0.N)).view.emb_mem_set i
    rwa [emb_17] at h

theorem tail_13 (n : Fin 1024) :
    (Pipeline.afterTail₀ cfgs (dats m) 0 (V0 m) [hostOps1] c main_v13 : FVec F S1x1x1024 .f32) (ix3 0 0 n) = hV (inp m c) (ix2 0 n) := by
  have h : Pipeline.withArrays spec0 c (V0 m c) (fun w => (dats m 0 c).arrAt w cfg0.N) (Proc.devRef .tc main_v12_1) = hV (inp m c) :=
    (Pipeline.withArrays_arr spec0 launch0.win.arr_inj c (V0 m c) (fun w => (dats m 0 c).arrAt w cfg0.N) 14).trans (out_14 m c)
  unfold Pipeline.afterTail₀
  simp only [hostOps1, List.flatten_cons, List.flatten_nil, List.append_nil, StableHlo.after_cons, StableHlo.after_nil]
  after_results_simp
  clean_types
  pointwise
  exact congrFun h _
theorem tail_14 (n : Fin 1024) :
    (Pipeline.afterTail₀ cfgs (dats m) 0 (V0 m) [hostOps1] c main_v14 : FVec F S1x1x1024 .f32) (ix3 0 0 n) = cV (inp m c) (ix2 0 n) := by
  have h : Pipeline.withArrays spec0 c (V0 m c) (fun w => (dats m 0 c).arrAt w cfg0.N) (Proc.devRef .tc main_v12_2) = cV (inp m c) :=
    (Pipeline.withArrays_arr spec0 launch0.win.arr_inj c (V0 m c) (fun w => (dats m 0 c).arrAt w cfg0.N) 15).trans (out_15 m c)
  unfold Pipeline.afterTail₀
  simp only [hostOps1, List.flatten_cons, List.flatten_nil, List.append_nil, StableHlo.after_cons, StableHlo.after_nil]
  after_results_simp
  clean_types
  pointwise
  exact congrFun h _

/-- The five results of a finished run. -/
theorem results {r} (h : Pipeline.FramePost cfgs (dats m) 0 (Pipeline.afterTail₀ cfgs (dats m) 0 (V0 m) [hostOps1]) r) :
    r.2.mem ((c.tc : Thread nD τ).loc main_v12_0) = oV (inp m c)
      ∧ (∀ n : Fin 1024, (r.2.mem ((c.tc : Thread nD τ).loc main_v13) : FVec F S1x1x1024 .f32) (ix3 0 0 n) = hV (inp m c) (ix2 0 n))
      ∧ (∀ n : Fin 1024, (r.2.mem ((c.tc : Thread nD τ).loc main_v14) : FVec F S1x1x1024 .f32) (ix3 0 0 n) = cV (inp m c) (ix2 0 n))
      ∧ r.2.mem ((c.tc : Thread nD τ).loc main_v12_3) = aV (inp m c)
      ∧ r.2.mem ((c.tc : Thread nD τ).loc main_v12_4) = covV (inp m c) :=
  ⟨((h c).1 13).trans (out_13 m c),
    fun n => (congrFun ((h c).2 main_v13 (Pipeline.mem_restRefs_of main_v13 (by decide) (by decide))) _).trans (tail_13 m c n),
    fun n => (congrFun ((h c).2 main_v14 (Pipeline.mem_restRefs_of main_v14 (by decide) (by decide))) _).trans (tail_14 m c n),
    ((h c).1 16).trans (out_16 m c), ((h c).1 17).trans (out_17 m c)⟩

end Cert.KernelIdeal.Run
-- ==== Proof.Inputs.lean ====
module

public import proofs.«01_k».proof.Proof.Post
public import Idealize.ShloMosaic.Lib.Pipeline.ValueKit.Point

@[expose] public section

set_option maxRecDepth 16384

noncomputable section

/-! Every operand's block is its whole array. -/

namespace Cert.KernelIdeal.Run

open Idealize.ShloMosaic Idealize.ShloMosaic.TcCoe Idealize.ShloMosaic.Tactic
open Idealize.ShloMosaic.Pipeline (Dat Cfg Window)
open Cert.KernelIdeal Cert.KernelIdeal.Gen

variable {F : FTy → Type} [FloatOps F]
variable (m : (ℓ : Loc nD τ sig) → Buf (Elt F) ℓ) (c : Dev nD)

theorem whole_0 : iblk m c 0 p0 = V m c main_v0 := by
  have hz : (fun a => (win0_0.index p0) a * main_v0.ty.shape.size a) = fun _ => 0 := funext fun a => by fin_cases a <;> decide
  exact Memref.read_access_unit_zero (Elt F) main_v0 hz (fun a => by fin_cases a <;> decide) _
theorem whole_1 : iblk m c 1 p0 = V m c main_v1 := by
  have hz : (fun a => (win0_1.index p0) a * main_v1.ty.shape.size a) = fun _ => 0 := funext fun a => by fin_cases a <;> decide
  exact Memref.read_access_unit_zero (Elt F) main_v1 hz (fun a => by fin_cases a <;> decide) _
theorem whole_2 : iblk m c 2 p0 = V m c main_v2 := by
  have hz : (fun a => (win0_2.index p0) a * main_v2.ty.shape.size a) = fun _ => 0 := funext fun a => by fin_cases a <;> decide
  exact Memref.read_access_unit_zero (Elt F) main_v2 hz (fun a => by fin_cases a <;> decide) _
theorem whole_3 : iblk m c 3 p0 = V m c main_arg5 := by
  have hz : (fun a => (win0_3.index p0) a * main_arg5.ty.shape.size a) = fun _ => 0 := funext fun a => by fin_cases a <;> decide
  exact Memref.read_access_unit_zero (Elt F) main_arg5 hz (fun a => by fin_cases a <;> decide) _
theorem whole_4 : iblk m c 4 p0 = V m c main_arg6 := by
  have hz : (fun a => (win0_4.index p0) a * main_arg6.ty.shape.size a) = fun _ => 0 := funext fun a => by fin_cases a <;> decide
  exact Memref.read_access_unit_zero (Elt F) main_arg6 hz (fun a => by fin_cases a <;> decide) _
theorem whole_5 : iblk m c 5 p0 = V m c main_v6 := by
  have hz : (fun a => (win0_5.index p0) a * main_v6.ty.shape.size a) = fun _ => 0 := funext fun a => by fin_cases a <;> decide
  exact Memref.read_access_unit_zero (Elt F) main_v6 hz (fun a => by fin_cases a <;> decide) _
theorem whole_6 : iblk m c 6 p0 = V m c main_v7 := by
  have hz : (fun a => (win0_6.index p0) a * main_v7.ty.shape.size a) = fun _ => 0 := funext fun a => by fin_cases a <;> decide
  exact Memref.read_access_unit_zero (Elt F) main_v7 hz (fun a => by fin_cases a <;> decide) _
theorem whole_7 : iblk m c 7 p0 = V m c main_arg13 := by
  have hz : (fun a => (win0_7.index p0) a * main_arg13.ty.shape.size a) = fun _ => 0 := funext fun a => by fin_cases a <;> decide
  exact Memref.read_access_unit_zero (Elt F) main_arg13 hz (fun a => by fin_cases a <;> decide) _
theorem whole_8 : iblk m c 8 p0 = V m c main_v9 := by
  have hz : (fun a => (win0_8.index p0) a * main_v9.ty.shape.size a) = fun _ => 0 := funext fun a => by fin_cases a <;> decide
  exact Memref.read_access_unit_zero (Elt F) main_v9 hz (fun a => by fin_cases a <;> decide) _
theorem whole_9 : iblk m c 9 p0 = V m c main_arg15 := by
  have hz : (fun a => (win0_9.index p0) a * main_arg15.ty.shape.size a) = fun _ => 0 := funext fun a => by fin_cases a <;> decide
  exact Memref.read_access_unit_zero (Elt F) main_arg15 hz (fun a => by fin_cases a <;> decide) _
theorem whole_10 : iblk m c 10 p0 = V m c main_v10 := by
  have hz : (fun a => (win0_10.index p0) a * main_v10.ty.shape.size a) = fun _ => 0 := funext fun a => by fin_cases a <;> decide
  exact Memref.read_access_unit_zero (Elt F) main_v10 hz (fun a => by fin_cases a <;> decide) _
theorem whole_11 : iblk m c 11 p0 = V m c main_v11 := by
  have hz : (fun a => (win0_11.index p0) a * main_v11.ty.shape.size a) = fun _ => 0 := funext fun a => by fin_cases a <;> decide
  exact Memref.read_access_unit_zero (Elt F) main_v11 hz (fun a => by fin_cases a <;> decide) _
theorem whole_12 : iblk m c 12 p0 = V m c main_v4 := by
  have hz : (fun a => (win0_12.index p0) a * main_v4.ty.shape.size a) = fun _ => 0 := funext fun a => by fin_cases a <;> decide
  exact Memref.read_access_unit_zero (Elt F) main_v4 hz (fun a => by fin_cases a <;> decide) _

end Cert.KernelIdeal.Run
-- ==== Proof.ReadsK.lean ====
module

public import proofs.«01_k».proof.Proof.Flow
public import Idealize.ShloMosaic.Lib.Pointwise

@[expose] public section

set_option maxRecDepth 16384

noncomputable section

/-! What the blocks of the streamed arrays hold, element by element. -/

namespace Cert.KernelIdeal.Run

open Idealize.ShloMosaic Idealize.ShloMosaic.TcCoe
open Cert.KernelIdeal Cert.KernelIdeal.Gen
open Idealize.ShloMosaic.Ring (sl bk)

variable {F : FTy → Type} [FloatOps F] (I : Inp F)

theorem ix2_same {a b : ℕ} (i : Fin a) (j : Fin b) : ValueIdx.ix2 i j = ix2 i j := rfl

theorem ldI_at (b : Fin 8) (r : Fin 512) (k : Fin 512) : ldI I b (ix3 0 r k) = I.ih (ix2 ⟨512 * b.val + r.val, by omega⟩ k) := by
  unfold ldI
  pointwise
  refine congrArg I.ih (funext fun a => Fin.ext ?_)
  match a with
  | ⟨0, _⟩ => show (512 * b.val) + 1 * r.val = 512 * b.val + r.val; omega
  | ⟨1, _⟩ => show 0 + 1 * k.val = k.val; omega
theorem ldH_at (b : Fin 8) (r : Fin 512) (k : Fin 1024) : ldH I b (ix3 0 r k) = I.hh (ix2 ⟨512 * b.val + r.val, by omega⟩ k) := by
  unfold ldH
  pointwise
  refine congrArg I.hh (funext fun a => Fin.ext ?_)
  match a with
  | ⟨0, _⟩ => show (512 * b.val) + 1 * r.val = 512 * b.val + r.val; omega
  | ⟨1, _⟩ => show 0 + 1 * k.val = k.val; omega
theorem ldE_at (b : Fin 8) (r : Fin 256) (k : Fin 2048) : ldE I b (ix3 0 r k) = I.en (ix2 ⟨256 * b.val + r.val, by omega⟩ k) := by
  unfold ldE
  pointwise
  refine congrArg I.en (funext fun a => Fin.ext ?_)
  match a with
  | ⟨0, _⟩ => show (256 * b.val) + 1 * r.val = 256 * b.val + r.val; omega
  | ⟨1, _⟩ => show 0 + 1 * k.val = k.val; omega
theorem ldP_at (b : Fin 4) (r : Fin 256) (k : Fin 3072) : ldP I b (ix3 0 r k) = I.pv (ix2 ⟨256 * b.val + r.val, by omega⟩ k) := by
  unfold ldP
  pointwise
  refine congrArg I.pv (funext fun a => Fin.ext ?_)
  match a with
  | ⟨0, _⟩ => show (256 * b.val) + 1 * r.val = 256 * b.val + r.val; omega
  | ⟨1, _⟩ => show 0 + 1 * k.val = k.val; omega
/-- The rows that the vocabulary has; nothing is said of the last block's other rows. -/
theorem ldV_at (b : Fin 33) (r : Fin 1536) (k : Fin 1024) (h : 1536 * b.val + r.val < 50000) : ldV I b (ix3 0 r k) = I.vo (ix2 ⟨1536 * b.val + r.val, h⟩ k) := by
  unfold ldV
  pointwise
  unfold vRaw
  by_cases hb : b.val < 32
  · rw [dif_pos hb]
    refine congrArg I.vo (funext fun a => Fin.ext ?_)
    match a with
    | ⟨0, _⟩ => show (1536 * b.val) + 1 * r.val = 1536 * b.val + r.val; omega
    | ⟨1, _⟩ => show 0 + 1 * k.val = k.val; omega
  · have hr : r.val < 848 := by omega
    rw [dif_neg hb]
    refine (dif_pos hr).trans (congrArg I.vo (funext fun a => Fin.ext ?_))
    match a with
    | ⟨0, _⟩ => show 49152 + 1 * r.val = 1536 * b.val + r.val; omega
    | ⟨1, _⟩ => show 0 + 1 * k.val = k.val; omega

end Cert.KernelIdeal.Run
-- ==== Proof.Softmax.lean ====
module

public import Idealize.ShloMosaic.PureOps.Ideal
public import Idealize.ShloMosaic.PureOps.Ideal.Laws
public import Mathlib.Data.EReal.Inv

@[expose] public section

noncomputable section

/-! The softmax over the extended reals: the running maximum, sum and weighted sum of finite scores, taken block by block, are
    those of all the scores at once. -/

namespace Cert.Softmax

open Idealize.ShloMosaic

/-- A finite extended real. -/
def IsR (x : EReal) : Prop := x ≠ ⊥ ∧ x ≠ ⊤

theorem IsR.coe (x : ℝ) : IsR (x : EReal) := ⟨EReal.coe_ne_bot x, EReal.coe_ne_top x⟩
theorem IsR.out {x : EReal} (h : IsR x) : ∃ r : ℝ, x = (r : EReal) := ⟨x.toReal, (EReal.coe_toReal h.2 h.1).symm⟩
theorem IsR.add {x y : EReal} (hx : IsR x) (hy : IsR y) : IsR (x + y) := by
  obtain ⟨a, rfl⟩ := hx.out
  obtain ⟨b, rfl⟩ := hy.out
  exact IsR.coe (a + b)
theorem IsR.mul {x y : EReal} (hx : IsR x) (hy : IsR y) : IsR (x * y) := by
  obtain ⟨a, rfl⟩ := hx.out
  obtain ⟨b, rfl⟩ := hy.out
  exact IsR.coe (a * b)
theorem IsR.sum {J : Type*} (s : Finset J) (f : J → EReal) (h : ∀ j, IsR (f j)) : IsR (∑ j ∈ s, f j) := by
  classical
  induction s using Finset.induction_on with
  | empty => rw [Finset.sum_empty]; exact IsR.coe 0
  | insert a s ha ih => rw [Finset.sum_insert ha]; exact (h a).add ih
theorem isR_tanh (x : EReal) : IsR (Ideal.tanh x) := by
  induction x with
  | bot => exact IsR.coe (-1)
  | coe r => exact IsR.coe (Real.tanh r)
  | top => exact IsR.coe 1

/-- The maximum of finitely many finite numbers is finite. -/
theorem IsR.sup {J : Type*} (s : Finset J) (hs : s.Nonempty) (f : J → EReal) (h : ∀ j, IsR (f j)) : IsR (s.sup f) := by
  obtain ⟨j, -, e⟩ := Finset.exists_mem_eq_sup s hs f
  rw [e]
  exact h j

theorem exp_coe (r : ℝ) : Ideal.exp (r : EReal) = ((Real.exp r : ℝ) : EReal) := rfl
theorem isR_exp_sub {x y : EReal} (hx : IsR x) (hy : IsR y) : IsR (Ideal.exp (x - y)) := by
  obtain ⟨a, rfl⟩ := hx.out
  obtain ⟨b, rfl⟩ := hy.out
  exact IsR.coe (Real.exp (a - b))
theorem exp_sub_pos {x y : EReal} (hx : IsR x) (hy : IsR y) : 0 < Ideal.exp (x - y) := by
  obtain ⟨a, rfl⟩ := hx.out
  obtain ⟨b, rfl⟩ := hy.out
  exact EReal.coe_pos.mpr (Real.exp_pos (a - b))
/-- Moving the reference point. -/
theorem exp_sub_mul {x y z : EReal} (hx : IsR x) (hy : IsR y) (hz : IsR z) : Ideal.exp (x - y) * Ideal.exp (y - z) = Ideal.exp (x - z) := by
  obtain ⟨a, rfl⟩ := hx.out
  obtain ⟨b, rfl⟩ := hy.out
  obtain ⟨c, rfl⟩ := hz.out
  show ((Real.exp (a - b) * Real.exp (b - c) : ℝ) : EReal) = ((Real.exp (a - c) : ℝ) : EReal)
  rw [← Real.exp_add]
  congr 2
  ring

/-- A finite nonnegative factor goes into a sum. -/
theorem sum_mul_real {J : Type*} (s : Finset J) (f : J → EReal) {k : EReal} (h0 : 0 ≤ k) (hk : k ≠ ⊤) : (∑ j ∈ s, f j) * k = ∑ j ∈ s, f j * k := by
  classical
  induction s using Finset.induction_on with
  | empty => rw [Finset.sum_empty, Finset.sum_empty, zero_mul]
  | insert a s ha ih => rw [Finset.sum_insert ha, Finset.sum_insert ha, ← ih, mul_comm, EReal.left_distrib_of_nonneg_of_ne_top h0 hk, mul_comm k, mul_comm k]

section Online
variable {J Q : Type*} [Fintype J] [Nonempty J] (E : ℕ → J → EReal) (hE : ∀ i j, IsR (E i j)) (X : ℕ → J → Q → EReal)
  (m s : ℕ → EReal) (c : ℕ → Q → EReal)

/-- The running maximum is finite once a block is in. -/
theorem isR_max (hE : ∀ i j, IsR (E i j)) (n : ℕ) : IsR ((Finset.range (n + 1)).sup fun i => Finset.univ.sup (E i)) :=
  IsR.sup _ ⟨0, Finset.mem_range.mpr (Nat.succ_pos n)⟩ _ fun i => IsR.sup _ Finset.univ_nonempty _ (hE i)

theorem running_max (m0 : m 0 = ⊥) (hm : ∀ n, m (n + 1) = max (m n) (Finset.univ.sup (E n))) (n : ℕ) :
    m n = (Finset.range n).sup fun i => Finset.univ.sup (E i) := by
  induction n with
  | zero => rw [m0, Finset.range_zero, Finset.sup_empty]
  | succ n ih => rw [hm, ih, Finset.range_add_one, Finset.sup_insert, max_comm]

/-- The running weighted sum: `w` are the weights of the elements of the blocks. -/
theorem running_sum (hE : ∀ i j, IsR (E i j)) (W : ℕ → J → EReal) (t : ℕ → EReal) (m0 : m 0 = ⊥) (hm : ∀ n, m (n + 1) = max (m n) (Finset.univ.sup (E n))) (t0 : t 0 = 0)
    (ht : ∀ n, t (n + 1) = t n * Ideal.exp (m n - m (n + 1)) + ∑ j, Ideal.exp (E n j - m (n + 1)) * W n j) (n : ℕ) :
    t n = ∑ i ∈ Finset.range n, ∑ j, Ideal.exp (E i j - m n) * W i j := by
  induction n with
  | zero => rw [t0, Finset.range_zero, Finset.sum_empty]
  | succ n ih =>
    rw [ht, Finset.sum_range_succ]
    congr 1
    cases n with
    | zero => rw [t0, zero_mul, Finset.range_zero, Finset.sum_empty]
    | succ k =>
      have h1 : IsR (m (k + 1)) := by rw [running_max E m m0 hm]; exact isR_max E hE k
      have h2 : IsR (m (k + 1 + 1)) := by rw [running_max E m m0 hm]; exact isR_max E hE (k + 1)
      have hp := (exp_sub_pos h1 h2).le
      have ht := (isR_exp_sub h1 h2).2
      rw [ih, sum_mul_real _ _ hp ht]
      refine Finset.sum_congr rfl fun i _ => ?_
      rw [sum_mul_real _ _ hp ht]
      refine Finset.sum_congr rfl fun j _ => ?_
      rw [mul_right_comm, exp_sub_mul (hE i j) h1 h2]
end Online

/-- The sum of the exponentials of finite numbers is not zero. -/
theorem sum_exp_pos {J : Type*} [Fintype J] [Nonempty J] (e : J → EReal) (he : ∀ j, IsR (e j)) {M : EReal} (hM : IsR M) : 0 < ∑ j, Ideal.exp (e j - M) :=
  lt_of_lt_of_le (exp_sub_pos (he (Classical.arbitrary J)) hM)
    (Finset.single_le_sum (f := fun j => Ideal.exp (e j - M)) (fun j _ => (exp_sub_pos (he j) hM).le) (Finset.mem_univ _))

theorem div_of_pos (x : EReal) {S : EReal} (h : 0 < S) : Ideal.div x S = x * S⁻¹ := by
  unfold Ideal.div
  rw [if_neg h.ne']
theorem inv_ne_top (S : EReal) : S⁻¹ ≠ ⊤ := by
  induction S with
  | bot => rw [EReal.inv_bot]; exact EReal.zero_ne_top
  | coe r => rw [← EReal.coe_inv]; exact EReal.coe_ne_top _
  | top => rw [EReal.inv_top]; exact EReal.zero_ne_top
/-- Scaling by the reciprocal is dividing. -/
theorem mul_div_one (x : EReal) {S : EReal} (h : 0 < S) : x * Ideal.div 1 S = Ideal.div x S := by
  rw [div_of_pos _ h, div_of_pos _ h, one_mul]
/-- A weighted sum scaled afterwards is the sum with the weights scaled. -/
theorem sum_scaled {J : Type*} [Fintype J] (p x : J → EReal) {S : EReal} (h : 0 < S) : (∑ j, p j * x j) * Ideal.div 1 S = ∑ j, Ideal.div (p j) S * x j := by
  rw [div_of_pos _ h, one_mul, sum_mul_real _ _ (EReal.inv_nonneg_of_nonneg h.le) (inv_ne_top S)]
  refine Finset.sum_congr rfl fun j _ => ?_
  rw [div_of_pos _ h, mul_right_comm]

/-- A sum over blocks of `b` elements is the sum over the elements. -/
theorem sum_blocks {M : Type*} [AddCommMonoid M] {a b N : ℕ} (hN : N = a * b) (hb : 0 < b) (g : Fin a → Fin b → M) :
    ∑ i, ∑ j, g i j = ∑ n : Fin N, g ⟨n.val / b, Nat.div_lt_of_lt_mul (by rw [Nat.mul_comm, ← hN]; exact n.isLt)⟩ ⟨n.val % b, Nat.mod_lt _ hb⟩ := by
  subst hN
  rw [← Fintype.sum_prod_type' (f := g)]
  exact Fintype.sum_equiv finProdFinEquiv _ _ fun x => by
    obtain ⟨i, j⟩ := x
    have e : (finProdFinEquiv (i, j)).val = j.val + b * i.val := rfl
    have h1 : (finProdFinEquiv (i, j)).val / b = i.val := by rw [e, Nat.add_mul_div_left _ _ hb, Nat.div_eq_of_lt j.isLt, Nat.zero_add]
    have h2 : (finProdFinEquiv (i, j)).val % b = j.val := by rw [e, Nat.add_mul_mod_self_left, Nat.mod_eq_of_lt j.isLt]
    exact congrArg₂ g (Fin.ext h1.symm) (Fin.ext h2.symm)
theorem sup_blocks {a b N : ℕ} (hN : N = a * b) (hb : 0 < b) (g : Fin a → Fin b → EReal) :
    (Finset.univ.sup fun i => Finset.univ.sup (g i)) = Finset.univ.sup fun n : Fin N => g ⟨n.val / b, Nat.div_lt_of_lt_mul (by rw [Nat.mul_comm, ← hN]; exact n.isLt)⟩ ⟨n.val % b, Nat.mod_lt _ hb⟩ := by
  refine le_antisymm (Finset.sup_le fun i _ => Finset.sup_le fun j _ => ?_) (Finset.sup_le fun n _ => ?_)
  · have h : j.val + b * i.val < N := by
      have h1 := i.isLt
      have h2 := j.isLt
      have h3 : b * (i.val + 1) ≤ b * a := Nat.mul_le_mul_left b h1
      rw [hN, Nat.mul_comm a b]
      rw [Nat.mul_add, Nat.mul_one] at h3
      omega
    have h1 : (j.val + b * i.val) / b = i.val := by rw [Nat.add_mul_div_left _ _ hb, Nat.div_eq_of_lt j.isLt, Nat.zero_add]
    have h2 : (j.val + b * i.val) % b = j.val := by rw [Nat.add_mul_mod_self_left, Nat.mod_eq_of_lt j.isLt]
    refine le_of_eq_of_le (congrArg₂ g (Fin.ext h1.symm) (Fin.ext h2.symm)) (Finset.le_sup (f := fun n : Fin N => g ⟨n.val / b, Nat.div_lt_of_lt_mul (by rw [Nat.mul_comm, ← hN]; exact n.isLt)⟩ ⟨n.val % b, Nat.mod_lt _ hb⟩) (Finset.mem_univ (⟨j.val + b * i.val, h⟩ : Fin N)))
  · exact le_trans (Finset.le_sup (f := g _) (Finset.mem_univ _)) (Finset.le_sup (f := fun i => Finset.univ.sup (g i)) (Finset.mem_univ _))

end Cert.Softmax
-- ==== Proof.ValsK.lean ====
module

public import proofs.«01_k».proof.Proof.ReadsK
public import proofs.«01_k».proof.Proof.Softmax
public import Idealize.ShloMosaic.Lib.IdealHost

@[expose] public section

set_option maxRecDepth 16384

noncomputable section

/-! The kernel's values over the extended reals, element by element. -/

namespace Cert.KernelIdeal.Run

open Idealize.ShloMosaic Idealize.ShloMosaic.TcCoe
open Cert.KernelIdeal Cert.KernelIdeal.Gen
open Idealize.ShloMosaic.Ring (sl bk)

variable (I : Inp Ideal)

theorem minus_inf : Ideal.ofBits .f32 0xFF800000#32 = ⊥ := by simp [Ideal.ofBits, Ideal.ieee]

theorem sup_row {n : ℕ} (f : Fin n → EReal) : (Finset.univ : Finset (Fin 1 × Fin n)).fold max ⊥ (fun x => f x.2) = Finset.univ.sup f :=
  le_antisymm (Finset.sup_le fun x _ => Finset.le_sup (Finset.mem_univ x.2))
    (Finset.sup_le fun j _ => Finset.le_sup (f := fun x : Fin 1 × Fin n => f x.2) (Finset.mem_univ (0, j)))

theorem glue_read {e : EltTy} {N : Nat} (w n : Nat) (hN : N = w * n) (hw : 0 < w) (p : Fin n → Vec Ideal ⟨2, ![1, w]⟩ e) (k : Fin N) :
    glue w n hN hw p (ix2 0 k) = p ⟨k.val / w, Nat.div_lt_of_lt_mul (hN ▸ k.isLt)⟩ (ix2 0 ⟨k.val % w, Nat.mod_lt _ hw⟩) := rfl
theorem split_at {N w : ℕ} (k : Fin N) {h} : (⟨w * (k.val / w) + k.val % w, h⟩ : Fin N) = k := Fin.ext (Nat.div_add_mod k.val w)

/-! ### The gates -/

theorem gch_at (b : Fin 8) (j : Fin 512) : gch I b (ix2 0 j) = (∑ k : Fin 512, I.x (ix2 0 k) * I.ih (ix2 ⟨512 * b.val + j.val, by omega⟩ k)) + (∑ k : Fin 1024, I.h0 (ix2 0 k) * I.hh (ix2 ⟨512 * b.val + j.val, by omega⟩ k)) + I.bg (ix2 0 ⟨512 * b.val + j.val, by omega⟩) := by
  unfold gch
  pointwise [k0_pay1, k0_pay21, k0_pay22]
  simp only [ldI_at, ldH_at]
  rfl
theorem gV_at (n : Fin 4096) : gV I (ix2 0 n) = (∑ k : Fin 512, I.x (ix2 0 k) * I.ih (ix2 n k)) + (∑ k : Fin 1024, I.h0 (ix2 0 k) * I.hh (ix2 n k)) + I.bg (ix2 0 n) := by
  unfold gV
  rw [glue_read, gch_at]
  simp only [split_at]

theorem cV_at (n : Fin 1024) : cV I (ix2 0 n) = Ideal.logistic (gV I (ix2 0 ⟨1024 + n.val, by omega⟩)) * I.c0 (ix2 0 n) + Ideal.logistic (gV I (ix2 0 ⟨n.val, by omega⟩)) * Ideal.tanh (gV I (ix2 0 ⟨2048 + n.val, by omega⟩)) := by
  unfold cV
  pointwise [k0_pay2]
theorem hV_at (n : Fin 1024) : hV I (ix2 0 n) = Ideal.logistic (gV I (ix2 0 ⟨3072 + n.val, by omega⟩)) * Ideal.tanh (cV I (ix2 0 n)) := by
  unfold hV cV
  pointwise [k0_pay3]
theorem hN_eq : hN I = hV I := by
  unfold hN hV
  funext j
  pointwise [k0_pay4]

/-! ### The scores -/

theorem sT_at (n : Fin 1024) : sT I (ix2 0 n) = (∑ k : Fin 1024, hV I (ix2 0 k) * I.wd (ix2 n k)) + I.bd (ix2 0 n) := by
  unfold sT
  rw [hN_eq]
  pointwise [k0_pay5]
theorem ech_at (b : Fin 8) (j : Fin 256) : ech I b (ix2 0 j) = (∑ k : Fin 1024, I.wi (ix2 0 k) * Ideal.tanh ((∑ q : Fin 2048, I.en (ix2 ⟨256 * b.val + j.val, by omega⟩ q) * I.we (ix2 k q)) + sT I (ix2 0 k))) + I.bi (ix2 0 0) := by
  unfold ech ePre
  pointwise [k0_pay8, k0_pay7, k0_pay24, k0_pay23]
  simp only [ldE_at]
theorem eV_at (n : Fin 2048) : eV I (ix2 0 n) = (∑ k : Fin 1024, I.wi (ix2 0 k) * Ideal.tanh ((∑ q : Fin 2048, I.en (ix2 n q) * I.we (ix2 k q)) + sT I (ix2 0 k))) + I.bi (ix2 0 0) := by
  unfold eV
  rw [glue_read, ech_at]
  simp only [split_at]

/-! ### The running softmax -/

theorem pay7_at (e : FVec Ideal S1x256 .f32) (bi : FVec Ideal S1x1 .f32) (j : Fin 256) : k0_pay8 e bi (ix2 0 j) = e (ix2 0 j) + bi (ix2 0 0) := by
  pointwise [k0_pay8, k0_pay7]
theorem pay9_at (e : FVec Ideal S1x256 .f32) (bi : FVec Ideal S1x1 .f32) (m : Ideal .f32) : k0_pay9 e bi m = max m (Finset.univ.sup fun j : Fin 256 => k0_pay8 e bi (ix2 0 j)) := by
  simp only [pay7_at]
  pointwise [k0_pay9, k0_pay7]
  rw [minus_inf]
  exact congrArg (max m) (sup_row fun j : Fin 256 => e (ix2 0 j) + bi (ix2 0 0))
theorem pay13_at (e : FVec Ideal S1x256 .f32) (bi : FVec Ideal S1x1 .f32) (m s : Ideal .f32) : k0_pay13 e bi m s = s * Ideal.exp (m - k0_pay9 e bi m) + ∑ j : Fin 256, Ideal.exp (k0_pay8 e bi (ix2 0 j) - k0_pay9 e bi m) := by
  simp only [pay7_at]
  pointwise [k0_pay13, k0_pay11, k0_pay10, k0_pay7]
  exact congrArg (s * Ideal.exp (m - k0_pay9 e bi m) + ·) (Fin.sum_univ_one _)
theorem pay12_at (r : FVec Ideal S256x2048 .f32) (e : FVec Ideal S1x256 .f32) (bi : FVec Ideal S1x1 .f32) (m : Ideal .f32) (c : FVec Ideal S1x2048 .f32) (q : Fin 2048) :
    k0_pay12 r e bi m c (ix2 0 q) = c (ix2 0 q) * Ideal.exp (m - k0_pay9 e bi m) + ∑ j : Fin 256, Ideal.exp (k0_pay8 e bi (ix2 0 j) - k0_pay9 e bi m) * r (ix2 j q) := by
  simp only [pay7_at]
  pointwise [k0_pay12, k0_pay11, k0_pay10, k0_pay7]
  rfl
theorem pay15_at (s m : Ideal .f32) (e : FVec Ideal S1x2048 .f32) (n : Fin 2048) : k0_pay15 (F := Ideal) s e m (ix2 0 n) = Ideal.exp (e (ix2 0 n) - m) * Ideal.div 1 s := by
  pointwise [k0_pay15, k0_pay14]
  done
theorem pay16_at (s : Ideal .f32) (c : FVec Ideal S1x2048 .f32) (n : Fin 2048) : k0_pay16 (F := Ideal) s c (ix2 0 n) = c (ix2 0 n) * Ideal.div 1 s := by
  pointwise [k0_pay16, k0_pay14]
theorem pay6_at (n : Fin 2048) : (k0_pay6 : FVec Ideal S1x2048 .f32) (ix2 0 n) = 0 := by
  pointwise [k0_pay6]
theorem pay23_at (r : FVec Ideal S1x256x2048 .f32) (j : Fin 256) (q : Fin 2048) : k0_pay23 r (ix2 j q) = r (ix3 0 j q) := by
  pointwise [k0_pay23]

/-! ### The projections -/

theorem pch_at (b : Fin 4) (j : Fin 256) : pch I b (ix2 0 j) = (∑ k : Fin 1024, hV I (ix2 0 k) * I.pv (ix2 ⟨256 * b.val + j.val, by omega⟩ ⟨k.val, by omega⟩)) + (∑ q : Fin 2048, ctx I (ix2 0 q) * I.pv (ix2 ⟨256 * b.val + j.val, by omega⟩ ⟨1024 + q.val, by omega⟩)) + I.b1 (ix2 0 ⟨256 * b.val + j.val, by omega⟩) := by
  unfold pch
  rw [hN_eq]
  pointwise [k0_pay17, k0_pay25]
  simp only [ldP_at]
  rfl
theorem pV_at (n : Fin 1024) : pV I (ix2 0 n) = (∑ k : Fin 1024, hV I (ix2 0 k) * I.pv (ix2 n ⟨k.val, by omega⟩)) + (∑ q : Fin 2048, ctx I (ix2 0 q) * I.pv (ix2 n ⟨1024 + q.val, by omega⟩)) + I.b1 (ix2 0 n) := by
  unfold pV
  rw [glue_read, pch_at]
  simp only [split_at]
theorem vch_at (b : Fin 33) (j : Fin 1536) (h : 1536 * b.val + j.val < 50000) : vch I b (ix2 0 j) = ∑ k : Fin 1024, pV I (ix2 0 k) * I.vo (ix2 ⟨1536 * b.val + j.val, h⟩ k) := by
  unfold vch
  pointwise [k0_pay18]
  simp only [ldV_at I b j _ h]
theorem vV_at (n : Fin 50000) : vV I (ix2 0 ⟨n.val, by omega⟩) = ∑ k : Fin 1024, pV I (ix2 0 k) * I.vo (ix2 n k) := by
  unfold vV
  rw [glue_read, vch_at I _ _ (lt_of_eq_of_lt (Nat.div_add_mod n.val 1536) n.isLt)]
  simp only [split_at]

/-- The mask of the columns that the vocabulary has. -/
theorem mask_at {α : Type} (k : Fin 50688) (a b : α) : Scalar.select (IntOp.cmpi CmpIPredicate.slt (BitVec.ofNat 32 k.val) 50000#32) a b = if k.val < 50000 then a else b := by
  have hk := k.isLt
  have e : (BitVec.ofNat 32 k.val).toNat = k.val := by rw [BitVec.toNat_ofNat]; exact Nat.mod_eq_of_lt (by omega)
  have h : (BitVec.ofNat 32 k.val).slt 50000#32 = decide (k.val < 50000) := by
    rw [BitVec.slt_eq_decide, BitVec.toInt_eq_toNat_of_lt (by rw [e]; omega), e]
    exact decide_eq_decide.mpr (by rw [show (50000#32 : BitVec 32).toInt = ((50000 : ℕ) : ℤ) by decide]; exact Int.ofNat_lt)
  unfold Scalar.select IntOp.cmpi
  simp only [h]
  by_cases hlt : k.val < 50000
  · rw [if_pos hlt, decide_eq_true hlt]; rfl
  · rw [if_neg hlt, decide_eq_false hlt]; rfl
theorem sum_cut {a b : ℕ} (f : Fin a → EReal) : (∑ k : Fin (a + b), if h : k.val < a then f ⟨k.val, h⟩ else 0) = ∑ k, f k := by
  rw [Fin.sum_univ_add]
  simp
theorem sup_cut {a N : ℕ} (hN : a ≤ N) (f : Fin a → EReal) : (Finset.univ.sup fun k : Fin N => if h : k.val < a then f ⟨k.val, h⟩ else ⊥) = Finset.univ.sup f := by
  refine le_antisymm (Finset.sup_le fun k _ => ?_) (Finset.sup_le fun k _ => ?_)
  · by_cases h : k.val < a
    · rw [dif_pos h]; exact Finset.le_sup (f := f) (Finset.mem_univ _)
    · rw [dif_neg h]; exact bot_le
  · have h := Finset.le_sup (f := fun k : Fin N => if h : k.val < a then f ⟨k.val, h⟩ else ⊥) (Finset.mem_univ ⟨k.val, lt_of_lt_of_le k.isLt hN⟩)
    dsimp only at h
    rwa [dif_pos k.isLt] at h

/-- The distribution: the softmax over the vocabulary's columns. -/
theorem pay19_at (v b : FVec Ideal S1x50688 .f32) (z : Fin 50000 → EReal) (hz : ∀ n : Fin 50000, v (ix2 0 ⟨n.val, by omega⟩) + b (ix2 0 ⟨n.val, by omega⟩) = z n) (n : Fin 50000) :
    k0_pay19 (F := Ideal) v b (ix2 0 n) = Ideal.div (Ideal.exp (z n - Finset.univ.sup z)) (∑ k, Ideal.exp (z k - Finset.univ.sup z)) := by
  have hM : (Finset.univ : Finset (Fin 1 × Fin 50688)).fold max ⊥ (fun x => if x.2.val < 50000 then v (ix2 0 x.2) + b (ix2 0 x.2) else ⊥) = Finset.univ.sup z := by
    rw [sup_row fun k : Fin 50688 => if k.val < 50000 then v (ix2 0 k) + b (ix2 0 k) else ⊥, ← sup_cut (N := 50688) (by decide) z]
    refine Finset.sup_congr rfl fun k _ => ?_
    by_cases h : k.val < 50000
    · rw [if_pos h, dif_pos h, ← hz]
    · rw [if_neg h, dif_neg h]
  pointwise [k0_pay19]
  rw [mask_at ⟨n.val, by omega⟩, mask_at ⟨n.val, by omega⟩, if_pos n.isLt, if_pos n.isLt, minus_inf, hz]
  simp only [mask_at]
  rw [hM, Fin.sum_univ_one]
  refine congrArg _ ((Finset.sum_congr rfl fun k _ => ?_).trans (sum_cut (a := 50000) (b := 688) fun k => Ideal.exp (z k - Finset.univ.sup z)))
  by_cases h : k.val < 50000
  · rw [if_pos h, if_pos h, dif_pos h, ← hz]
  · rw [if_neg h, dif_neg h]

theorem covV_at (n : Fin 2048) : covV I (ix2 0 n) = I.cv (ix2 0 n) + I.aw (ix2 0 n) := by
  unfold covV
  pointwise [k0_pay20]

end Cert.KernelIdeal.Run
-- ==== Proof.Attend.lean ====
module

public import proofs.«01_k».proof.Proof.ValsK

@[expose] public section

set_option maxRecDepth 16384

noncomputable section

/-! The attention: at finite score weights, what the running softmax leaves is the softmax of all the scores, and the context
    is the encoder's rows weighted by it. -/

namespace Cert.KernelIdeal.Run

open Idealize.ShloMosaic Idealize.ShloMosaic.TcCoe
open Cert.KernelIdeal Cert.KernelIdeal.Gen Cert.Softmax
open Idealize.ShloMosaic.Ring (sl bk)

variable (I : Inp Ideal)

/-- The scores. -/
def sc (n : Fin 2048) : EReal := eV I (ix2 0 n)
/-- Their softmax. -/
def soft {N : ℕ} (e : Fin N → EReal) (n : Fin N) : EReal := Ideal.div (Ideal.exp (e n - Finset.univ.sup e)) (∑ k, Ideal.exp (e k - Finset.univ.sup e))

theorem isR_ech (hw : ∀ k, IsR (I.wi (ix2 0 k))) (hb : IsR (I.bi (ix2 0 0))) (b : Fin 8) (j : Fin 256) : IsR (ech I b (ix2 0 j)) := by
  rw [ech_at]
  exact (IsR.sum _ _ fun k => (hw k).mul (isR_tanh _)).add hb
theorem isR_sc (hw : ∀ k, IsR (I.wi (ix2 0 k))) (hb : IsR (I.bi (ix2 0 0))) (n : Fin 2048) : IsR (sc I n) := by
  unfold sc
  rw [eV_at]
  exact (IsR.sum _ _ fun k => (hw k).mul (isR_tanh _)).add hb

theorem bk_enc_val (i : Fin 8) : bk 8 i.val = i := Fin.ext (Nat.mod_eq_of_lt i.isLt)
theorem sc_block (n : Fin 2048) : ech I ⟨n.val / 256, Nat.div_lt_of_lt_mul n.isLt⟩ (ix2 0 ⟨n.val % 256, Nat.mod_lt _ (by decide)⟩) = sc I n := rfl

theorem stt_max (n : ℕ) : (stt I (n + 1)).1 = max (stt I n).1 (Finset.univ.sup fun j : Fin 256 => ech I (bk 8 n) (ix2 0 j)) := pay9_at _ _ _
theorem stt_sum (n : ℕ) : (stt I (n + 1)).2.1 = (stt I n).2.1 * Ideal.exp ((stt I n).1 - (stt I (n + 1)).1) + ∑ j : Fin 256, Ideal.exp (ech I (bk 8 n) (ix2 0 j) - (stt I (n + 1)).1) * 1 := by
  simp only [mul_one]
  exact pay13_at _ _ _ _
theorem stt_ctx (q : Fin 2048) (n : ℕ) : (stt I (n + 1)).2.2 (ix2 0 q) = (stt I n).2.2 (ix2 0 q) * Ideal.exp ((stt I n).1 - (stt I (n + 1)).1)
    + ∑ j : Fin 256, Ideal.exp (ech I (bk 8 n) (ix2 0 j) - (stt I (n + 1)).1) * I.en (ix2 ⟨256 * (bk 8 n).val + j.val, by omega⟩ q) := by
  refine (pay12_at _ _ _ _ _ q).trans ?_
  simp only [pay23_at, ldE_at]
  rfl

theorem stt_max0 : (stt I 0).1 = (⊥ : EReal) := minus_inf
theorem stt_sum0 : (stt I 0).2.1 = (0 : EReal) := Ideal.ofBits_zero_f32

variable (hw : ∀ k, IsR (I.wi (ix2 0 k))) (hb : IsR (I.bi (ix2 0 0)))

theorem max_all : (stt I 8).1 = Finset.univ.sup (sc I) := by
  rw [running_max (fun i (j : Fin 256) => ech I (bk 8 i) (ix2 0 j)) (fun n => (stt I n).1) (stt_max0 I) (stt_max I) 8]
  have h : ((Finset.range 8).sup fun i => Finset.univ.sup fun j : Fin 256 => ech I (bk 8 i) (ix2 0 j)) = Finset.univ.sup fun i : Fin 8 => Finset.univ.sup fun j : Fin 256 => ech I i (ix2 0 j) := by
    refine le_antisymm (Finset.sup_le fun i _ => Finset.le_sup (f := fun i : Fin 8 => Finset.univ.sup fun j : Fin 256 => ech I i (ix2 0 j)) (Finset.mem_univ (bk 8 i))) (Finset.sup_le fun i _ => ?_)
    have h := Finset.le_sup (f := fun i => Finset.univ.sup fun j : Fin 256 => ech I (bk 8 i) (ix2 0 j)) (Finset.mem_range.mpr i.isLt)
    rwa [bk_enc_val] at h
  rw [h, sup_blocks (N := 2048) (by decide) (by decide)]
  rfl

include hw hb in
/-- A weighted sum over the blocks, as one over the scores. -/
theorem sum_all (W : Fin 2048 → EReal) (t : ℕ → EReal) (t0 : t 0 = 0)
    (ht : ∀ n, t (n + 1) = t n * Ideal.exp ((stt I n).1 - (stt I (n + 1)).1) + ∑ j : Fin 256, Ideal.exp (ech I (bk 8 n) (ix2 0 j) - (stt I (n + 1)).1) * W ⟨256 * (bk 8 n).val + j.val, by omega⟩) :
    t 8 = ∑ n, Ideal.exp (sc I n - Finset.univ.sup (sc I)) * W n := by
  rw [running_sum (fun i (j : Fin 256) => ech I (bk 8 i) (ix2 0 j)) (fun n => (stt I n).1) (fun i j => isR_ech I hw hb _ j) (fun i j => W ⟨256 * (bk 8 i).val + j.val, by omega⟩) t (stt_max0 I) (stt_max I) t0 ht 8, Finset.sum_range]
  simp only [bk_enc_val, max_all]
  rw [sum_blocks (N := 2048) (by decide) (by decide)]
  refine Finset.sum_congr rfl fun n _ => ?_
  rw [sc_block, split_at]

include hw hb in
theorem sum_exp : (stt I 8).2.1 = ∑ n, Ideal.exp (sc I n - Finset.univ.sup (sc I)) := by
  rw [sum_all I hw hb (fun _ => 1) (fun n => (stt I n).2.1) (stt_sum0 I) (stt_sum I)]
  simp only [mul_one]

include hw hb in
theorem sum_pos : (0 : EReal) < ∑ n, Ideal.exp (sc I n - Finset.univ.sup (sc I)) :=
  sum_exp_pos (sc I) (isR_sc I hw hb) (IsR.sup _ Finset.univ_nonempty _ (isR_sc I hw hb))

include hw hb in
theorem aV_at (n : Fin 2048) : aV I (ix2 0 n) = soft (sc I) n := by
  unfold aV
  rw [pay15_at, max_all, sum_exp I hw hb, mul_div_one _ (sum_pos I hw hb)]
  rfl

include hw hb in
theorem ctx_at (q : Fin 2048) : ctx I (ix2 0 q) = ∑ n, soft (sc I) n * I.en (ix2 n q) := by
  unfold ctx
  rw [pay16_at, sum_exp I hw hb, sum_all I hw hb (fun n => I.en (ix2 n q)) (fun n => (stt I n).2.2 (ix2 0 q)) (pay6_at q) (stt_ctx I q), sum_scaled _ _ (sum_pos I hw hb)]
  rfl

end Cert.KernelIdeal.Run
-- ==== Proof.Agree.lean ====
module

public import proofs.«01_k».proof.Proof.Gen.ReferenceIdeal.Run
public import proofs.«01_k».proof.Proof.Attend
public import Idealize.ShloMosaic.Lib.Pointwise
public import Idealize.ShloMosaic.Lib.Tactic.CleanTypes

@[expose] public section

set_option maxRecDepth 16384

noncomputable section

/-! The reference's values over the extended reals are the kernel's, element by element, where the kernel's region is fed from
    the reference's arguments. -/

namespace Cert.Agree

open Idealize.ShloMosaic Idealize.ShloMosaic.TcCoe
open Cert.ReferenceIdeal Cert.ReferenceIdeal.Gen Cert.ReferenceIdeal.Value
open Cert.KernelIdeal.Run (Inp gV cV hV sc soft eV aV ctx pV vV oV covV gV_at cV_at hV_at eV_at sT_at aV_at ctx_at pV_at vV_at covV_at minus_inf)
open Cert.Softmax (IsR)

/-- The region is fed from the arguments: reshaped, the biases that are added together summed, the vocabulary's bias padded. -/
structure Fed (I : Inp Ideal) (L : Valuation τ sig (Elt Ideal)) : Prop where
  x : ∀ k : Fin 512, I.x (ix2 0 k) = (L (Proc.devRef .tc main_arg0) : FVec Ideal S1x1x512 .f32) (ix3 0 0 k)
  h0 : ∀ k : Fin 1024, I.h0 (ix2 0 k) = (L (Proc.devRef .tc main_arg2) : FVec Ideal S1x1x1024 .f32) (ix3 0 0 k)
  c0 : ∀ k : Fin 1024, I.c0 (ix2 0 k) = (L (Proc.devRef .tc main_arg3) : FVec Ideal S1x1x1024 .f32) (ix3 0 0 k)
  aw : I.aw = (L (Proc.devRef .tc main_arg5) : FVec Ideal S1x2048 .f32)
  cv : I.cv = (L (Proc.devRef .tc main_arg6) : FVec Ideal S1x2048 .f32)
  bg : ∀ k : Fin 4096, I.bg (ix2 0 k) = HAdd.hAdd (α := EReal) (β := EReal) (γ := EReal) ((L (Proc.devRef .tc main_arg9) : FVec Ideal S4096 .f32) (ix1 k)) ((L (Proc.devRef .tc main_arg10) : FVec Ideal S4096 .f32) (ix1 k))
  we : ∀ (k : Fin 1024) (q : Fin 2048), I.we (ix2 k q) = (L (Proc.devRef .tc main_arg11) : FVec Ideal S1024x2048 .f32) (ix2 k q)
  wd : I.wd = (L (Proc.devRef .tc main_arg13) : FVec Ideal S1024x1024 .f32)
  bd : ∀ k : Fin 1024, I.bd (ix2 0 k) = HAdd.hAdd (α := EReal) (β := EReal) (γ := EReal) ((L (Proc.devRef .tc main_arg14) : FVec Ideal S1024 .f32) (ix1 k)) ((L (Proc.devRef .tc main_arg12) : FVec Ideal S1024 .f32) (ix1 k))
  wi : I.wi = (L (Proc.devRef .tc main_arg15) : FVec Ideal S1x1024 .f32)
  bi : I.bi (ix2 0 0) = (L (Proc.devRef .tc main_arg16) : FVec Ideal S1 .f32) (ix1 0)
  b1 : ∀ k : Fin 1024, I.b1 (ix2 0 k) = (L (Proc.devRef .tc main_arg18) : FVec Ideal S1024 .f32) (ix1 k)
  b2 : ∀ k : Fin 50000, I.b2 (ix2 0 ⟨k.val, by omega⟩) = (L (Proc.devRef .tc main_arg20) : FVec Ideal S50000 .f32) (ix1 k)
  ih : I.ih = (L (Proc.devRef .tc main_arg7) : FVec Ideal S4096x512 .f32)
  hh : I.hh = (L (Proc.devRef .tc main_arg8) : FVec Ideal S4096x1024 .f32)
  en : I.en = (L (Proc.devRef .tc main_arg4) : FVec Ideal S2048x2048 .f32)
  pv : I.pv = (L (Proc.devRef .tc main_arg17) : FVec Ideal S1024x3072 .f32)
  vo : I.vo = (L (Proc.devRef .tc main_arg19) : FVec Ideal S50000x1024 .f32)

variable {I : Inp Ideal} {L : Valuation τ sig (Elt Ideal)} (h : Fed I L)

include h

theorem gates (n : Fin 4096) : ((res_main_v12 L : FVec Ideal S1x4096 .f32) (ix2 0 n) : EReal) = gV I (ix2 0 n) := by
  rw [gV_at]
  simp only [h.x, h.h0, h.bg, h.ih, h.hh]
  unfold res_main_v12
  clean_types
  pointwise
  ac_rfl

theorem cell (n : Fin 1024) : ((res_main_v38 L : FVec Ideal S1x1024 .f32) (ix2 0 n) : EReal) = cV I (ix2 0 n) := by
  rw [cV_at, h.c0, ← gates h, ← gates h, ← gates h]
  unfold res_main_v38
  clean_types
  pointwise
  rfl

theorem hidden (n : Fin 1024) : ((res_main_v40 L : FVec Ideal S1x1024 .f32) (ix2 0 n) : EReal) = hV I (ix2 0 n) := by
  rw [hV_at, ← gates h, ← cell h]
  unfold res_main_v40
  clean_types
  pointwise
  rfl

theorem scores (n : Fin 2048) : ((res_main_v59 L : FVec Ideal S1x2048 .f32) (ix2 0 n) : EReal) = sc I n := by
  unfold sc
  rw [eV_at]
  simp only [sT_at, h.en, h.we, h.wd, h.bd, h.wi, h.bi, ← hidden h]
  unfold res_main_v59
  clean_types
  pointwise
  refine congrArg (· + _) (Finset.sum_congr rfl fun k _ => ?_)
  rw [mul_comm]
  refine congrArg (_ * Ideal.tanh ·) ?_
  ac_rfl

theorem top_score : Finset.univ.fold (max : EReal → EReal → EReal) (⊥ : EReal) (fun n : Fin 2048 => ((res_main_v59 L : FVec Ideal S1x2048 .f32) (ix2 0 n) : EReal)) = Finset.univ.sup (sc I) :=
  Finset.sup_congr rfl fun n _ => scores h n

theorem expd (n : Fin 2048) : ((res_main_v66 L : FVec Ideal S1x2048 .f32) (ix2 0 n) : EReal) = Ideal.exp (sc I n - Finset.univ.sup (sc I)) := by
  rw [← scores h, ← top_score h]
  unfold res_main_v66
  clean_types
  pointwise
  rw [minus_inf, max_eq_right bot_le]

variable (hw : ∀ k, IsR (I.wi (ix2 0 k))) (hb : IsR (I.bi (ix2 0 0)))

theorem weights (n : Fin 2048) : Ideal.div ((res_main_v66 L : FVec Ideal S1x2048 .f32) (ix2 0 n)) (∑ k : Fin 2048, ((res_main_v66 L : FVec Ideal S1x2048 .f32) (ix2 0 k) : EReal)) = soft (sc I) n := by
  unfold soft
  simp only [expd h]

include hw hb in
theorem logits (n : Fin 50000) : ((res_main_v80 L : FVec Ideal S1x50000 .f32) (ix2 0 n) : EReal) = vV I (ix2 0 ⟨n.val, by omega⟩) + I.b2 (ix2 0 ⟨n.val, by omega⟩) := by
  rw [vV_at]
  simp only [pV_at, ctx_at I hw hb, ← weights h, ← hidden h, h.b2, h.vo, h.pv, h.b1, h.en]
  unfold res_main_v80
  clean_types
  pointwise

include hw hb in
theorem expl (n : Fin 50000) : ((res_main_v87 L : FVec Ideal S1x50000 .f32) (ix2 0 n) : EReal) = Ideal.exp (vV I (ix2 0 ⟨n.val, by omega⟩) + I.b2 (ix2 0 ⟨n.val, by omega⟩) - Finset.univ.sup fun n : Fin 50000 => vV I (ix2 0 ⟨n.val, by omega⟩) + I.b2 (ix2 0 ⟨n.val, by omega⟩)) := by
  have e : Finset.univ.fold (max : EReal → EReal → EReal) (⊥ : EReal) (fun n : Fin 50000 => ((res_main_v80 L : FVec Ideal S1x50000 .f32) (ix2 0 n) : EReal)) = Finset.univ.sup fun n : Fin 50000 => vV I (ix2 0 ⟨n.val, by omega⟩) + I.b2 (ix2 0 ⟨n.val, by omega⟩) :=
    Finset.sup_congr rfl fun n _ => logits h hw hb n
  rw [← logits h hw hb, ← e]
  unfold res_main_v87
  clean_types
  pointwise
  rw [minus_inf, max_eq_right bot_le]

/-! ### The five results -/

theorem result5 : (addf (L (Proc.devRef .tc main_arg6)) (L (Proc.devRef .tc main_arg5)) : FVec Ideal S1x2048 .f32) = covV I := by
  funext j
  obtain ⟨n, rfl⟩ : ∃ n : Fin 2048, j = ix2 0 n := ⟨j 1, by idx_vars j; rw [Fin.fin_one_eq_zero j0]⟩
  rw [covV_at, h.cv, h.aw]
  rfl

include hw hb in
theorem result4 : (Host.divf (res_main_v66 L) (broadcastInDim S1x2048 ![0, 1] bcast_S1x1_S1x2048_0_1 (broadcastInDim S1x1 ![0] bcast_S1_S1x1_0 (Host.reduceAdd (res_main_v66 L) (constant S_ .f32 0x00000000#32) reducesTo_S1x2048_S1_d1 h_S_))) : FVec Ideal S1x2048 .f32) = aV I := by
  funext j
  obtain ⟨n, rfl⟩ : ∃ n : Fin 2048, j = ix2 0 n := ⟨j 1, by idx_vars j; rw [Fin.fin_one_eq_zero j0]⟩
  rw [aV_at I hw hb, ← weights h]
  clean_types
  pointwise

include hw hb in
theorem result1 : (Host.divf (res_main_v87 L) (broadcastInDim S1x50000 ![0, 1] bcast_S1x1_S1x50000_0_1 (broadcastInDim S1x1 ![0] bcast_S1_S1x1_0 (Host.reduceAdd (res_main_v87 L) (constant S_ .f32 0x00000000#32) reducesTo_S1x50000_S1_d1 h_S_))) : FVec Ideal S1x50000 .f32) = oV I := by
  funext j
  obtain ⟨n, rfl⟩ : ∃ n : Fin 50000, j = ix2 0 n := ⟨j 1, by idx_vars j; rw [Fin.fin_one_eq_zero j0]⟩
  unfold oV
  rw [Cert.KernelIdeal.Run.pay19_at _ _ (fun n => vV I (ix2 0 ⟨n.val, by omega⟩) + I.b2 (ix2 0 ⟨n.val, by omega⟩)) fun _ => rfl]
  simp only [← expl h hw hb]
  clean_types
  pointwise

theorem result2 (n : Fin 1024) : ((broadcastInDim S1x1x1024 ![1, 2] bcast_S1x1024_S1x1x1024_1_2 (res_main_v40 L) : FVec Ideal S1x1x1024 .f32) (ix3 0 0 n) : EReal) = hV I (ix2 0 n) := by
  rw [← hidden h]
  clean_types
  pointwise
theorem result3 (n : Fin 1024) : ((broadcastInDim S1x1x1024 ![1, 2] bcast_S1x1024_S1x1x1024_1_2 (res_main_v38 L) : FVec Ideal S1x1x1024 .f32) (ix3 0 0 n) : EReal) = cV I (ix2 0 n) := by
  rw [← cell h]
  clean_types
  pointwise

end Cert.Agree
-- ==== Proof.HostIn.lean ====
module

public import proofs.«01_k».proof.Proof.Inputs
public import proofs.«01_k».proof.Proof.Agree
public import Idealize.ShloMosaic.Lib.Claim

@[expose] public section

set_option maxRecDepth 16384

noncomputable section

/-! What the host hands the region, read at an index. -/

namespace Cert.KernelIdeal.Run

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

theorem host_x (k : Fin 512) : ((V m c main_v0 : FVec Ideal S1x512 .f32) (ix2 0 k) : EReal) = ((m ((c : Thread nD τ).loc main_arg0) : FVec Ideal S1x1x512 .f32) (ix3 0 0 k)) := by
  simp only [V, V0, hostOps0, hostOps0_1, hostOps0_2, List.flatten_cons, List.flatten_nil, List.append_nil, List.cons_append, List.nil_append, StableHlo.after_cons, StableHlo.after_nil]
  after_results_simp
  clean_types
  pointwise
theorem host_h0 (k : Fin 1024) : ((V m c main_v1 : FVec Ideal S1x1024 .f32) (ix2 0 k) : EReal) = ((m ((c : Thread nD τ).loc main_arg2) : FVec Ideal S1x1x1024 .f32) (ix3 0 0 k)) := by
  simp only [V, V0, hostOps0, hostOps0_1, hostOps0_2, List.flatten_cons, List.flatten_nil, List.append_nil, List.cons_append, List.nil_append, StableHlo.after_cons, StableHlo.after_nil]
  after_results_simp
  clean_types
  pointwise
theorem host_c0 (k : Fin 1024) : ((V m c main_v2 : FVec Ideal S1x1024 .f32) (ix2 0 k) : EReal) = ((m ((c : Thread nD τ).loc main_arg3) : FVec Ideal S1x1x1024 .f32) (ix3 0 0 k)) := by
  simp only [V, V0, hostOps0, hostOps0_1, hostOps0_2, List.flatten_cons, List.flatten_nil, List.append_nil, List.cons_append, List.nil_append, StableHlo.after_cons, StableHlo.after_nil]
  after_results_simp
  clean_types
  pointwise
theorem host_bg (k : Fin 4096) : ((V m c main_v6 : FVec Ideal S1x4096 .f32) (ix2 0 k) : EReal) = HAdd.hAdd (α := EReal) (β := EReal) (γ := EReal) ((m ((c : Thread nD τ).loc main_arg9) : FVec Ideal S4096 .f32) (ix1 k)) ((m ((c : Thread nD τ).loc main_arg10) : FVec Ideal S4096 .f32) (ix1 k)) := by
  simp only [V, V0, hostOps0, hostOps0_1, hostOps0_2, List.flatten_cons, List.flatten_nil, List.append_nil, List.cons_append, List.nil_append, StableHlo.after_cons, StableHlo.after_nil]
  after_results_simp
  clean_types
  pointwise
theorem host_we (k : Fin 1024) (q : Fin 2048) : ((V m c main_v7 : FVec Ideal S1024x2048 .bf16) (ix2 k q) : EReal) = ((m ((c : Thread nD τ).loc main_arg11) : FVec Ideal S1024x2048 .f32) (ix2 k q)) := by
  simp only [V, V0, hostOps0, hostOps0_1, hostOps0_2, List.flatten_cons, List.flatten_nil, List.append_nil, List.cons_append, List.nil_append, StableHlo.after_cons, StableHlo.after_nil]
  after_results_simp
  clean_types
  pointwise
theorem host_bd (k : Fin 1024) : ((V m c main_v9 : FVec Ideal S1x1024 .f32) (ix2 0 k) : EReal) = HAdd.hAdd (α := EReal) (β := EReal) (γ := EReal) ((m ((c : Thread nD τ).loc main_arg14) : FVec Ideal S1024 .f32) (ix1 k)) ((m ((c : Thread nD τ).loc main_arg12) : FVec Ideal S1024 .f32) (ix1 k)) := by
  simp only [V, V0, hostOps0, hostOps0_1, hostOps0_2, List.flatten_cons, List.flatten_nil, List.append_nil, List.cons_append, List.nil_append, StableHlo.after_cons, StableHlo.after_nil]
  after_results_simp
  clean_types
  pointwise
theorem host_bi  : ((V m c main_v10 : FVec Ideal S1x1 .f32) (ix2 0 0) : EReal) = ((m ((c : Thread nD τ).loc main_arg16) : FVec Ideal S1 .f32) (ix1 0)) := by
  simp only [V, V0, hostOps0, hostOps0_1, hostOps0_2, List.flatten_cons, List.flatten_nil, List.append_nil, List.cons_append, List.nil_append, StableHlo.after_cons, StableHlo.after_nil]
  after_results_simp
  clean_types
  pointwise
theorem host_b1 (k : Fin 1024) : ((V m c main_v11 : FVec Ideal S1x1024 .f32) (ix2 0 k) : EReal) = ((m ((c : Thread nD τ).loc main_arg18) : FVec Ideal S1024 .f32) (ix1 k)) := by
  simp only [V, V0, hostOps0, hostOps0_1, hostOps0_2, List.flatten_cons, List.flatten_nil, List.append_nil, List.cons_append, List.nil_append, StableHlo.after_cons, StableHlo.after_nil]
  after_results_simp
  clean_types
  pointwise
theorem host_b2 (k : Fin 50000) : ((V m c main_v4 : FVec Ideal S1x50688 .f32) (ix2 0 ⟨k.val, by omega⟩) : EReal) = ((m ((c : Thread nD τ).loc main_arg20) : FVec Ideal S50000 .f32) (ix1 k)) := by
  simp only [V, V0, hostOps0, hostOps0_1, hostOps0_2, List.flatten_cons, List.flatten_nil, List.append_nil, List.cons_append, List.nil_append, StableHlo.after_cons, StableHlo.after_nil]
  after_results_simp
  clean_types
  pointwise
  generalize ((StableHlo.TRef.of main_call0_v0 _ _ _).ofBuf _) = v
  show pad (s := S1x50000) S1x50688 ![0, 0] ![0, 688] ![0, 0] (fun i => (m (c, Proc.tc.devRef main_arg20) : FVec Ideal S50000 .f32) (ix1 (i 1))) v pads_S1x50000_S1x50688_000_06880 h_S_ (ix2 0 ⟨k.val, _⟩) = _
  pointwise

set_option maxHeartbeats 4000000 in
/-- The region is fed from the reference's arguments where the two programs are launched on the same ones. -/
theorem fed (m' : (ℓ : Loc Cert.ReferenceIdeal.nD Cert.ReferenceIdeal.τ Cert.ReferenceIdeal.sig) → Buf (Elt Ideal) ℓ)
    (h : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)
      ∧ m' ((c.tc : Thread Cert.ReferenceIdeal.nD Cert.ReferenceIdeal.τ).loc Cert.ReferenceIdeal.main_arg16) = m ((c.tc : Thread nD τ).loc main_arg16)
      ∧ m' ((c.tc : Thread Cert.ReferenceIdeal.nD Cert.ReferenceIdeal.τ).loc Cert.ReferenceIdeal.main_arg17) = m ((c.tc : Thread nD τ).loc main_arg17)
      ∧ m' ((c.tc : Thread Cert.ReferenceIdeal.nD Cert.ReferenceIdeal.τ).loc Cert.ReferenceIdeal.main_arg18) = m ((c.tc : Thread nD τ).loc main_arg18)
      ∧ m' ((c.tc : Thread Cert.ReferenceIdeal.nD Cert.ReferenceIdeal.τ).loc Cert.ReferenceIdeal.main_arg19) = m ((c.tc : Thread nD τ).loc main_arg19)
      ∧ m' ((c.tc : Thread Cert.ReferenceIdeal.nD Cert.ReferenceIdeal.τ).loc Cert.ReferenceIdeal.main_arg20) = m ((c.tc : Thread nD τ).loc main_arg20)) :
    Cert.Agree.Fed (inp m c) (StableHlo.launchContents m' c) := by
  obtain ⟨h0, h1, h2, h3, h4, h5, h6, h7, h8, h9, h10, h11, h12, h13, h14, h15, h16, h17, h18, h19, h20⟩ := h
  refine { x := ?_, h0 := ?_, c0 := ?_, aw := ?_, cv := ?_, bg := ?_, we := ?_, wd := ?_, bd := ?_, wi := ?_, bi := ?_, b1 := ?_, b2 := ?_, ih := ?_, hh := ?_, en := ?_, pv := ?_, vo := ?_ }
  · exact fun k => (congrFun (whole_0 m c) _).trans ((host_x m c k).trans (congrFun h0 _).symm)
  · exact fun k => (congrFun (whole_1 m c) _).trans ((host_h0 m c k).trans (congrFun h2 _).symm)
  · exact fun k => (congrFun (whole_2 m c) _).trans ((host_c0 m c k).trans (congrFun h3 _).symm)
  · exact (whole_3 m c).trans ((reaches m c main_arg5 (by decide)).trans h5.symm)
  · exact (whole_4 m c).trans ((reaches m c main_arg6 (by decide)).trans h6.symm)
  · exact fun k => (congrFun (whole_5 m c) _).trans ((host_bg m c k).trans (congrArg₂ (HAdd.hAdd (α := EReal) (β := EReal) (γ := EReal)) (congrFun h9 _).symm (congrFun h10 _).symm))
  · exact fun k q => (congrFun (whole_6 m c) _).trans ((host_we m c k q).trans (congrFun h11 _).symm)
  · exact (whole_7 m c).trans ((reaches m c main_arg13 (by decide)).trans h13.symm)
  · exact fun k => (congrFun (whole_8 m c) _).trans ((host_bd m c k).trans (congrArg₂ (HAdd.hAdd (α := EReal) (β := EReal) (γ := EReal)) (congrFun h14 _).symm (congrFun h12 _).symm))
  · exact (whole_9 m c).trans ((reaches m c main_arg15 (by decide)).trans h15.symm)
  · exact (congrFun (whole_10 m c) _).trans ((host_bi m c).trans (congrFun h16 _).symm)
  · exact fun k => (congrFun (whole_11 m c) _).trans ((host_b1 m c k).trans (congrFun h18 _).symm)
  · exact fun k => (congrFun (whole_12 m c) _).trans ((host_b2 m c k).trans (congrFun h20 _).symm)
  · exact (reaches m c main_arg7 (by decide)).trans h7.symm
  · exact (reaches m c main_arg8 (by decide)).trans h8.symm
  · exact (reaches m c main_arg4 (by decide)).trans h4.symm
  · exact (reaches m c main_arg17 (by decide)).trans h17.symm
  · exact (reaches m c main_arg19 (by decide)).trans h19.symm

end Cert.KernelIdeal.Run
-- ==== Proof.Algebra.lean ====
module

public import proofs.«01_k».proof.Proof.Frames
public import proofs.«01_k».proof.Proof.Outputs
public import proofs.«01_k».proof.Proof.HostIn
public import proofs.«01_k».proof.Proof.Gen.Pre_finite_scores

@[expose] public section

set_option maxRecDepth 16384

noncomputable section

/-! The kernel and the reference, over the extended reals, end with the same five results. -/

namespace Cert.Algebra

open Idealize.ShloMosaic Idealize.ShloMosaic.TcCoe Idealize.SL.Sem
open Cert.KernelIdeal.Run
open Cert.Softmax (IsR)

local instance : Cert.Pre_finite_scores.Facts := Cert.Pre_finite_scores.Gen.facts

theorem infinity : Ideal.ofBits .f32 0x7F800000#32 = ⊤ := by simp [Ideal.ofBits, Ideal.ieee]

/-- A number whose magnitude is below infinity is neither of the two infinities. -/
theorem isR_of_abs {x : EReal} (h : max x (-x) < ⊤) : IsR x := by
  refine ⟨fun e => ?_, fun e => ?_⟩
  · subst e; simp at h
  · subst e; simp at h

/-- A bit that is set was decided true. -/
theorem of_bool {p : Prop} [Decidable p] (h : BitVec.ofBool (decide p) = 1#1) : p := by
  by_contra hp
  simp [hp] at h

/-- Of a conjunction of bits that is set, both are. -/
theorem of_bit {p : Prop} [Decidable p] {b : BitVec 1} (h : IntOp.andi (BitVec.ofBool (decide p)) b = 1#1) : p ∧ b = 1#1 := by
  by_cases hp : p
  · refine ⟨hp, ?_⟩
    rw [decide_eq_true hp] at h
    clear hp
    revert b
    decide
  · rw [decide_eq_false hp] at h
    exfalso
    revert b
    decide

/-- What the precondition says of the scoring weights and their bias. -/
theorem finite (m : (ℓ : Loc Cert.KernelIdeal.nD Cert.KernelIdeal.τ Cert.KernelIdeal.sig) → Buf (Elt Ideal) ℓ) (h : Cert.Pre_KernelIdeal_finite_scores m)
    (c : Dev Cert.KernelIdeal.nD) (k : Fin 1024) :
    IsR ((m ((c.tc : Thread Cert.KernelIdeal.nD Cert.KernelIdeal.τ).loc Cert.KernelIdeal.main_arg15) : FVec Ideal Cert.KernelIdeal.S1x1024 .f32) (ix2 0 k))
      ∧ IsR ((m ((c.tc : Thread Cert.KernelIdeal.nD Cert.KernelIdeal.τ).loc Cert.KernelIdeal.main_arg16) : FVec Ideal Cert.KernelIdeal.S1 .f32) (ix1 0)) := by
  have h1 := congrFun (h c) (ix2 0 k)
  unfold Cert.Pre_finite_scores.fn at h1
  generalize m ((c.tc : Thread Cert.KernelIdeal.nD Cert.KernelIdeal.τ).loc Cert.KernelIdeal.main_arg15) = a at h1 ⊢
  generalize m ((c.tc : Thread Cert.KernelIdeal.nD Cert.KernelIdeal.τ).loc Cert.KernelIdeal.main_arg16) = b at h1 ⊢
  revert h1
  clean_types
  pointwise
  intro h1
  rw [infinity] at h1
  obtain ⟨ha, hr⟩ := of_bit h1
  exact ⟨isR_of_abs ha, isR_of_abs (of_bool hr)⟩

/-- An index of a row under two axes of extent one is its place in the row. -/
theorem along (j : Cert.KernelIdeal.S1x1x1024.Idx) : ∃ n : Fin 1024, j = ix3 0 0 n :=
  ⟨j 2, by idx_vars j; rw [Fin.fin_one_eq_zero j0, Fin.fin_one_eq_zero j1]⟩

theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' hp hm
  have hF : ∀ c, Cert.Agree.Fed (inp m c) (StableHlo.launchContents m' c) := fun c => fed m c m' (hm c)
  have hw : ∀ c k, IsR ((inp m c).wi (ix2 0 k)) := fun c k => by
    have e : (inp m c).wi = _ := (whole_9 m c).trans (reaches m c Cert.KernelIdeal.main_arg15 (by decide))
    rw [e]
    exact (finite m hp c k).1
  have hb : ∀ c, IsR ((inp m c).bi (ix2 0 0)) := fun c => by
    have e : (inp m c).bi (ix2 0 0) = _ := (congrFun (whole_10 m c) _).trans (host_bi m c)
    rw [e]
    exact (finite m hp c 0).2
  refine ⟨fun c => oV (inp m c), fun c j => hV (inp m c) (ix2 0 (j 2)), fun c j => cV (inp m c) (ix2 0 (j 2)), fun c => aV (inp m c), fun c => covV (inp m c), ?_, ?_⟩
  · refine (θ_run _ _ _).mono (fun r h c => ?_) (run_all m g)
    obtain ⟨e0, e1, e2, e3, e4⟩ := results m c h.1
    refine ⟨e0, ?_, ?_, e3, e4, Cert.Frames.spelt (P := fun b =>
      r.2.mem ((c.tc : Thread Cert.KernelIdeal.nD Cert.KernelIdeal.τ).loc b) = m ((c.tc : Thread Cert.KernelIdeal.nD Cert.KernelIdeal.τ).loc b)) (arg_kept m h.1 c)⟩
    · funext j
      obtain ⟨n, rfl⟩ := along j
      exact e1 n
    · funext j
      obtain ⟨n, rfl⟩ := along j
      exact e2 n
  · refine (θ_run _ _ _).mono (fun r h c => ?_) (Cert.ReferenceIdeal.Value.run m' g')
    obtain ⟨e0, e1, e2, e3, e4, er⟩ := h c
    refine ⟨e0.trans (Cert.Agree.result1 (hF c) (hw c) (hb c)), e1.trans ?_, e2.trans ?_, e3.trans (Cert.Agree.result4 (hF c) (hw c) (hb c)),
      e4.trans (Cert.Agree.result5 (hF c)), er⟩
    · funext j
      obtain ⟨n, rfl⟩ := along j
      exact Cert.Agree.result2 (hF c) n
    · funext j
      obtain ⟨n, rfl⟩ := along j
      exact Cert.Agree.result3 (hF c) n

end Cert.Algebra
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import proofs.«01_k».proof.Proof.Gen.Pre_finite_scores
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_scores.Gen.facts,
  Cert.Frames.kernel, Cert.Frames.ideal, fun m g _ => Cert.Frames.ideal m g trivial, Cert.Frames.reference,
  fun m g _ => Cert.Frames.reference m g trivial, trivial, Cert.Algebra.algebraic⟩

end Cert.Proof

end
